-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def preserves_Kernel_KernelIdeal : Prop :=
  IdealRules.named_const.Statement Cert.KernelIdeal.κ "inv_scale" .f32 0x3D3504F3#32 (((Real.sqrt 512)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v287) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x64x1024 : Shape := ⟨3, ![16, 64, 1024]⟩
abbrev S16x2 : Shape := ⟨2, ![16, 2]⟩
abbrev S512x33 : Shape := ⟨2, ![512, 33]⟩
abbrev S512 : Shape := ⟨1, ![512]⟩
abbrev S512x512 : Shape := ⟨2, ![512, 512]⟩
abbrev S1024x8192 : Shape := ⟨2, ![1024, 8192]⟩
abbrev S1024 : Shape := ⟨1, ![1024]⟩
abbrev S512x1024 : Shape := ⟨2, ![512, 1024]⟩
abbrev S64x64 : Shape := ⟨2, ![64, 64]⟩
abbrev S8x512x512 : Shape := ⟨3, ![8, 512, 512]⟩
abbrev S8x512 : Shape := ⟨2, ![8, 512]⟩
abbrev S1024x512 : Shape := ⟨2, ![1024, 512]⟩
abbrev S16x64x16 : Shape := ⟨3, ![16, 64, 16]⟩
abbrev S_ : Shape := ⟨0, ![]⟩

class Facts : Prop where
  slices_S16x64x1024_S16x64x16_0_0_0 : S16x64x1024.Slices ![0, 0, 0] S16x64x16
  bcast_S_S16x64x16 : S_.BroadcastsInDim S16x64x16 (![] : Fin 0 → Fin S16x64x16.rank)
  reducesTo_S16x64x16_S_d0_1_2 : S16x64x16.ReducesTo [0, 1, 2] S_
  h_S_ : 0 < S_.numel
  bcast_S_S16x2 : S_.BroadcastsInDim S16x2 (![] : Fin 0 → Fin S16x2.rank)
  reducesTo_S16x2_S_d0_1 : S16x2.ReducesTo [0, 1] S_
  bcast_S_S512x33 : S_.BroadcastsInDim S512x33 (![] : Fin 0 → Fin S512x33.rank)
  reducesTo_S512x33_S_d0_1 : S512x33.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S1024x8192 : S_.BroadcastsInDim S1024x8192 (![] : Fin 0 → Fin S1024x8192.rank)
  reducesTo_S1024x8192_S_d0_1 : S1024x8192.ReducesTo [0, 1] S_
  bcast_S_S1024 : S_.BroadcastsInDim S1024 (![] : Fin 0 → Fin S1024.rank)
  reducesTo_S1024_S_d0 : S1024.ReducesTo [0] S_
  bcast_S_S512x1024 : S_.BroadcastsInDim S512x1024 (![] : Fin 0 → Fin S512x1024.rank)
  reducesTo_S512x1024_S_d0_1 : S512x1024.ReducesTo [0, 1] S_
  bcast_S_S8x512x512 : S_.BroadcastsInDim S8x512x512 (![] : Fin 0 → Fin S8x512x512.rank)
  reducesTo_S8x512x512_S_d0_1_2 : S8x512x512.ReducesTo [0, 1, 2] S_
  bcast_S_S8x512 : S_.BroadcastsInDim S8x512 (![] : Fin 0 → Fin S8x512.rank)
  reducesTo_S8x512_S_d0_1 : S8x512.ReducesTo [0, 1] S_

variable [Facts]

def fn_part4 {F : FTy → Type} [FloatOps F] (main_v64 : IVec S_ 1) (main_v67 : IVec S8x512 1) (main_c_25 : IVec S_ 1) : IVec S_ 1 :=
  let main_v68 : IVec S_ 1 := (fun x v => Host.reduce IntOp.andi x v reducesTo_S8x512_S_d0_1 h_S_) main_v67 main_c_25
  let main_v69 : IVec S_ 1 := andi main_v64 main_v68
  main_v69

def fn_part3 {F : FTy → Type} [FloatOps F] (main_arg12 : FVec F S8x512x512 .f32) (main_arg18 : FVec F S8x512 .f32) (main_arg19 : FVec F S8x512 .f32) (main_v49 : IVec S_ 1) (main_v50 : FVec F S8x512x512 .f32) (main_cst_18 : FVec F S_ .f32) : IVec S_ 1 :=
  let main_v51 : FVec F S8x512x512 .f32 := broadcastInDim S8x512x512 ![] bcast_S_S8x512x512 main_cst_18
  let main_v52 : IVec S8x512x512 1 := cmpf .olt main_v50 main_v51
  let main_c_19 : IVec S_ 1 := constantI S_ 1 1#1
  let main_v53 : IVec S_ 1 := (fun x v => Host.reduce IntOp.andi x v reducesTo_S8x512x512_S_d0_1_2 h_S_) main_v52 main_c_19
  let main_v54 : IVec S_ 1 := andi main_v49 main_v53
  let main_v55 : FVec F S8x512x512 .f32 := Host.absf main_arg12
  let main_cst_20 : FVec F S_ .f32 := constant S_ .f32 0x7F800000#32
  let main_v56 : FVec F S8x512x512 .f32 := broadcastInDim S8x512x512 ![] bcast_S_S8x512x512 main_cst_20
  let main_v57 : IVec S8x512x512 1 := cmpf .olt main_v55 main_v56
  let main_c_21 : IVec S_ 1 := constantI S_ 1 1#1
  let main_v58 : IVec S_ 1 := (fun x v => Host.reduce IntOp.andi x v reducesTo_S8x512x512_S_d0_1_2 h_S_) main_v57 main_c_21
  let main_v59 : IVec S_ 1 := andi main_v54 main_v58
  let main_v60 : FVec F S8x512 .f32 := Host.absf main_arg18
  let main_cst_22 : FVec F S_ .f32 := constant S_ .f32 0x7F800000#32
  let main_v61 : FVec F S8x512 .f32 := broadcastInDim S8x512 ![] bcast_S_S8x512 main_cst_22
  let main_v62 : IVec S8x512 1 := cmpf .olt main_v60 main_v61
  let main_c_23 : IVec S_ 1 := constantI S_ 1 1#1
  let main_v63 : IVec S_ 1 := (fun x v => Host.reduce IntOp.andi x v reducesTo_S8x512_S_d0_1 h_S_) main_v62 main_c_23
  let main_v64 : IVec S_ 1 := andi main_v59 main_v63
  let main_v65 : FVec F S8x512 .f32 := Host.absf main_arg19
  let main_cst_24 : FVec F S_ .f32 := constant S_ .f32 0x7F800000#32
  let main_v66 : FVec F S8x512 .f32 := broadcastInDim S8x512 ![] bcast_S_S8x512 main_cst_24
  let main_v67 : IVec S8x512 1 := cmpf .olt main_v65 main_v66
  let main_c_25 : IVec S_ 1 := constantI S_ 1 1#1
  fn_part4 (F := F) main_v64 main_v67 main_c_25

def fn_part2 {F : FTy → Type} [FloatOps F] (main_arg7 : FVec F S1024 .f32) (main_arg8 : FVec F S512x1024 .f32) (main_arg9 : FVec F S512 .f32) (main_arg11 : FVec F S8x512x512 .f32) (main_arg12 : FVec F S8x512x512 .f32) (main_arg18 : FVec F S8x512 .f32) (main_arg19 : FVec F S8x512 .f32) (main_v29 : IVec S_ 1) (main_v33 : IVec S_ 1) : IVec S_ 1 :=
  let main_v34 : IVec S_ 1 := andi main_v29 main_v33
  let main_v35 : FVec F S1024 .f32 := Host.absf main_arg7
  let main_cst_12 : FVec F S_ .f32 := constant S_ .f32 0x7F800000#32
  let main_v36 : FVec F S1024 .f32 := broadcastInDim S1024 ![] bcast_S_S1024 main_cst_12
  let main_v37 : IVec S1024 1 := cmpf .olt main_v35 main_v36
  let main_c_13 : IVec S_ 1 := constantI S_ 1 1#1
  let main_v38 : IVec S_ 1 := (fun x v => Host.reduce IntOp.andi x v reducesTo_S1024_S_d0 h_S_) main_v37 main_c_13
  let main_v39 : IVec S_ 1 := andi main_v34 main_v38
  let main_v40 : FVec F S512x1024 .f32 := Host.absf main_arg8
  let main_cst_14 : FVec F S_ .f32 := constant S_ .f32 0x7F800000#32
  let main_v41 : FVec F S512x1024 .f32 := broadcastInDim S512x1024 ![] bcast_S_S512x1024 main_cst_14
  let main_v42 : IVec S512x1024 1 := cmpf .olt main_v40 main_v41
  let main_c_15 : IVec S_ 1 := constantI S_ 1 1#1
  let main_v43 : IVec S_ 1 := (fun x v => Host.reduce IntOp.andi x v reducesTo_S512x1024_S_d0_1 h_S_) main_v42 main_c_15
  let main_v44 : IVec S_ 1 := andi main_v39 main_v43
  let main_v45 : FVec F S512 .f32 := Host.absf main_arg9
  let main_cst_16 : FVec F S_ .f32 := constant S_ .f32 0x7F800000#32
  let main_v46 : FVec F S512 .f32 := broadcastInDim S512 ![] bcast_S_S512 main_cst_16
  let main_v47 : IVec S512 1 := cmpf .olt main_v45 main_v46
  let main_c_17 : IVec S_ 1 := constantI S_ 1 1#1
  let main_v48 : IVec S_ 1 := (fun x v => Host.reduce IntOp.andi x v reducesTo_S512_S_d0 h_S_) main_v47 main_c_17
  let main_v49 : IVec S_ 1 := andi main_v44 main_v48
  let main_v50 : FVec F S8x512x512 .f32 := Host.absf main_arg11
  let main_cst_18 : FVec F S_ .f32 := constant S_ .f32 0x7F800000#32
  fn_part3 (F := F) main_arg12 main_arg18 main_arg19 main_v49 main_v50 main_cst_18

def fn_part1 {F : FTy → Type} [FloatOps F] (main_arg4 : FVec F S512x512 .f32) (main_arg5 : FVec F S512 .f32) (main_arg6 : FVec F S1024x8192 .f32) (main_arg7 : FVec F S1024 .f32) (main_arg8 : FVec F S512x1024 .f32) (main_arg9 : FVec F S512 .f32) (main_arg11 : FVec F S8x512x512 .f32) (main_arg12 : FVec F S8x512x512 .f32) (main_arg18 : FVec F S8x512 .f32) (main_arg19 : FVec F S8x512 .f32) (main_v14 : IVec S_ 1) (main_v15 : FVec F S512 .f32) (main_v16 : FVec F S512 .f32) : IVec S_ 1 :=
  let main_v17 : IVec S512 1 := cmpf .olt main_v15 main_v16
  let main_c_5 : IVec S_ 1 := constantI S_ 1 1#1
  let main_v18 : IVec S_ 1 := (fun x v => Host.reduce IntOp.andi x v reducesTo_S512_S_d0 h_S_) main_v17 main_c_5
  let main_v19 : IVec S_ 1 := andi main_v14 main_v18
  let main_v20 : FVec F S512x512 .f32 := Host.absf main_arg4
  let main_cst_6 : FVec F S_ .f32 := constant S_ .f32 0x7F800000#32
  let main_v21 : FVec F S512x512 .f32 := broadcastInDim S512x512 ![] bcast_S_S512x512 main_cst_6
  let main_v22 : IVec S512x512 1 := cmpf .olt main_v20 main_v21
  let main_c_7 : IVec S_ 1 := constantI S_ 1 1#1
  let main_v23 : IVec S_ 1 := (fun x v => Host.reduce IntOp.andi x v reducesTo_S512x512_S_d0_1 h_S_) main_v22 main_c_7
  let main_v24 : IVec S_ 1 := andi main_v19 main_v23
  let main_v25 : FVec F S512 .f32 := Host.absf main_arg5
  let main_cst_8 : FVec F S_ .f32 := constant S_ .f32 0x7F800000#32
  let main_v26 : FVec F S512 .f32 := broadcastInDim S512 ![] bcast_S_S512 main_cst_8
  let main_v27 : IVec S512 1 := cmpf .olt main_v25 main_v26
  let main_c_9 : IVec S_ 1 := constantI S_ 1 1#1
  let main_v28 : IVec S_ 1 := (fun x v => Host.reduce IntOp.andi x v reducesTo_S512_S_d0 h_S_) main_v27 main_c_9
  let main_v29 : IVec S_ 1 := andi main_v24 main_v28
  let main_v30 : FVec F S1024x8192 .f32 := Host.absf main_arg6
  let main_cst_10 : FVec F S_ .f32 := constant S_ .f32 0x7F800000#32
  let main_v31 : FVec F S1024x8192 .f32 := broadcastInDim S1024x8192 ![] bcast_S_S1024x8192 main_cst_10
  let main_v32 : IVec S1024x8192 1 := cmpf .olt main_v30 main_v31
  let main_c_11 : IVec S_ 1 := constantI S_ 1 1#1
  let main_v33 : IVec S_ 1 := (fun x v => Host.reduce IntOp.andi x v reducesTo_S1024x8192_S_d0_1 h_S_) main_v32 main_c_11
  fn_part2 (F := F) main_arg7 main_arg8 main_arg9 main_arg11 main_arg12 main_arg18 main_arg19 main_v29 main_v33

def fn {F : FTy → Type} [FloatOps F] (main_arg0 : FVec F S16x64x1024 .f32) (main_arg1 : FVec F S16x2 .f32) (main_arg2 : FVec F S512x33 .f32) (main_arg3 : FVec F S512 .f32) (main_arg4 : FVec F S512x512 .f32) (main_arg5 : FVec F S512 .f32) (main_arg6 : FVec F S1024x8192 .f32) (main_arg7 : FVec F S1024 .f32) (main_arg8 : FVec F S512x1024 .f32) (main_arg9 : FVec F S512 .f32) (main_arg10 : FVec F S64x64 .f32) (main_arg11 : FVec F S8x512x512 .f32) (main_arg12 : FVec F S8x512x512 .f32) (main_arg13 : FVec F S8x512x512 .f32) (main_arg14 : FVec F S8x512x512 .f32) (main_arg15 : FVec F S8x512 .f32) (main_arg16 : FVec F S8x512x512 .f32) (main_arg17 : FVec F S8x512 .f32) (main_arg18 : FVec F S8x512 .f32) (main_arg19 : FVec F S8x512 .f32) (main_arg20 : FVec F S1024x512 .f32) (main_arg21 : FVec F S1024 .f32) : IVec S_ 1 :=
  let main_v0 : FVec F S16x64x16 .f32 := (extractStridedSlice S16x64x16 ![0, 0, 0] · slices_S16x64x1024_S16x64x16_0_0_0) main_arg0
  let main_v1 : FVec F S16x64x16 .f32 := Host.absf main_v0
  let main_cst : FVec F S_ .f32 := constant S_ .f32 0x7F800000#32
  let main_v2 : FVec F S16x64x16 .f32 := broadcastInDim S16x64x16 ![] bcast_S_S16x64x16 main_cst
  let main_v3 : IVec S16x64x16 1 := cmpf .olt main_v1 main_v2
  let main_c : IVec S_ 1 := constantI S_ 1 1#1
  let main_v4 : IVec S_ 1 := (fun x v => Host.reduce IntOp.andi x v reducesTo_S16x64x16_S_d0_1_2 h_S_) main_v3 main_c
  let main_v5 : FVec F S16x2 .f32 := Host.absf main_arg1
  let main_cst_0 : FVec F S_ .f32 := constant S_ .f32 0x7F800000#32
  let main_v6 : FVec F S16x2 .f32 := broadcastInDim S16x2 ![] bcast_S_S16x2 main_cst_0
  let main_v7 : IVec S16x2 1 := cmpf .olt main_v5 main_v6
  let main_c_1 : IVec S_ 1 := constantI S_ 1 1#1
  let main_v8 : IVec S_ 1 := (fun x v => Host.reduce IntOp.andi x v reducesTo_S16x2_S_d0_1 h_S_) main_v7 main_c_1
  let main_v9 : IVec S_ 1 := andi main_v4 main_v8
  let main_v10 : FVec F S512x33 .f32 := Host.absf main_arg2
  let main_cst_2 : FVec F S_ .f32 := constant S_ .f32 0x7F800000#32
  let main_v11 : FVec F S512x33 .f32 := broadcastInDim S512x33 ![] bcast_S_S512x33 main_cst_2
  let main_v12 : IVec S512x33 1 := cmpf .olt main_v10 main_v11
  let main_c_3 : IVec S_ 1 := constantI S_ 1 1#1
  let main_v13 : IVec S_ 1 := (fun x v => Host.reduce IntOp.andi x v reducesTo_S512x33_S_d0_1 h_S_) main_v12 main_c_3
  let main_v14 : IVec S_ 1 := andi main_v9 main_v13
  let main_v15 : FVec F S512 .f32 := Host.absf main_arg3
  let main_cst_4 : FVec F S_ .f32 := constant S_ .f32 0x7F800000#32
  let main_v16 : FVec F S512 .f32 := broadcastInDim S512 ![] bcast_S_S512 main_cst_4
  fn_part1 (F := F) main_arg4 main_arg5 main_arg6 main_arg7 main_arg8 main_arg9 main_arg11 main_arg12 main_arg18 main_arg19 main_v14 main_v15 main_v16
-- ==== Kernel.lean ====
abbrev S16x64x1024 : Shape := ⟨3, ![16, 64, 1024]⟩
abbrev S16x2 : Shape := ⟨2, ![16, 2]⟩
abbrev S512x33 : Shape := ⟨2, ![512, 33]⟩
abbrev S512 : Shape := ⟨1, ![512]⟩
abbrev S512x512 : Shape := ⟨2, ![512, 512]⟩
abbrev S1024x8192 : Shape := ⟨2, ![1024, 8192]⟩
abbrev S1024 : Shape := ⟨1, ![1024]⟩
abbrev S512x1024 : Shape := ⟨2, ![512, 1024]⟩
abbrev S64x64 : Shape := ⟨2, ![64, 64]⟩
abbrev S8x512x512 : Shape := ⟨3, ![8, 512, 512]⟩
abbrev S8x512 : Shape := ⟨2, ![8, 512]⟩
abbrev S1024x512 : Shape := ⟨2, ![1024, 512]⟩
abbrev S16 : Shape := ⟨1, ![16]⟩
abbrev S_ : Shape := ⟨0, ![]⟩
abbrev S16x1 : Shape := ⟨2, ![16, 1]⟩
abbrev S2x16 : Shape := ⟨2, ![2, 16]⟩
abbrev S16x16 : Shape := ⟨2, ![16, 16]⟩
abbrev S16x32 : Shape := ⟨2, ![16, 32]⟩
abbrev S16x64x16 : Shape := ⟨3, ![16, 64, 16]⟩
abbrev S1024x16 : Shape := ⟨2, ![1024, 16]⟩
abbrev S512x1 : Shape := ⟨2, ![512, 1]⟩
abbrev S1x512 : Shape := ⟨2, ![1, 512]⟩
abbrev S512x32 : Shape := ⟨2, ![512, 32]⟩
abbrev S1x1024 : Shape := ⟨2, ![1, 1024]⟩
abbrev S16x512 : Shape := ⟨2, ![16, 512]⟩
abbrev S1024x1024 : Shape := ⟨2, ![1024, 1024]⟩
abbrev S1024x1 : Shape := ⟨2, ![1024, 1]⟩
abbrev S8x1x512 : Shape := ⟨3, ![8, 1, 512]⟩
abbrev S1x512x512 : Shape := ⟨3, ![1, 512, 512]⟩
abbrev S1x1x512 : Shape := ⟨3, ![1, 1, 512]⟩
abbrev S1024x64 : Shape := ⟨2, ![1024, 64]⟩
abbrev S64x512 : Shape := ⟨2, ![64, 512]⟩

abbrev nBuf : Space → Nat
  | .hbm => 105
  | .vmem => 76
  | .smem => 0
  | _ => 0

abbrev bufTy : (tb : Table) → Fin (tcTables nBuf tb) → BufTy
  | .hbm, ⟨0, _⟩ => ⟨S16x64x1024, .f32⟩
  | .hbm, ⟨1, _⟩ => ⟨S16x2, .f32⟩
  | .hbm, ⟨2, _⟩ => ⟨S512x33, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S1024x8192, .f32⟩
  | .hbm, ⟨7, _⟩ => ⟨S1024, .f32⟩
  | .hbm, ⟨8, _⟩ => ⟨S512x1024, .f32⟩
  | .hbm, ⟨9, _⟩ => ⟨S512, .f32⟩
  | .hbm, ⟨10, _⟩ => ⟨S64x64, .f32⟩
  | .hbm, ⟨11, _⟩ => ⟨S8x512x512, .f32⟩
  | .hbm, ⟨12, _⟩ => ⟨S8x512x512, .f32⟩
  | .hbm, ⟨13, _⟩ => ⟨S8x512x512, .f32⟩
  | .hbm, ⟨14, _⟩ => ⟨S8x512x512, .f32⟩
  | .hbm, ⟨15, _⟩ => ⟨S8x512, .f32⟩
  | .hbm, ⟨16, _⟩ => ⟨S8x512x512, .f32⟩
  | .hbm, ⟨17, _⟩ => ⟨S8x512, .f32⟩
  | .hbm, ⟨18, _⟩ => ⟨S8x512, .f32⟩
  | .hbm, ⟨19, _⟩ => ⟨S8x512, .f32⟩
  | .hbm, ⟨20, _⟩ => ⟨S1024x512, .f32⟩
  | .hbm, ⟨21, _⟩ => ⟨S1024, .f32⟩
  | .hbm, ⟨22, _⟩ => ⟨S16, .i32⟩
  | .hbm, ⟨23, _⟩ => ⟨S_, .i32⟩
  | .hbm, ⟨24, _⟩ => ⟨S_, .i32⟩
  | .hbm, ⟨25, _⟩ => ⟨S16, .i32⟩
  | .hbm, ⟨26, _⟩ => ⟨S16, .i32⟩
  | .hbm, ⟨27, _⟩ => ⟨S16, .i32⟩
  | .hbm, ⟨28, _⟩ => ⟨S_, .i32⟩
  | .hbm, ⟨29, _⟩ => ⟨S16, .i32⟩
  | .hbm, ⟨30, _⟩ => ⟨S16, .i1⟩
  | .hbm, ⟨31, _⟩ => ⟨S16, .i32⟩
  | .hbm, ⟨32, _⟩ => ⟨S16, .i32⟩
  | .hbm, ⟨33, _⟩ => ⟨S_, .i32⟩
  | .hbm, ⟨34, _⟩ => ⟨S16, .i32⟩
  | .hbm, ⟨35, _⟩ => ⟨S16, .i1⟩
  | .hbm, ⟨36, _⟩ => ⟨S16, .i1⟩
  | .hbm, ⟨37, _⟩ => ⟨S_, .i32⟩
  | .hbm, ⟨38, _⟩ => ⟨S16, .i32⟩
  | .hbm, ⟨39, _⟩ => ⟨S16, .i32⟩
  | .hbm, ⟨40, _⟩ => ⟨S16, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i1⟩
  | .hbm, ⟨45, _⟩ => ⟨S_, .i32⟩
  | .hbm, ⟨46, _⟩ => ⟨S_, .i32⟩
  | .hbm, ⟨47, _⟩ => ⟨S16, .i32⟩
  | .hbm, ⟨48, _⟩ => ⟨S16, .i32⟩
  | .hbm, ⟨49, _⟩ => ⟨S_, .i32⟩
  | .hbm, ⟨50, _⟩ => ⟨S16, .i32⟩
  | .hbm, ⟨51, _⟩ => ⟨S16, .i1⟩
  | .hbm, ⟨52, _⟩ => ⟨S_, .i32⟩
  | .hbm, ⟨53, _⟩ => ⟨S16, .i32⟩
  | .hbm, ⟨54, _⟩ => ⟨S16, .i1⟩
  | .hbm, ⟨55, _⟩ => ⟨S_, .i32⟩
  | .hbm, ⟨56, _⟩ => ⟨S_, .i1⟩
  | .hbm, ⟨57, _⟩ => ⟨S16, .i1⟩
  | .hbm, ⟨58, _⟩ => ⟨S16, .i1⟩
  | .hbm, ⟨59, _⟩ => ⟨S16, .i1⟩
  | .hbm, ⟨60, _⟩ => ⟨S16, .i32⟩
  | .hbm, ⟨61, _⟩ => ⟨S16, .i32⟩
  | .hbm, ⟨62, _⟩ => ⟨S16, .i32⟩
  | .hbm, ⟨63, _⟩ => ⟨S16x1, .i32⟩
  | .hbm, ⟨64, _⟩ => ⟨S16x1, .i32⟩
  | .hbm, ⟨65, _⟩ => ⟨S16x2, .i32⟩
  | .hbm, ⟨66, _⟩ => ⟨S16x2, .f32⟩
  | .hbm, ⟨67, _⟩ => ⟨S2x16, .f32⟩
  | .hbm, ⟨68, _⟩ => ⟨S16x16, .f32⟩
  | .hbm, ⟨69, _⟩ => ⟨S_, .f32⟩
  | .hbm, ⟨70, _⟩ => ⟨S16x16, .f32⟩
  | .hbm, ⟨71, _⟩ => ⟨S16x16, .f32⟩
  | .hbm, ⟨72, _⟩ => ⟨S16x16, .f32⟩
  | .hbm, ⟨73, _⟩ => ⟨S16x16, .f32⟩
  | .hbm, ⟨74, _⟩ => ⟨S16x32, .f32⟩
  | .hbm, ⟨75, _⟩ => ⟨S16x64x16, .f32⟩
  | .hbm, ⟨76, _⟩ => ⟨S1024x16, .f32⟩
  | .hbm, ⟨77, _⟩ => ⟨S512x1, .f32⟩
  | .hbm, ⟨78, _⟩ => ⟨S512, .f32⟩
  | .hbm, ⟨79, _⟩ => ⟨S1x512, .f32⟩
  | .hbm, ⟨80, _⟩ => ⟨S512x32, .f32⟩
  | .hbm, ⟨81, _⟩ => ⟨S1x512, .f32⟩
  | .hbm, ⟨82, _⟩ => ⟨S1x512, .f32⟩
  | .hbm, ⟨83, _⟩ => ⟨S1x1024, .f32⟩
  | .hbm, ⟨84, _⟩ => ⟨S1x512, .f32⟩
  | .hbm, ⟨85, _⟩ => ⟨S1024x512, .f32⟩
  | .hbm, ⟨86, _⟩ => ⟨S8x1x512, .f32⟩
  | .hbm, ⟨87, _⟩ => ⟨S8x1x512, .f32⟩
  | .hbm, ⟨88, _⟩ => ⟨S8x1x512, .f32⟩
  | .hbm, ⟨89, _⟩ => ⟨S8x1x512, .f32⟩
  | .hbm, ⟨90, _⟩ => ⟨S1024x512, .f32⟩
  | .hbm, ⟨91, _⟩ => ⟨S8x512x512, .f32⟩
  | .hbm, ⟨92, _⟩ => ⟨S8x1x512, .f32⟩
  | .hbm, ⟨93, _⟩ => ⟨S8x1x512, .f32⟩
  | .hbm, ⟨94, _⟩ => ⟨S8x1x512, .f32⟩
  | .hbm, ⟨95, _⟩ => ⟨S8x1x512, .f32⟩
  | .hbm, ⟨96, _⟩ => ⟨S1024x512, .f32⟩
  | .hbm, ⟨97, _⟩ => ⟨S1x1024, .f32⟩
  | .hbm, ⟨98, _⟩ => ⟨S8x1x512, .f32⟩
  | .hbm, ⟨99, _⟩ => ⟨S8x1x512, .f32⟩
  | .hbm, ⟨100, _⟩ => ⟨S8x1x512, .f32⟩
  | .hbm, ⟨101, _⟩ => ⟨S8x1x512, .f32⟩
  | .hbm, ⟨102, _⟩ => ⟨S1024x512, .f32⟩
  | .hbm, ⟨103, _⟩ => ⟨S1024x1024, .f32⟩
  | .hbm, ⟨104, _⟩ => ⟨S16x64x1024, .f32⟩
  | .local _ .vmem, ⟨0, _⟩ => ⟨S1024x16, .f32⟩
  | .local _ .vmem, ⟨1, _⟩ => ⟨S16x32, .f32⟩
  | .local _ .vmem, ⟨2, _⟩ => ⟨S1x512, .f32⟩
  | .local _ .vmem, ⟨3, _⟩ => ⟨S512x32, .f32⟩
  | .local _ .vmem, ⟨4, _⟩ => ⟨S1x512, .f32⟩
  | .local _ .vmem, ⟨5, _⟩ => ⟨S512x512, .f32⟩
  | .local _ .vmem, ⟨6, _⟩ => ⟨S1x512, .f32⟩
  | .local _ .vmem, ⟨7, _⟩ => ⟨S1024x8192, .f32⟩
  | .local _ .vmem, ⟨8, _⟩ => ⟨S1x1024, .f32⟩
  | .local _ .vmem, ⟨9, _⟩ => ⟨S512x1024, .f32⟩
  | .local _ .vmem, ⟨10, _⟩ => ⟨S1x512, .f32⟩
  | .local _ .vmem, ⟨11, _⟩ => ⟨S1024x512, .f32⟩
  | .local _ .vmem, ⟨12, _⟩ => ⟨S1024x512, .f32⟩
  | .local _ .vmem, ⟨13, _⟩ => ⟨S64x64, .f32⟩
  | .local _ .vmem, ⟨14, _⟩ => ⟨S1x512x512, .f32⟩
  | .local _ .vmem, ⟨15, _⟩ => ⟨S1x512x512, .f32⟩
  | .local _ .vmem, ⟨16, _⟩ => ⟨S1x512x512, .f32⟩
  | .local _ .vmem, ⟨17, _⟩ => ⟨S1x512x512, .f32⟩
  | .local _ .vmem, ⟨18, _⟩ => ⟨S1x512x512, .f32⟩
  | .local _ .vmem, ⟨19, _⟩ => ⟨S1x512x512, .f32⟩
  | .local _ .vmem, ⟨20, _⟩ => ⟨S1x512x512, .f32⟩
  | .local _ .vmem, ⟨21, _⟩ => ⟨S1x512x512, .f32⟩
  | .local _ .vmem, ⟨22, _⟩ => ⟨S1x1x512, .f32⟩
  | .local _ .vmem, ⟨23, _⟩ => ⟨S1x1x512, .f32⟩
  | .local _ .vmem, ⟨24, _⟩ => ⟨S1x512x512, .f32⟩
  | .local _ .vmem, ⟨25, _⟩ => ⟨S1x512x512, .f32⟩
  | .local _ .vmem, ⟨26, _⟩ => ⟨S1x1x512, .f32⟩
  | .local _ .vmem, ⟨27, _⟩ => ⟨S1x1x512, .f32⟩
  | .local _ .vmem, ⟨28, _⟩ => ⟨S1x1x512, .f32⟩
  | .local _ .vmem, ⟨29, _⟩ => ⟨S1x1x512, .f32⟩
  | .local _ .vmem, ⟨30, _⟩ => ⟨S1x1x512, .f32⟩
  | .local _ .vmem, ⟨31, _⟩ => ⟨S1x1x512, .f32⟩
  | .local _ .vmem, ⟨32, _⟩ => ⟨S1024x512, .f32⟩
  | .local _ .vmem, ⟨33, _⟩ => ⟨S1x512x512, .f32⟩
  | .local _ .vmem, ⟨34, _⟩ => ⟨S1x512x512, .f32⟩
  | .local _ .vmem, ⟨35, _⟩ => ⟨S1024x512, .f32⟩
  | .local _ .vmem, ⟨36, _⟩ => ⟨S64x64, .f32⟩
  | .local _ .vmem, ⟨37, _⟩ => ⟨S1x512x512, .f32⟩
  | .local _ .vmem, ⟨38, _⟩ => ⟨S1x512x512, .f32⟩
  | .local _ .vmem, ⟨39, _⟩ => ⟨S1x512x512, .f32⟩
  | .local _ .vmem, ⟨40, _⟩ => ⟨S1x512x512, .f32⟩
  | .local _ .vmem, ⟨41, _⟩ => ⟨S1x512x512, .f32⟩
  | .local _ .vmem, ⟨42, _⟩ => ⟨S1x512x512, .f32⟩
  | .local _ .vmem, ⟨43, _⟩ => ⟨S1x1x512, .f32⟩
  | .local _ .vmem, ⟨44, _⟩ => ⟨S1x1x512, .f32⟩
  | .local _ .vmem, ⟨45, _⟩ => ⟨S1x512x512, .f32⟩
  | .local _ .vmem, ⟨46, _⟩ => ⟨S1x512x512, .f32⟩
  | .local _ .vmem, ⟨47, _⟩ => ⟨S1x1x512, .f32⟩
  | .local _ .vmem, ⟨48, _⟩ => ⟨S1x1x512, .f32⟩
  | .local _ .vmem, ⟨49, _⟩ => ⟨S1x1x512, .f32⟩
  | .local _ .vmem, ⟨50, _⟩ => ⟨S1x1x512, .f32⟩
  | .local _ .vmem, ⟨51, _⟩ => ⟨S1x1x512, .f32⟩
  | .local _ .vmem, ⟨52, _⟩ => ⟨S1x1x512, .f32⟩
  | .local _ .vmem, ⟨53, _⟩ => ⟨S1024x512, .f32⟩
  | .local _ .vmem, ⟨54, _⟩ => ⟨S1024x512, .f32⟩
  | .local _ .vmem, ⟨55, _⟩ => ⟨S64x64, .f32⟩
  | .local _ .vmem, ⟨56, _⟩ => ⟨S1x512x512, .f32⟩
  | .local _ .vmem, ⟨57, _⟩ => ⟨S1x512x512, .f32⟩
  | .local _ .vmem, ⟨58, _⟩ => ⟨S1x512x512, .f32⟩
  | .local _ .vmem, ⟨59, _⟩ => ⟨S1x512x512, .f32⟩
  | .local _ .vmem, ⟨60, _⟩ => ⟨S1x512x512, .f32⟩
  | .local _ .vmem, ⟨61, _⟩ => ⟨S1x512x512, .f32⟩
  | .local _ .vmem, ⟨62, _⟩ => ⟨S1x1x512, .f32⟩
  | .local _ .vmem, ⟨63, _⟩ => ⟨S1x1x512, .f32⟩
  | .local _ .vmem, ⟨64, _⟩ => ⟨S1x512x512, .f32⟩
  | .local _ .vmem, ⟨65, _⟩ => ⟨S1x512x512, .f32⟩
  | .local _ .vmem, ⟨66, _⟩ => ⟨S1x1x512, .f32⟩
  | .local _ .vmem, ⟨67, _⟩ => ⟨S1x1x512, .f32⟩
  | .local _ .vmem, ⟨68, _⟩ => ⟨S1x1x512, .f32⟩
  | .local _ .vmem, ⟨69, _⟩ => ⟨S1x1x512, .f32⟩
  | .local _ .vmem, ⟨70, _⟩ => ⟨S1x1x512, .f32⟩
  | .local _ .vmem, ⟨71, _⟩ => ⟨S1x1x512, .f32⟩
  | .local _ .vmem, ⟨72, _⟩ => ⟨S1024x512, .f32⟩
  | .local _ .vmem, ⟨73, _⟩ => ⟨S1x1024, .f32⟩
  | .local _ .vmem, ⟨74, _⟩ => ⟨S1024x512, .f32⟩
  | .local _ .vmem, ⟨75, _⟩ => ⟨S1024x1024, .f32⟩
  | _, _ => ⟨S16x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | _, _ => false

abbrev semScoped : Fin 0 → Bool
  | ⟨_, h⟩ => absurd h (Nat.not_lt_zero _)

abbrev dmaSemScoped : Fin 76 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | _ => false

abbrev sig : RefSig :=
  ofTc nBuf bufTy 0 76 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_c : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_c : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_0 : Ref sig .tc := ⟨.hbm, 37, rfl⟩
abbrev main_call0_v12 : Ref sig .tc := ⟨.hbm, 38, rfl⟩
abbrev main_call0_v13 : Ref sig .tc := ⟨.hbm, 39, rfl⟩
abbrev main_v1 : Ref sig .tc := ⟨.hbm, 40, rfl⟩
abbrev main_c_0 : Ref sig .tc := ⟨.hbm, 41, rfl⟩
abbrev main_call1_v0 : Ref sig .tc := ⟨.hbm, 42, rfl⟩
abbrev main_call1_c : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_c_1 : Ref sig .tc := ⟨.hbm, 49, rfl⟩
abbrev main_call1_v5 : Ref sig .tc := ⟨.hbm, 50, rfl⟩
abbrev main_call1_v6 : Ref sig .tc := ⟨.hbm, 51, rfl⟩
abbrev main_call1_c_2 : Ref sig .tc := ⟨.hbm, 52, rfl⟩
abbrev main_call1_v7 : Ref sig .tc := ⟨.hbm, 53, rfl⟩
abbrev main_call1_v8 : Ref sig .tc := ⟨.hbm, 54, rfl⟩
abbrev main_call1_c_3 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_v2 : Ref sig .tc := ⟨.hbm, 62, rfl⟩
abbrev main_v3 : Ref sig .tc := ⟨.hbm, 63, rfl⟩
abbrev main_v4 : Ref sig .tc := ⟨.hbm, 64, rfl⟩
abbrev main_v5 : Ref sig .tc := ⟨.hbm, 65, rfl⟩
abbrev main_v6 : Ref sig .tc := ⟨.hbm, 66, rfl⟩
abbrev main_v7 : Ref sig .tc := ⟨.hbm, 67, rfl⟩
abbrev main_v8 : Ref sig .tc := ⟨.hbm, 68, rfl⟩
abbrev main_cst : Ref sig .tc := ⟨.hbm, 69, rfl⟩
abbrev main_v9 : Ref sig .tc := ⟨.hbm, 70, rfl⟩
abbrev main_v10 : Ref sig .tc := ⟨.hbm, 71, rfl⟩
abbrev main_v11 : Ref sig .tc := ⟨.hbm, 72, rfl⟩
abbrev main_v12 : Ref sig .tc := ⟨.hbm, 73, rfl⟩
abbrev main_v13 : Ref sig .tc := ⟨.hbm, 74, rfl⟩
abbrev main_v14 : Ref sig .tc := ⟨.hbm, 75, rfl⟩
abbrev main_v15 : Ref sig .tc := ⟨.hbm, 76, rfl⟩
abbrev main_v16 : Ref sig .tc := ⟨.hbm, 77, rfl⟩
abbrev main_v17 : Ref sig .tc := ⟨.hbm, 78, rfl⟩
abbrev main_v18 : Ref sig .tc := ⟨.hbm, 79, rfl⟩
abbrev main_v19 : Ref sig .tc := ⟨.hbm, 80, rfl⟩
abbrev main_v20 : Ref sig .tc := ⟨.hbm, 81, rfl⟩
abbrev main_v21 : Ref sig .tc := ⟨.hbm, 82, rfl⟩
abbrev main_v22 : Ref sig .tc := ⟨.hbm, 83, rfl⟩
abbrev main_v23 : Ref sig .tc := ⟨.hbm, 84, rfl⟩
abbrev main_v24 : Ref sig .tc := ⟨.hbm, 85, rfl⟩
abbrev main_v25 : Ref sig .tc := ⟨.hbm, 86, rfl⟩
abbrev main_v26 : Ref sig .tc := ⟨.hbm, 87, rfl⟩
abbrev main_v27 : Ref sig .tc := ⟨.hbm, 88, rfl⟩
abbrev main_v28 : Ref sig .tc := ⟨.hbm, 89, rfl⟩
abbrev main_v29_0 : Ref sig .tc := ⟨.hbm, 90, rfl⟩
abbrev main_v29_1 : Ref sig .tc := ⟨.hbm, 91, rfl⟩
abbrev main_v30 : Ref sig .tc := ⟨.hbm, 92, rfl⟩
abbrev main_v31 : Ref sig .tc := ⟨.hbm, 93, rfl⟩
abbrev main_v32 : Ref sig .tc := ⟨.hbm, 94, rfl⟩
abbrev main_v33 : Ref sig .tc := ⟨.hbm, 95, rfl⟩
abbrev main_v34 : Ref sig .tc := ⟨.hbm, 96, rfl⟩
abbrev main_v35 : Ref sig .tc := ⟨.hbm, 97, rfl⟩
abbrev main_v36 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_v40_0 : Ref sig .tc := ⟨.hbm, 102, rfl⟩
abbrev main_v40_1 : Ref sig .tc := ⟨.hbm, 103, rfl⟩
abbrev main_v41 : Ref sig .tc := ⟨.hbm, 104, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc1_stg9_0 : Ref sig .tc := ⟨.vmem, 28, rfl⟩
abbrev cc1_stg9_1 : Ref sig .tc := ⟨.vmem, 29, rfl⟩
abbrev cc1_stg10_0 : Ref sig .tc := ⟨.vmem, 30, rfl⟩
abbrev cc1_stg10_1 : Ref sig .tc := ⟨.vmem, 31, rfl⟩
abbrev cc1_stg11_0 : Ref sig .tc := ⟨.vmem, 32, rfl⟩
abbrev cc1_stg12_0 : Ref sig .tc := ⟨.vmem, 33, rfl⟩
abbrev cc1_stg12_1 : Ref sig .tc := ⟨.vmem, 34, rfl⟩
abbrev cc2_stg0_0 : Ref sig .tc := ⟨.vmem, 35, rfl⟩
abbrev cc2_stg1_0 : Ref sig .tc := ⟨.vmem, 36, rfl⟩
abbrev cc2_stg2_0 : Ref sig .tc := ⟨.vmem, 37, rfl⟩
abbrev cc2_stg2_1 : Ref sig .tc := ⟨.vmem, 38, rfl⟩
abbrev cc2_stg3_0 : Ref sig .tc := ⟨.vmem, 39, rfl⟩
abbrev cc2_stg3_1 : Ref sig .tc := ⟨.vmem, 40, rfl⟩
abbrev cc2_stg4_0 : Ref sig .tc := ⟨.vmem, 41, rfl⟩
abbrev cc2_stg4_1 : Ref sig .tc := ⟨.vmem, 42, rfl⟩
abbrev cc2_stg5_0 : Ref sig .tc := ⟨.vmem, 43, rfl⟩
abbrev cc2_stg5_1 : Ref sig .tc := ⟨.vmem, 44, rfl⟩
abbrev cc2_stg6_0 : Ref sig .tc := ⟨.vmem, 45, rfl⟩
abbrev cc2_stg6_1 : Ref sig .tc := ⟨.vmem, 46, rfl⟩
abbrev cc2_stg7_0 : Ref sig .tc := ⟨.vmem, 47, rfl⟩
abbrev cc2_stg7_1 : Ref sig .tc := ⟨.vmem, 48, rfl⟩
abbrev cc2_stg8_0 : Ref sig .tc := ⟨.vmem, 49, rfl⟩
abbrev cc2_stg8_1 : Ref sig .tc := ⟨.vmem, 50, rfl⟩
abbrev cc2_stg9_0 : Ref sig .tc := ⟨.vmem, 51, rfl⟩
abbrev cc2_stg9_1 : Ref sig .tc := ⟨.vmem, 52, rfl⟩
abbrev cc2_stg10_0 : Ref sig .tc := ⟨.vmem, 53, rfl⟩
abbrev cc3_stg0_0 : Ref sig .tc := ⟨.vmem, 54, rfl⟩
abbrev cc3_stg1_0 : Ref sig .tc := ⟨.vmem, 55, rfl⟩
abbrev cc3_stg2_0 : Ref sig .tc := ⟨.vmem, 56, rfl⟩
abbrev cc3_stg2_1 : Ref sig .tc := ⟨.vmem, 57, rfl⟩
abbrev cc3_stg3_0 : Ref sig .tc := ⟨.vmem, 58, rfl⟩
abbrev cc3_stg3_1 : Ref sig .tc := ⟨.vmem, 59, rfl⟩
abbrev cc3_stg4_0 : Ref sig .tc := ⟨.vmem, 60, rfl⟩
abbrev cc3_stg4_1 : Ref sig .tc := ⟨.vmem, 61, rfl⟩
abbrev cc3_stg5_0 : Ref sig .tc := ⟨.vmem, 62, rfl⟩
abbrev cc3_stg5_1 : Ref sig .tc := ⟨.vmem, 63, rfl⟩
abbrev cc3_stg6_0 : Ref sig .tc := ⟨.vmem, 64, rfl⟩
abbrev cc3_stg6_1 : Ref sig .tc := ⟨.vmem, 65, rfl⟩
abbrev cc3_stg7_0 : Ref sig .tc := ⟨.vmem, 66, rfl⟩
abbrev cc3_stg7_1 : Ref sig .tc := ⟨.vmem, 67, rfl⟩
abbrev cc3_stg8_0 : Ref sig .tc := ⟨.vmem, 68, rfl⟩
abbrev cc3_stg8_1 : Ref sig .tc := ⟨.vmem, 69, rfl⟩
abbrev cc3_stg9_0 : Ref sig .tc := ⟨.vmem, 70, rfl⟩
abbrev cc3_stg9_1 : Ref sig .tc := ⟨.vmem, 71, rfl⟩
abbrev cc3_stg10_0 : Ref sig .tc := ⟨.vmem, 72, rfl⟩
abbrev cc3_stg11_0 : Ref sig .tc := ⟨.vmem, 73, rfl⟩
abbrev cc3_stg12_0 : Ref sig .tc := ⟨.vmem, 74, rfl⟩
abbrev cc3_stg13_0 : Ref sig .tc := ⟨.vmem, 75, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc1_sem0_0 : DmaSem sig := 12
abbrev cc1_sem1_0 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27
abbrev cc1_sem9_0 : DmaSem sig := 28
abbrev cc1_sem9_1 : DmaSem sig := 29
abbrev cc1_sem10_0 : DmaSem sig := 30
abbrev cc1_sem10_1 : DmaSem sig := 31
abbrev cc1_sem11_0 : DmaSem sig := 32
abbrev cc1_sem12_0 : DmaSem sig := 33
abbrev cc1_sem12_1 : DmaSem sig := 34
abbrev cc2_sem0_0 : DmaSem sig := 35
abbrev cc2_sem1_0 : DmaSem sig := 36
abbrev cc2_sem2_0 : DmaSem sig := 37
abbrev cc2_sem2_1 : DmaSem sig := 38
abbrev cc2_sem3_0 : DmaSem sig := 39
abbrev cc2_sem3_1 : DmaSem sig := 40
abbrev cc2_sem4_0 : DmaSem sig := 41
abbrev cc2_sem4_1 : DmaSem sig := 42
abbrev cc2_sem5_0 : DmaSem sig := 43
abbrev cc2_sem5_1 : DmaSem sig := 44
abbrev cc2_sem6_0 : DmaSem sig := 45
abbrev cc2_sem6_1 : DmaSem sig := 46
abbrev cc2_sem7_0 : DmaSem sig := 47
abbrev cc2_sem7_1 : DmaSem sig := 48
abbrev cc2_sem8_0 : DmaSem sig := 49
abbrev cc2_sem8_1 : DmaSem sig := 50
abbrev cc2_sem9_0 : DmaSem sig := 51
abbrev cc2_sem9_1 : DmaSem sig := 52
abbrev cc2_sem10_0 : DmaSem sig := 53
abbrev cc3_sem0_0 : DmaSem sig := 54
abbrev cc3_sem1_0 : DmaSem sig := 55
abbrev cc3_sem2_0 : DmaSem sig := 56
abbrev cc3_sem2_1 : DmaSem sig := 57
abbrev cc3_sem3_0 : DmaSem sig := 58
abbrev cc3_sem3_1 : DmaSem sig := 59
abbrev cc3_sem4_0 : DmaSem sig := 60
abbrev cc3_sem4_1 : DmaSem sig := 61
abbrev cc3_sem5_0 : DmaSem sig := 62
abbrev cc3_sem5_1 : DmaSem sig := 63
abbrev cc3_sem6_0 : DmaSem sig := 64
abbrev cc3_sem6_1 : DmaSem sig := 65
abbrev cc3_sem7_0 : DmaSem sig := 66
abbrev cc3_sem7_1 : DmaSem sig := 67
abbrev cc3_sem8_0 : DmaSem sig := 68
abbrev cc3_sem8_1 : DmaSem sig := 69
abbrev cc3_sem9_0 : DmaSem sig := 70
abbrev cc3_sem9_1 : DmaSem sig := 71
abbrev cc3_sem10_0 : DmaSem sig := 72
abbrev cc3_sem11_0 : DmaSem sig := 73
abbrev cc3_sem12_0 : DmaSem sig := 74
abbrev cc3_sem13_0 : DmaSem sig := 75

abbrev nD : Nat := 1
abbrev τ : Topo := Topo.v7x

variable {F : FTy → Type} [FloatOps F]

abbrev grid0 : Pipeline.Grid := .none

abbrev stage0_0 : Fin 1 → Memref sig .tc .vmem S1024x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x8192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S512x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1024x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev grid1 : Pipeline.Grid := ⟨1, ![8], ![false]⟩

def k1_cond1 (i : grid1.Coords) : BitVec 1 :=
  let arg0 : BitVec 32 := BitVec.ofNat 32 (i 0).val
  let c0_i32 : BitVec 32 := 0#32
  let v172 : BitVec 1 := Scalar.cmpi .eq arg0 c0_i32
  let v173 : BitVec 32 := Scalar.extui v172
  let c0_i32_78 : BitVec 32 := 0#32
  let v174 : BitVec 1 := Scalar.cmpi .ne v173 c0_i32_78
  v174

def k1_cond2 (i : grid1.Coords) : BitVec 1 :=
  let arg0 : BitVec 32 := BitVec.ofNat 32 (i 0).val
  let c0_i32_79 : BitVec 32 := 0#32
  let v175 : BitVec 1 := Scalar.cmpi .ne arg0 c0_i32_79
  let v176 : BitVec 32 := Scalar.extui v175
  let c0_i32_80 : BitVec 32 := 0#32
  let v177 : BitVec 1 := Scalar.cmpi .ne v176 c0_i32_80
  v177

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S1024x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x512x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x1x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x512x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x1x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x1x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1x1x512 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 1 → Memref sig .tc .vmem S1024x512 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S1x512x512 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev grid2 : Pipeline.Grid := ⟨1, ![8], ![false]⟩

def k2_cond1 (i : grid2.Coords) : BitVec 1 :=
  let arg0 : BitVec 32 := BitVec.ofNat 32 (i 0).val
  let c0_i32 : BitVec 32 := 0#32
  let v166 : BitVec 1 := Scalar.cmpi .eq arg0 c0_i32
  let v167 : BitVec 32 := Scalar.extui v166
  let c0_i32_71 : BitVec 32 := 0#32
  let v168 : BitVec 1 := Scalar.cmpi .ne v167 c0_i32_71
  v168

def k2_cond2 (i : grid2.Coords) : BitVec 1 :=
  let arg0 : BitVec 32 := BitVec.ofNat 32 (i 0).val
  let c0_i32_72 : BitVec 32 := 0#32
  let v169 : BitVec 1 := Scalar.cmpi .ne arg0 c0_i32_72
  let v170 : BitVec 32 := Scalar.extui v169
  let c0_i32_73 : BitVec 32 := 0#32
  let v171 : BitVec 1 := Scalar.cmpi .ne v170 c0_i32_73
  v171

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_8 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_9 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S1024x512 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1x512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x512x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x512x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x1x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x512x512 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x1x512 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S1x1x512 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S1x1x512 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 1 → Memref sig .tc .vmem S1024x512 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev grid3 : Pipeline.Grid := ⟨1, ![8], ![false]⟩

def k3_cond1 (i : grid3.Coords) : BitVec 1 :=
  let arg0 : BitVec 32 := BitVec.ofNat 32 (i 0).val
  let c0_i32 : BitVec 32 := 0#32
  let v166 : BitVec 1 := Scalar.cmpi .eq arg0 c0_i32
  let v167 : BitVec 32 := Scalar.extui v166
  let c0_i32_71 : BitVec 32 := 0#32
  let v168 : BitVec 1 := Scalar.cmpi .ne v167 c0_i32_71
  v168

def k3_cond2 (i : grid3.Coords) : BitVec 1 :=
  let arg0 : BitVec 32 := BitVec.ofNat 32 (i 0).val
  let c0_i32_72 : BitVec 32 := 0#32
  let v169 : BitVec 1 := Scalar.cmpi .ne arg0 c0_i32_72
  let v170 : BitVec 32 := Scalar.extui v169
  let c0_i32_73 : BitVec 32 := 0#32
  let v171 : BitVec 1 := Scalar.cmpi .ne v170 c0_i32_73
  v171

def k3_cond3 (i : grid3.Coords) : BitVec 1 :=
  let arg0 : BitVec 32 := BitVec.ofNat 32 (i 0).val
  let c7_i32 : BitVec 32 := 7#32
  let v172 : BitVec 1 := Scalar.cmpi .eq arg0 c7_i32
  let v173 : BitVec 32 := Scalar.extui v172
  let c0_i32_74 : BitVec 32 := 0#32
  let v174 : BitVec 1 := Scalar.cmpi .ne v173 c0_i32_74
  v174

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_5 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_6 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_7 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_8 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_9 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S1024x512 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1x512x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x512x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x512x512 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1x1x512 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1x512x512 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S1x1x512 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S1x1x512 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 2 → Memref sig .tc .vmem S1x1x512 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev stage3_10 : Fin 1 → Memref sig .tc .vmem S1024x512 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S1x1024 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S1024x512 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 1 → Memref sig .tc .vmem S1024x1024 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]
-- ==== KernelIdeal.lean ====
variable {F : FTy → Type} [FloatOps F] [Named F]
def κ : String → Option EReal := fun
  | "inv_scale" => some (((Real.sqrt 512)⁻¹ : ℝ) : EReal)
  | _ => none
-- ==== ReferenceIdeal.lean ====
abbrev S16x64x1024 : Shape := ⟨3, ![16, 64, 1024]⟩
abbrev S16x2 : Shape := ⟨2, ![16, 2]⟩
abbrev S512x33 : Shape := ⟨2, ![512, 33]⟩
abbrev S512 : Shape := ⟨1, ![512]⟩
abbrev S512x512 : Shape := ⟨2, ![512, 512]⟩
abbrev S1024x8192 : Shape := ⟨2, ![1024, 8192]⟩
abbrev S1024 : Shape := ⟨1, ![1024]⟩
abbrev S512x1024 : Shape := ⟨2, ![512, 1024]⟩
abbrev S64x64 : Shape := ⟨2, ![64, 64]⟩
abbrev S8x512x512 : Shape := ⟨3, ![8, 512, 512]⟩
abbrev S8x512 : Shape := ⟨2, ![8, 512]⟩
abbrev S1024x512 : Shape := ⟨2, ![1024, 512]⟩
abbrev S16 : Shape := ⟨1, ![16]⟩
abbrev S_ : Shape := ⟨0, ![]⟩
abbrev S16x1 : Shape := ⟨2, ![16, 1]⟩
abbrev S2x16 : Shape := ⟨2, ![2, 16]⟩
abbrev S16x16 : Shape := ⟨2, ![16, 16]⟩
abbrev S16x32 : Shape := ⟨2, ![16, 32]⟩
abbrev S16x64x16 : Shape := ⟨3, ![16, 64, 16]⟩
abbrev S16x64x16x1 : Shape := ⟨4, ![16, 64, 16, 1]⟩
abbrev S1x1x16x32 : Shape := ⟨4, ![1, 1, 16, 32]⟩
abbrev S16x64x16x32 : Shape := ⟨4, ![16, 64, 16, 32]⟩
abbrev S16x64x16x33 : Shape := ⟨4, ![16, 64, 16, 33]⟩
abbrev S33x512 : Shape := ⟨2, ![33, 512]⟩
abbrev S16x64x16x512 : Shape := ⟨4, ![16, 64, 16, 512]⟩
abbrev S1x1x1x512 : Shape := ⟨4, ![1, 1, 1, 512]⟩
abbrev S16x64x8192 : Shape := ⟨3, ![16, 64, 8192]⟩
abbrev S8192x1024 : Shape := ⟨2, ![8192, 1024]⟩
abbrev S1x1x1024 : Shape := ⟨3, ![1, 1, 1024]⟩
abbrev S16x64x512 : Shape := ⟨3, ![16, 64, 512]⟩
abbrev S1x1x512 : Shape := ⟨3, ![1, 1, 512]⟩
abbrev S16x64x8x512 : Shape := ⟨4, ![16, 64, 8, 512]⟩
abbrev S8x16x64x64 : Shape := ⟨4, ![8, 16, 64, 64]⟩
abbrev S1x64x64 : Shape := ⟨3, ![1, 64, 64]⟩
abbrev S1x1x64x64 : Shape := ⟨4, ![1, 1, 64, 64]⟩
abbrev S8x16x64 : Shape := ⟨3, ![8, 16, 64]⟩
abbrev S8x16x64x1 : Shape := ⟨4, ![8, 16, 64, 1]⟩
abbrev S8x16x64x512 : Shape := ⟨4, ![8, 16, 64, 512]⟩
abbrev S8x1x1x512 : Shape := ⟨4, ![8, 1, 1, 512]⟩

abbrev nBuf : Space → Nat
  | .hbm => 396
  | .vmem => 0
  | .smem => 0
  | _ => 0

abbrev hbmTy0_0 (i : Nat) : BufTy := match i % 128 with
  | 0 => ⟨S16x64x1024, .f32⟩
  | 1 => ⟨S16x2, .f32⟩
  | 2 => ⟨S512x33, .f32⟩
  | 3 => ⟨S512, .f32⟩
  | 4 => ⟨S512x512, .f32⟩
  | 5 => ⟨S512, .f32⟩
  | 6 => ⟨S1024x8192, .f32⟩
  | 7 => ⟨S1024, .f32⟩
  | 8 => ⟨S512x1024, .f32⟩
  | 9 => ⟨S512, .f32⟩
  | 10 => ⟨S64x64, .f32⟩
  | 11 => ⟨S8x512x512, .f32⟩
  | 12 => ⟨S8x512x512, .f32⟩
  | 13 => ⟨S8x512x512, .f32⟩
  | 14 => ⟨S8x512x512, .f32⟩
  | 15 => ⟨S8x512, .f32⟩
  | 16 => ⟨S8x512x512, .f32⟩
  | 17 => ⟨S8x512, .f32⟩
  | 18 => ⟨S8x512, .f32⟩
  | 19 => ⟨S8x512, .f32⟩
  | 20 => ⟨S1024x512, .f32⟩
  | 21 => ⟨S1024, .f32⟩
  | 22 => ⟨S16, .i32⟩
  | 23 => ⟨S_, .i32⟩
  | 24 => ⟨S_, .i32⟩
  | 25 => ⟨S16, .i32⟩
  | 26 => ⟨S16, .i32⟩
  | 27 => ⟨S16, .i32⟩
  | 28 => ⟨S_, .i32⟩
  | 29 => ⟨S16, .i32⟩
  | 30 => ⟨S16, .i1⟩
  | 31 => ⟨S16, .i32⟩
  | 32 => ⟨S16, .i32⟩
  | 33 => ⟨S_, .i32⟩
  | 34 => ⟨S16, .i32⟩
  | 35 => ⟨S16, .i1⟩
  | 36 => ⟨S16, .i1⟩
  | 37 => ⟨S_, .i32⟩
  | 38 => ⟨S16, .i32⟩
  | 39 => ⟨S16, .i32⟩
  | 40 => ⟨S16, .i32⟩
  | 41 => ⟨S_, .i32⟩
  | 42 => ⟨S_, .i32⟩
  | 43 => ⟨S_, .i32⟩
  | 44 => ⟨S_, .i1⟩
  | 45 => ⟨S_, .i32⟩
  | 46 => ⟨S_, .i32⟩
  | 47 => ⟨S16, .i32⟩
  | 48 => ⟨S16, .i32⟩
  | 49 => ⟨S_, .i32⟩
  | 50 => ⟨S16, .i32⟩
  | 51 => ⟨S16, .i1⟩
  | 52 => ⟨S_, .i32⟩
  | 53 => ⟨S16, .i32⟩
  | 54 => ⟨S16, .i1⟩
  | 55 => ⟨S_, .i32⟩
  | 56 => ⟨S_, .i1⟩
  | 57 => ⟨S16, .i1⟩
  | 58 => ⟨S16, .i1⟩
  | 59 => ⟨S16, .i1⟩
  | 60 => ⟨S16, .i32⟩
  | 61 => ⟨S16, .i32⟩
  | 62 => ⟨S16, .i32⟩
  | 63 => ⟨S16x1, .i32⟩
  | 64 => ⟨S16x1, .i32⟩
  | 65 => ⟨S16x2, .i32⟩
  | 66 => ⟨S16x2, .f32⟩
  | 67 => ⟨S2x16, .f32⟩
  | 68 => ⟨S16x16, .f32⟩
  | 69 => ⟨S_, .f32⟩
  | 70 => ⟨S16x16, .f32⟩
  | 71 => ⟨S16x16, .f32⟩
  | 72 => ⟨S16x16, .f32⟩
  | 73 => ⟨S16x16, .f32⟩
  | 74 => ⟨S16x32, .f32⟩
  | 75 => ⟨S16x64x16, .f32⟩
  | 76 => ⟨S16x64x16x1, .f32⟩
  | 77 => ⟨S1x1x16x32, .f32⟩
  | 78 => ⟨S16x64x16x32, .f32⟩
  | 79 => ⟨S16x64x16x33, .f32⟩
  | 80 => ⟨S33x512, .f32⟩
  | 81 => ⟨S16x64x16x512, .f32⟩
  | 82 => ⟨S1x1x1x512, .f32⟩
  | 83 => ⟨S16x64x16x512, .f32⟩
  | 84 => ⟨S16x64x16x512, .f32⟩
  | 85 => ⟨S16x64x16x512, .f32⟩
  | 86 => ⟨S16x64x16x512, .f32⟩
  | 87 => ⟨S_, .f32⟩
  | 88 => ⟨S16x64x16x512, .f32⟩
  | 89 => ⟨S16x64x16x512, .f32⟩
  | 90 => ⟨S_, .f32⟩
  | 91 => ⟨S16x64x16x512, .f32⟩
  | 92 => ⟨S16x64x16x512, .f32⟩
  | 93 => ⟨S16x64x16x512, .f32⟩
  | 94 => ⟨S512x512, .f32⟩
  | 95 => ⟨S16x64x16x512, .f32⟩
  | 96 => ⟨S1x1x1x512, .f32⟩
  | 97 => ⟨S16x64x16x512, .f32⟩
  | 98 => ⟨S16x64x16x512, .f32⟩
  | 99 => ⟨S16x64x8192, .f32⟩
  | 100 => ⟨S8192x1024, .f32⟩
  | 101 => ⟨S16x64x1024, .f32⟩
  | 102 => ⟨S1x1x1024, .f32⟩
  | 103 => ⟨S16x64x1024, .f32⟩
  | 104 => ⟨S16x64x1024, .f32⟩
  | 105 => ⟨S16x64x1024, .f32⟩
  | 106 => ⟨S16x64x1024, .f32⟩
  | 107 => ⟨S_, .f32⟩
  | 108 => ⟨S16x64x1024, .f32⟩
  | 109 => ⟨S16x64x1024, .f32⟩
  | 110 => ⟨S_, .f32⟩
  | 111 => ⟨S16x64x1024, .f32⟩
  | 112 => ⟨S16x64x1024, .f32⟩
  | 113 => ⟨S16x64x1024, .f32⟩
  | 114 => ⟨S1024x512, .f32⟩
  | 115 => ⟨S16x64x512, .f32⟩
  | 116 => ⟨S1x1x512, .f32⟩
  | 117 => ⟨S16x64x512, .f32⟩
  | 118 => ⟨S16x64x512, .f32⟩
  | 119 => ⟨S_, .f32⟩
  | 120 => ⟨S_, .f32⟩
  | 121 => ⟨S8x512x512, .f32⟩
  | 122 => ⟨S16x64x8x512, .f32⟩
  | 123 => ⟨S8x512x512, .f32⟩
  | 124 => ⟨S16x64x8x512, .f32⟩
  | 125 => ⟨S8x512x512, .f32⟩
  | 126 => ⟨S16x64x8x512, .f32⟩
  | 127 => ⟨S8x16x64x64, .f32⟩
  | _ => ⟨S16x64x1024, .f32⟩

abbrev hbmTy0_1 (i : Nat) : BufTy := match i % 128 with
  | 0 => ⟨S8x16x64x64, .f32⟩
  | 1 => ⟨S8x16x64x64, .f32⟩
  | 2 => ⟨S1x64x64, .f32⟩
  | 3 => ⟨S1x1x64x64, .f32⟩
  | 4 => ⟨S8x16x64x64, .f32⟩
  | 5 => ⟨S8x16x64x64, .f32⟩
  | 6 => ⟨S_, .f32⟩
  | 7 => ⟨S8x16x64, .f32⟩
  | 8 => ⟨S_, .f32⟩
  | 9 => ⟨S8x16x64, .f32⟩
  | 10 => ⟨S8x16x64, .f32⟩
  | 11 => ⟨S8x16x64x1, .f32⟩
  | 12 => ⟨S8x16x64x64, .f32⟩
  | 13 => ⟨S8x16x64x64, .f32⟩
  | 14 => ⟨S8x16x64x64, .f32⟩
  | 15 => ⟨S_, .f32⟩
  | 16 => ⟨S8x16x64, .f32⟩
  | 17 => ⟨S8x16x64x1, .f32⟩
  | 18 => ⟨S8x16x64x64, .f32⟩
  | 19 => ⟨S8x16x64x64, .f32⟩
  | 20 => ⟨S8x16x64x512, .f32⟩
  | 21 => ⟨S8x16x64x512, .f32⟩
  | 22 => ⟨S8x16x64x512, .f32⟩
  | 23 => ⟨S_, .f32⟩
  | 24 => ⟨S8x16x64x512, .f32⟩
  | 25 => ⟨S8x16x64x512, .f32⟩
  | 26 => ⟨S_, .f32⟩
  | 27 => ⟨S8x16x64x512, .f32⟩
  | 28 => ⟨S8x16x64x512, .f32⟩
  | 29 => ⟨S8x16x64x512, .f32⟩
  | 30 => ⟨S8x512x512, .f32⟩
  | 31 => ⟨S8x16x64x512, .f32⟩
  | 32 => ⟨S8x1x1x512, .f32⟩
  | 33 => ⟨S8x16x64x512, .f32⟩
  | 34 => ⟨S8x16x64x512, .f32⟩
  | 35 => ⟨S8x16x64x512, .f32⟩
  | 36 => ⟨S8x16x64x512, .f32⟩
  | 37 => ⟨S_, .f32⟩
  | 38 => ⟨S8x16x64x512, .f32⟩
  | 39 => ⟨S8x16x64x512, .f32⟩
  | 40 => ⟨S_, .f32⟩
  | 41 => ⟨S8x16x64x512, .f32⟩
  | 42 => ⟨S8x16x64x512, .f32⟩
  | 43 => ⟨S8x16x64x512, .f32⟩
  | 44 => ⟨S8x512x512, .f32⟩
  | 45 => ⟨S8x16x64x512, .f32⟩
  | 46 => ⟨S8x1x1x512, .f32⟩
  | 47 => ⟨S8x16x64x512, .f32⟩
  | 48 => ⟨S8x16x64x512, .f32⟩
  | 49 => ⟨S_, .f32⟩
  | 50 => ⟨S8x16x64, .f32⟩
  | 51 => ⟨S8x16x64x1, .f32⟩
  | 52 => ⟨S_, .f32⟩
  | 53 => ⟨S8x16x64x1, .f32⟩
  | 54 => ⟨S8x16x64x1, .f32⟩
  | 55 => ⟨S8x16x64x512, .f32⟩
  | 56 => ⟨S8x16x64x512, .f32⟩
  | 57 => ⟨S8x16x64x512, .f32⟩
  | 58 => ⟨S_, .f32⟩
  | 59 => ⟨S8x16x64, .f32⟩
  | 60 => ⟨S8x16x64x1, .f32⟩
  | 61 => ⟨S_, .f32⟩
  | 62 => ⟨S8x16x64x1, .f32⟩
  | 63 => ⟨S8x16x64x1, .f32⟩
  | 64 => ⟨S8x16x64x512, .f32⟩
  | 65 => ⟨S8x16x64x512, .f32⟩
  | 66 => ⟨S_, .f32⟩
  | 67 => ⟨S8x16x64x1, .f32⟩
  | 68 => ⟨S8x16x64x1, .f32⟩
  | 69 => ⟨S8x16x64x1, .f32⟩
  | 70 => ⟨S8x16x64x512, .f32⟩
  | 71 => ⟨S8x16x64x512, .f32⟩
  | 72 => ⟨S8x1x1x512, .f32⟩
  | 73 => ⟨S8x16x64x512, .f32⟩
  | 74 => ⟨S8x16x64x512, .f32⟩
  | 75 => ⟨S8x1x1x512, .f32⟩
  | 76 => ⟨S8x16x64x512, .f32⟩
  | 77 => ⟨S8x16x64x512, .f32⟩
  | 78 => ⟨S_, .f32⟩
  | 79 => ⟨S16x64x512, .f32⟩
  | 80 => ⟨S_, .f32⟩
  | 81 => ⟨S16x64x512, .f32⟩
  | 82 => ⟨S16x64x512, .f32⟩
  | 83 => ⟨S8x512x512, .f32⟩
  | 84 => ⟨S16x64x8x512, .f32⟩
  | 85 => ⟨S8x512x512, .f32⟩
  | 86 => ⟨S16x64x8x512, .f32⟩
  | 87 => ⟨S8x512x512, .f32⟩
  | 88 => ⟨S16x64x8x512, .f32⟩
  | 89 => ⟨S8x16x64x64, .f32⟩
  | 90 => ⟨S8x16x64x64, .f32⟩
  | 91 => ⟨S8x16x64x64, .f32⟩
  | 92 => ⟨S1x64x64, .f32⟩
  | 93 => ⟨S1x1x64x64, .f32⟩
  | 94 => ⟨S8x16x64x64, .f32⟩
  | 95 => ⟨S8x16x64x64, .f32⟩
  | 96 => ⟨S_, .f32⟩
  | 97 => ⟨S8x16x64, .f32⟩
  | 98 => ⟨S_, .f32⟩
  | 99 => ⟨S8x16x64, .f32⟩
  | 100 => ⟨S8x16x64, .f32⟩
  | 101 => ⟨S8x16x64x1, .f32⟩
  | 102 => ⟨S8x16x64x64, .f32⟩
  | 103 => ⟨S8x16x64x64, .f32⟩
  | 104 => ⟨S8x16x64x64, .f32⟩
  | 105 => ⟨S_, .f32⟩
  | 106 => ⟨S8x16x64, .f32⟩
  | 107 => ⟨S8x16x64x1, .f32⟩
  | 108 => ⟨S8x16x64x64, .f32⟩
  | 109 => ⟨S8x16x64x64, .f32⟩
  | 110 => ⟨S8x16x64x512, .f32⟩
  | 111 => ⟨S8x16x64x512, .f32⟩
  | 112 => ⟨S8x16x64x512, .f32⟩
  | 113 => ⟨S_, .f32⟩
  | 114 => ⟨S8x16x64x512, .f32⟩
  | 115 => ⟨S8x16x64x512, .f32⟩
  | 116 => ⟨S_, .f32⟩
  | 117 => ⟨S8x16x64x512, .f32⟩
  | 118 => ⟨S8x16x64x512, .f32⟩
  | 119 => ⟨S8x16x64x512, .f32⟩
  | 120 => ⟨S8x512x512, .f32⟩
  | 121 => ⟨S8x16x64x512, .f32⟩
  | 122 => ⟨S8x1x1x512, .f32⟩
  | 123 => ⟨S8x16x64x512, .f32⟩
  | 124 => ⟨S8x16x64x512, .f32⟩
  | 125 => ⟨S8x16x64x512, .f32⟩
  | 126 => ⟨S8x16x64x512, .f32⟩
  | 127 => ⟨S_, .f32⟩
  | _ => ⟨S16x64x1024, .f32⟩

abbrev hbmTy0_2 (i : Nat) : BufTy := match i % 128 with
  | 0 => ⟨S8x16x64x512, .f32⟩
  | 1 => ⟨S8x16x64x512, .f32⟩
  | 2 => ⟨S_, .f32⟩
  | 3 => ⟨S8x16x64x512, .f32⟩
  | 4 => ⟨S8x16x64x512, .f32⟩
  | 5 => ⟨S8x16x64x512, .f32⟩
  | 6 => ⟨S8x512x512, .f32⟩
  | 7 => ⟨S8x16x64x512, .f32⟩
  | 8 => ⟨S8x1x1x512, .f32⟩
  | 9 => ⟨S8x16x64x512, .f32⟩
  | 10 => ⟨S8x16x64x512, .f32⟩
  | 11 => ⟨S_, .f32⟩
  | 12 => ⟨S8x16x64, .f32⟩
  | 13 => ⟨S8x16x64x1, .f32⟩
  | 14 => ⟨S_, .f32⟩
  | 15 => ⟨S8x16x64x1, .f32⟩
  | 16 => ⟨S8x16x64x1, .f32⟩
  | 17 => ⟨S8x16x64x512, .f32⟩
  | 18 => ⟨S8x16x64x512, .f32⟩
  | 19 => ⟨S8x16x64x512, .f32⟩
  | 20 => ⟨S_, .f32⟩
  | 21 => ⟨S8x16x64, .f32⟩
  | 22 => ⟨S8x16x64x1, .f32⟩
  | 23 => ⟨S_, .f32⟩
  | 24 => ⟨S8x16x64x1, .f32⟩
  | 25 => ⟨S8x16x64x1, .f32⟩
  | 26 => ⟨S8x16x64x512, .f32⟩
  | 27 => ⟨S8x16x64x512, .f32⟩
  | 28 => ⟨S_, .f32⟩
  | 29 => ⟨S8x16x64x1, .f32⟩
  | 30 => ⟨S8x16x64x1, .f32⟩
  | 31 => ⟨S8x16x64x1, .f32⟩
  | 32 => ⟨S8x16x64x512, .f32⟩
  | 33 => ⟨S8x16x64x512, .f32⟩
  | 34 => ⟨S8x1x1x512, .f32⟩
  | 35 => ⟨S8x16x64x512, .f32⟩
  | 36 => ⟨S8x16x64x512, .f32⟩
  | 37 => ⟨S8x1x1x512, .f32⟩
  | 38 => ⟨S8x16x64x512, .f32⟩
  | 39 => ⟨S8x16x64x512, .f32⟩
  | 40 => ⟨S_, .f32⟩
  | 41 => ⟨S16x64x512, .f32⟩
  | 42 => ⟨S_, .f32⟩
  | 43 => ⟨S16x64x512, .f32⟩
  | 44 => ⟨S16x64x512, .f32⟩
  | 45 => ⟨S8x512x512, .f32⟩
  | 46 => ⟨S16x64x8x512, .f32⟩
  | 47 => ⟨S8x512x512, .f32⟩
  | 48 => ⟨S16x64x8x512, .f32⟩
  | 49 => ⟨S8x512x512, .f32⟩
  | 50 => ⟨S16x64x8x512, .f32⟩
  | 51 => ⟨S8x16x64x64, .f32⟩
  | 52 => ⟨S8x16x64x64, .f32⟩
  | 53 => ⟨S8x16x64x64, .f32⟩
  | 54 => ⟨S1x64x64, .f32⟩
  | 55 => ⟨S1x1x64x64, .f32⟩
  | 56 => ⟨S8x16x64x64, .f32⟩
  | 57 => ⟨S8x16x64x64, .f32⟩
  | 58 => ⟨S_, .f32⟩
  | 59 => ⟨S8x16x64, .f32⟩
  | 60 => ⟨S_, .f32⟩
  | 61 => ⟨S8x16x64, .f32⟩
  | 62 => ⟨S8x16x64, .f32⟩
  | 63 => ⟨S8x16x64x1, .f32⟩
  | 64 => ⟨S8x16x64x64, .f32⟩
  | 65 => ⟨S8x16x64x64, .f32⟩
  | 66 => ⟨S8x16x64x64, .f32⟩
  | 67 => ⟨S_, .f32⟩
  | 68 => ⟨S8x16x64, .f32⟩
  | 69 => ⟨S8x16x64x1, .f32⟩
  | 70 => ⟨S8x16x64x64, .f32⟩
  | 71 => ⟨S8x16x64x64, .f32⟩
  | 72 => ⟨S8x16x64x512, .f32⟩
  | 73 => ⟨S8x16x64x512, .f32⟩
  | 74 => ⟨S8x16x64x512, .f32⟩
  | 75 => ⟨S_, .f32⟩
  | 76 => ⟨S8x16x64x512, .f32⟩
  | 77 => ⟨S8x16x64x512, .f32⟩
  | 78 => ⟨S_, .f32⟩
  | 79 => ⟨S8x16x64x512, .f32⟩
  | 80 => ⟨S8x16x64x512, .f32⟩
  | 81 => ⟨S8x16x64x512, .f32⟩
  | 82 => ⟨S8x512x512, .f32⟩
  | 83 => ⟨S8x16x64x512, .f32⟩
  | 84 => ⟨S8x1x1x512, .f32⟩
  | 85 => ⟨S8x16x64x512, .f32⟩
  | 86 => ⟨S8x16x64x512, .f32⟩
  | 87 => ⟨S8x16x64x512, .f32⟩
  | 88 => ⟨S8x16x64x512, .f32⟩
  | 89 => ⟨S_, .f32⟩
  | 90 => ⟨S8x16x64x512, .f32⟩
  | 91 => ⟨S8x16x64x512, .f32⟩
  | 92 => ⟨S_, .f32⟩
  | 93 => ⟨S8x16x64x512, .f32⟩
  | 94 => ⟨S8x16x64x512, .f32⟩
  | 95 => ⟨S8x16x64x512, .f32⟩
  | 96 => ⟨S8x512x512, .f32⟩
  | 97 => ⟨S8x16x64x512, .f32⟩
  | 98 => ⟨S8x1x1x512, .f32⟩
  | 99 => ⟨S8x16x64x512, .f32⟩
  | 100 => ⟨S8x16x64x512, .f32⟩
  | 101 => ⟨S_, .f32⟩
  | 102 => ⟨S8x16x64, .f32⟩
  | 103 => ⟨S8x16x64x1, .f32⟩
  | 104 => ⟨S_, .f32⟩
  | 105 => ⟨S8x16x64x1, .f32⟩
  | 106 => ⟨S8x16x64x1, .f32⟩
  | 107 => ⟨S8x16x64x512, .f32⟩
  | 108 => ⟨S8x16x64x512, .f32⟩
  | 109 => ⟨S8x16x64x512, .f32⟩
  | 110 => ⟨S_, .f32⟩
  | 111 => ⟨S8x16x64, .f32⟩
  | 112 => ⟨S8x16x64x1, .f32⟩
  | 113 => ⟨S_, .f32⟩
  | 114 => ⟨S8x16x64x1, .f32⟩
  | 115 => ⟨S8x16x64x1, .f32⟩
  | 116 => ⟨S8x16x64x512, .f32⟩
  | 117 => ⟨S8x16x64x512, .f32⟩
  | 118 => ⟨S_, .f32⟩
  | 119 => ⟨S8x16x64x1, .f32⟩
  | 120 => ⟨S8x16x64x1, .f32⟩
  | 121 => ⟨S8x16x64x1, .f32⟩
  | 122 => ⟨S8x16x64x512, .f32⟩
  | 123 => ⟨S8x16x64x512, .f32⟩
  | 124 => ⟨S8x1x1x512, .f32⟩
  | 125 => ⟨S8x16x64x512, .f32⟩
  | 126 => ⟨S8x16x64x512, .f32⟩
  | 127 => ⟨S8x1x1x512, .f32⟩
  | _ => ⟨S16x64x1024, .f32⟩

abbrev hbmTy0_3 (i : Nat) : BufTy := match i % 128 with
  | 0 => ⟨S8x16x64x512, .f32⟩
  | 1 => ⟨S8x16x64x512, .f32⟩
  | 2 => ⟨S_, .f32⟩
  | 3 => ⟨S16x64x512, .f32⟩
  | 4 => ⟨S_, .f32⟩
  | 5 => ⟨S16x64x512, .f32⟩
  | 6 => ⟨S16x64x512, .f32⟩
  | 7 => ⟨S512x1024, .f32⟩
  | 8 => ⟨S16x64x1024, .f32⟩
  | 9 => ⟨S1x1x1024, .f32⟩
  | 10 => ⟨S16x64x1024, .f32⟩
  | 11 => ⟨S16x64x1024, .f32⟩
  | _ => ⟨S16x64x1024, .f32⟩

abbrev hbmTy (i : Nat) : BufTy := match i / 128 with
  | 0 => hbmTy0_0 i
  | 1 => hbmTy0_1 i
  | 2 => hbmTy0_2 i
  | 3 => hbmTy0_3 i
  | _ => ⟨S16x64x1024, .f32⟩

abbrev bufTy : (tb : Table) → Fin (tcTables nBuf tb) → BufTy
  | .hbm, ⟨i, _⟩ => hbmTy i
  | _, _ => ⟨S16x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_c : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_c : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_0 : Ref sig .tc := ⟨.hbm, 37, rfl⟩
abbrev main_call0_v12 : Ref sig .tc := ⟨.hbm, 38, rfl⟩
abbrev main_call0_v13 : Ref sig .tc := ⟨.hbm, 39, rfl⟩
abbrev main_v1 : Ref sig .tc := ⟨.hbm, 40, rfl⟩
abbrev main_c_0 : Ref sig .tc := ⟨.hbm, 41, rfl⟩
abbrev main_call1_v0 : Ref sig .tc := ⟨.hbm, 42, rfl⟩
abbrev main_call1_c : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_c_1 : Ref sig .tc := ⟨.hbm, 49, rfl⟩
abbrev main_call1_v5 : Ref sig .tc := ⟨.hbm, 50, rfl⟩
abbrev main_call1_v6 : Ref sig .tc := ⟨.hbm, 51, rfl⟩
abbrev main_call1_c_2 : Ref sig .tc := ⟨.hbm, 52, rfl⟩
abbrev main_call1_v7 : Ref sig .tc := ⟨.hbm, 53, rfl⟩
abbrev main_call1_v8 : Ref sig .tc := ⟨.hbm, 54, rfl⟩
abbrev main_call1_c_3 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_v2 : Ref sig .tc := ⟨.hbm, 62, rfl⟩
abbrev main_v3 : Ref sig .tc := ⟨.hbm, 63, rfl⟩
abbrev main_v4 : Ref sig .tc := ⟨.hbm, 64, rfl⟩
abbrev main_v5 : Ref sig .tc := ⟨.hbm, 65, rfl⟩
abbrev main_v6 : Ref sig .tc := ⟨.hbm, 66, rfl⟩
abbrev main_v7 : Ref sig .tc := ⟨.hbm, 67, rfl⟩
abbrev main_v8 : Ref sig .tc := ⟨.hbm, 68, rfl⟩
abbrev main_cst : Ref sig .tc := ⟨.hbm, 69, rfl⟩
abbrev main_v9 : Ref sig .tc := ⟨.hbm, 70, rfl⟩
abbrev main_v10 : Ref sig .tc := ⟨.hbm, 71, rfl⟩
abbrev main_v11 : Ref sig .tc := ⟨.hbm, 72, rfl⟩
abbrev main_v12 : Ref sig .tc := ⟨.hbm, 73, rfl⟩
abbrev main_v13 : Ref sig .tc := ⟨.hbm, 74, rfl⟩
abbrev main_v14 : Ref sig .tc := ⟨.hbm, 75, rfl⟩
abbrev main_v15 : Ref sig .tc := ⟨.hbm, 76, rfl⟩
abbrev main_v16 : Ref sig .tc := ⟨.hbm, 77, rfl⟩
abbrev main_v17 : Ref sig .tc := ⟨.hbm, 78, rfl⟩
abbrev main_v18 : Ref sig .tc := ⟨.hbm, 79, rfl⟩
abbrev main_v19 : Ref sig .tc := ⟨.hbm, 80, rfl⟩
abbrev main_v20 : Ref sig .tc := ⟨.hbm, 81, rfl⟩
abbrev main_v21 : Ref sig .tc := ⟨.hbm, 82, rfl⟩
abbrev main_v22 : Ref sig .tc := ⟨.hbm, 83, rfl⟩
abbrev main_v23 : Ref sig .tc := ⟨.hbm, 84, rfl⟩
abbrev main_v24 : Ref sig .tc := ⟨.hbm, 85, rfl⟩
abbrev main_v25 : Ref sig .tc := ⟨.hbm, 86, rfl⟩
abbrev main_cst_1 : Ref sig .tc := ⟨.hbm, 87, rfl⟩
abbrev main_v26 : Ref sig .tc := ⟨.hbm, 88, rfl⟩
abbrev main_v27 : Ref sig .tc := ⟨.hbm, 89, rfl⟩
abbrev main_cst_2 : Ref sig .tc := ⟨.hbm, 90, rfl⟩
abbrev main_v28 : Ref sig .tc := ⟨.hbm, 91, rfl⟩
abbrev main_v29 : Ref sig .tc := ⟨.hbm, 92, rfl⟩
abbrev main_v30 : Ref sig .tc := ⟨.hbm, 93, rfl⟩
abbrev main_v31 : Ref sig .tc := ⟨.hbm, 94, rfl⟩
abbrev main_v32 : Ref sig .tc := ⟨.hbm, 95, rfl⟩
abbrev main_v33 : Ref sig .tc := ⟨.hbm, 96, rfl⟩
abbrev main_v34 : Ref sig .tc := ⟨.hbm, 97, rfl⟩
abbrev main_v35 : Ref sig .tc := ⟨.hbm, 98, rfl⟩
abbrev main_v36 : Ref sig .tc := ⟨.hbm, 99, rfl⟩
abbrev main_v37 : Ref sig .tc := ⟨.hbm, 100, rfl⟩
abbrev main_v38 : Ref sig .tc := ⟨.hbm, 101, rfl⟩
abbrev main_v39 : Ref sig .tc := ⟨.hbm, 102, rfl⟩
abbrev main_v40 : Ref sig .tc := ⟨.hbm, 103, rfl⟩
abbrev main_v41 : Ref sig .tc := ⟨.hbm, 104, rfl⟩
abbrev main_v42 : Ref sig .tc := ⟨.hbm, 105, rfl⟩
abbrev main_v43 : Ref sig .tc := ⟨.hbm, 106, rfl⟩
abbrev main_cst_3 : Ref sig .tc := ⟨.hbm, 107, rfl⟩
abbrev main_v44 : Ref sig .tc := ⟨.hbm, 108, rfl⟩
abbrev main_v45 : Ref sig .tc := ⟨.hbm, 109, rfl⟩
abbrev main_cst_4 : Ref sig .tc := ⟨.hbm, 110, rfl⟩
abbrev main_v46 : Ref sig .tc := ⟨.hbm, 111, rfl⟩
abbrev main_v47 : Ref sig .tc := ⟨.hbm, 112, rfl⟩
abbrev main_v48 : Ref sig .tc := ⟨.hbm, 113, rfl⟩
abbrev main_v49 : Ref sig .tc := ⟨.hbm, 114, rfl⟩
abbrev main_v50 : Ref sig .tc := ⟨.hbm, 115, rfl⟩
abbrev main_v51 : Ref sig .tc := ⟨.hbm, 116, rfl⟩
abbrev main_v52 : Ref sig .tc := ⟨.hbm, 117, rfl⟩
abbrev main_v53 : Ref sig .tc := ⟨.hbm, 118, rfl⟩
abbrev main_cst_5 : Ref sig .tc := ⟨.hbm, 119, rfl⟩
abbrev main_v54 : Ref sig .tc := ⟨.hbm, 120, rfl⟩
abbrev main_v55 : Ref sig .tc := ⟨.hbm, 121, rfl⟩
abbrev main_v56 : Ref sig .tc := ⟨.hbm, 122, rfl⟩
abbrev main_v57 : Ref sig .tc := ⟨.hbm, 123, rfl⟩
abbrev main_v58 : Ref sig .tc := ⟨.hbm, 124, rfl⟩
abbrev main_v59 : Ref sig .tc := ⟨.hbm, 125, rfl⟩
abbrev main_v60 : Ref sig .tc := ⟨.hbm, 126, rfl⟩
abbrev main_v61 : Ref sig .tc := ⟨.hbm, 127, rfl⟩
abbrev main_v62 : Ref sig .tc := ⟨.hbm, 128, rfl⟩
abbrev main_v63 : Ref sig .tc := ⟨.hbm, 129, rfl⟩
abbrev main_v64 : Ref sig .tc := ⟨.hbm, 130, rfl⟩
abbrev main_v65 : Ref sig .tc := ⟨.hbm, 131, rfl⟩
abbrev main_v66 : Ref sig .tc := ⟨.hbm, 132, rfl⟩
abbrev main_v67 : Ref sig .tc := ⟨.hbm, 133, rfl⟩
abbrev main_cst_6 : Ref sig .tc := ⟨.hbm, 134, rfl⟩
abbrev main_v68 : Ref sig .tc := ⟨.hbm, 135, rfl⟩
abbrev main_cst_7 : Ref sig .tc := ⟨.hbm, 136, rfl⟩
abbrev main_v69 : Ref sig .tc := ⟨.hbm, 137, rfl⟩
abbrev main_v70 : Ref sig .tc := ⟨.hbm, 138, rfl⟩
abbrev main_v71 : Ref sig .tc := ⟨.hbm, 139, rfl⟩
abbrev main_v72 : Ref sig .tc := ⟨.hbm, 140, rfl⟩
abbrev main_v73 : Ref sig .tc := ⟨.hbm, 141, rfl⟩
abbrev main_v74 : Ref sig .tc := ⟨.hbm, 142, rfl⟩
abbrev main_cst_8 : Ref sig .tc := ⟨.hbm, 143, rfl⟩
abbrev main_v75 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_v79 : Ref sig .tc := ⟨.hbm, 148, rfl⟩
abbrev main_v80 : Ref sig .tc := ⟨.hbm, 149, rfl⟩
abbrev main_v81 : Ref sig .tc := ⟨.hbm, 150, rfl⟩
abbrev main_cst_9 : Ref sig .tc := ⟨.hbm, 151, rfl⟩
abbrev main_v82 : Ref sig .tc := ⟨.hbm, 152, rfl⟩
abbrev main_v83 : Ref sig .tc := ⟨.hbm, 153, rfl⟩
abbrev main_cst_10 : Ref sig .tc := ⟨.hbm, 154, rfl⟩
abbrev main_v84 : Ref sig .tc := ⟨.hbm, 155, rfl⟩
abbrev main_v85 : Ref sig .tc := ⟨.hbm, 156, rfl⟩
abbrev main_v86 : Ref sig .tc := ⟨.hbm, 157, rfl⟩
abbrev main_v87 : Ref sig .tc := ⟨.hbm, 158, rfl⟩
abbrev main_v88 : Ref sig .tc := ⟨.hbm, 159, rfl⟩
abbrev main_v89 : Ref sig .tc := ⟨.hbm, 160, rfl⟩
abbrev main_v90 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_cst_11 : Ref sig .tc := ⟨.hbm, 165, rfl⟩
abbrev main_v94 : Ref sig .tc := ⟨.hbm, 166, rfl⟩
abbrev main_v95 : Ref sig .tc := ⟨.hbm, 167, rfl⟩
abbrev main_cst_12 : Ref sig .tc := ⟨.hbm, 168, rfl⟩
abbrev main_v96 : Ref sig .tc := ⟨.hbm, 169, rfl⟩
abbrev main_v97 : Ref sig .tc := ⟨.hbm, 170, rfl⟩
abbrev main_v98 : Ref sig .tc := ⟨.hbm, 171, rfl⟩
abbrev main_v99 : Ref sig .tc := ⟨.hbm, 172, rfl⟩
abbrev main_v100 : Ref sig .tc := ⟨.hbm, 173, rfl⟩
abbrev main_v101 : Ref sig .tc := ⟨.hbm, 174, rfl⟩
abbrev main_v102 : Ref sig .tc := ⟨.hbm, 175, rfl⟩
abbrev main_v103 : Ref sig .tc := ⟨.hbm, 176, rfl⟩
abbrev main_cst_13 : Ref sig .tc := ⟨.hbm, 177, rfl⟩
abbrev main_v104 : Ref sig .tc := ⟨.hbm, 178, rfl⟩
abbrev main_v105 : Ref sig .tc := ⟨.hbm, 179, rfl⟩
abbrev main_cst_14 : Ref sig .tc := ⟨.hbm, 180, rfl⟩
abbrev main_v106 : Ref sig .tc := ⟨.hbm, 181, rfl⟩
abbrev main_v107 : Ref sig .tc := ⟨.hbm, 182, rfl⟩
abbrev main_v108 : Ref sig .tc := ⟨.hbm, 183, rfl⟩
abbrev main_v109 : Ref sig .tc := ⟨.hbm, 184, rfl⟩
abbrev main_v110 : Ref sig .tc := ⟨.hbm, 185, rfl⟩
abbrev main_cst_15 : Ref sig .tc := ⟨.hbm, 186, rfl⟩
abbrev main_v111 : Ref sig .tc := ⟨.hbm, 187, rfl⟩
abbrev main_v112 : Ref sig .tc := ⟨.hbm, 188, rfl⟩
abbrev main_cst_16 : Ref sig .tc := ⟨.hbm, 189, rfl⟩
abbrev main_v113 : Ref sig .tc := ⟨.hbm, 190, rfl⟩
abbrev main_v114 : Ref sig .tc := ⟨.hbm, 191, rfl⟩
abbrev main_v115 : Ref sig .tc := ⟨.hbm, 192, rfl⟩
abbrev main_v116 : Ref sig .tc := ⟨.hbm, 193, rfl⟩
abbrev main_cst_17 : Ref sig .tc := ⟨.hbm, 194, rfl⟩
abbrev main_v117 : Ref sig .tc := ⟨.hbm, 195, rfl⟩
abbrev main_v118 : Ref sig .tc := ⟨.hbm, 196, rfl⟩
abbrev main_v119 : Ref sig .tc := ⟨.hbm, 197, rfl⟩
abbrev main_v120 : Ref sig .tc := ⟨.hbm, 198, rfl⟩
abbrev main_v121 : Ref sig .tc := ⟨.hbm, 199, rfl⟩
abbrev main_v122 : Ref sig .tc := ⟨.hbm, 200, rfl⟩
abbrev main_v123 : Ref sig .tc := ⟨.hbm, 201, rfl⟩
abbrev main_v124 : Ref sig .tc := ⟨.hbm, 202, rfl⟩
abbrev main_v125 : Ref sig .tc := ⟨.hbm, 203, rfl⟩
abbrev main_v126 : Ref sig .tc := ⟨.hbm, 204, rfl⟩
abbrev main_v127 : Ref sig .tc := ⟨.hbm, 205, rfl⟩
abbrev main_cst_18 : Ref sig .tc := ⟨.hbm, 206, rfl⟩
abbrev main_v128 : Ref sig .tc := ⟨.hbm, 207, rfl⟩
abbrev main_cst_19 : Ref sig .tc := ⟨.hbm, 208, rfl⟩
abbrev main_v129 : Ref sig .tc := ⟨.hbm, 209, rfl⟩
abbrev main_v130 : Ref sig .tc := ⟨.hbm, 210, rfl⟩
abbrev main_v131 : Ref sig .tc := ⟨.hbm, 211, rfl⟩
abbrev main_v132 : Ref sig .tc := ⟨.hbm, 212, rfl⟩
abbrev main_v133 : Ref sig .tc := ⟨.hbm, 213, rfl⟩
abbrev main_v134 : Ref sig .tc := ⟨.hbm, 214, rfl⟩
abbrev main_v135 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_v139 : Ref sig .tc := ⟨.hbm, 219, rfl⟩
abbrev main_v140 : Ref sig .tc := ⟨.hbm, 220, rfl⟩
abbrev main_v141 : Ref sig .tc := ⟨.hbm, 221, rfl⟩
abbrev main_v142 : Ref sig .tc := ⟨.hbm, 222, rfl⟩
abbrev main_v143 : Ref sig .tc := ⟨.hbm, 223, rfl⟩
abbrev main_cst_20 : Ref sig .tc := ⟨.hbm, 224, rfl⟩
abbrev main_v144 : Ref sig .tc := ⟨.hbm, 225, rfl⟩
abbrev main_cst_21 : Ref sig .tc := ⟨.hbm, 226, rfl⟩
abbrev main_v145 : Ref sig .tc := ⟨.hbm, 227, rfl⟩
abbrev main_v146 : Ref sig .tc := ⟨.hbm, 228, rfl⟩
abbrev main_v147 : Ref sig .tc := ⟨.hbm, 229, rfl⟩
abbrev main_v148 : Ref sig .tc := ⟨.hbm, 230, rfl⟩
abbrev main_v149 : Ref sig .tc := ⟨.hbm, 231, rfl⟩
abbrev main_v150 : Ref sig .tc := ⟨.hbm, 232, rfl⟩
abbrev main_cst_22 : Ref sig .tc := ⟨.hbm, 233, rfl⟩
abbrev main_v151 : Ref sig .tc := ⟨.hbm, 234, rfl⟩
abbrev main_v152 : Ref sig .tc := ⟨.hbm, 235, rfl⟩
abbrev main_v153 : Ref sig .tc := ⟨.hbm, 236, rfl⟩
abbrev main_v154 : Ref sig .tc := ⟨.hbm, 237, rfl⟩
abbrev main_v155 : Ref sig .tc := ⟨.hbm, 238, rfl⟩
abbrev main_v156 : Ref sig .tc := ⟨.hbm, 239, rfl⟩
abbrev main_v157 : Ref sig .tc := ⟨.hbm, 240, rfl⟩
abbrev main_cst_23 : Ref sig .tc := ⟨.hbm, 241, rfl⟩
abbrev main_v158 : Ref sig .tc := ⟨.hbm, 242, rfl⟩
abbrev main_v159 : Ref sig .tc := ⟨.hbm, 243, rfl⟩
abbrev main_cst_24 : Ref sig .tc := ⟨.hbm, 244, rfl⟩
abbrev main_v160 : Ref sig .tc := ⟨.hbm, 245, rfl⟩
abbrev main_v161 : Ref sig .tc := ⟨.hbm, 246, rfl⟩
abbrev main_v162 : Ref sig .tc := ⟨.hbm, 247, rfl⟩
abbrev main_v163 : Ref sig .tc := ⟨.hbm, 248, rfl⟩
abbrev main_v164 : Ref sig .tc := ⟨.hbm, 249, rfl⟩
abbrev main_v165 : Ref sig .tc := ⟨.hbm, 250, rfl⟩
abbrev main_v166 : Ref sig .tc := ⟨.hbm, 251, rfl⟩
abbrev main_v167 : Ref sig .tc := ⟨.hbm, 252, rfl⟩
abbrev main_v168 : Ref sig .tc := ⟨.hbm, 253, rfl⟩
abbrev main_v169 : Ref sig .tc := ⟨.hbm, 254, rfl⟩
abbrev main_cst_25 : Ref sig .tc := ⟨.hbm, 255, rfl⟩
abbrev main_v170 : Ref sig .tc := ⟨.hbm, 256, rfl⟩
abbrev main_v171 : Ref sig .tc := ⟨.hbm, 257, rfl⟩
abbrev main_cst_26 : Ref sig .tc := ⟨.hbm, 258, rfl⟩
abbrev main_v172 : Ref sig .tc := ⟨.hbm, 259, rfl⟩
abbrev main_v173 : Ref sig .tc := ⟨.hbm, 260, rfl⟩
abbrev main_v174 : Ref sig .tc := ⟨.hbm, 261, rfl⟩
abbrev main_v175 : Ref sig .tc := ⟨.hbm, 262, rfl⟩
abbrev main_v176 : Ref sig .tc := ⟨.hbm, 263, rfl⟩
abbrev main_v177 : Ref sig .tc := ⟨.hbm, 264, rfl⟩
abbrev main_v178 : Ref sig .tc := ⟨.hbm, 265, rfl⟩
abbrev main_v179 : Ref sig .tc := ⟨.hbm, 266, rfl⟩
abbrev main_cst_27 : Ref sig .tc := ⟨.hbm, 267, rfl⟩
abbrev main_v180 : Ref sig .tc := ⟨.hbm, 268, rfl⟩
abbrev main_v181 : Ref sig .tc := ⟨.hbm, 269, rfl⟩
abbrev main_cst_28 : Ref sig .tc := ⟨.hbm, 270, rfl⟩
abbrev main_v182 : Ref sig .tc := ⟨.hbm, 271, rfl⟩
abbrev main_v183 : Ref sig .tc := ⟨.hbm, 272, rfl⟩
abbrev main_v184 : Ref sig .tc := ⟨.hbm, 273, rfl⟩
abbrev main_v185 : Ref sig .tc := ⟨.hbm, 274, rfl⟩
abbrev main_v186 : Ref sig .tc := ⟨.hbm, 275, rfl⟩
abbrev main_cst_29 : Ref sig .tc := ⟨.hbm, 276, rfl⟩
abbrev main_v187 : Ref sig .tc := ⟨.hbm, 277, rfl⟩
abbrev main_v188 : Ref sig .tc := ⟨.hbm, 278, rfl⟩
abbrev main_cst_30 : Ref sig .tc := ⟨.hbm, 279, rfl⟩
abbrev main_v189 : Ref sig .tc := ⟨.hbm, 280, rfl⟩
abbrev main_v190 : Ref sig .tc := ⟨.hbm, 281, rfl⟩
abbrev main_v191 : Ref sig .tc := ⟨.hbm, 282, rfl⟩
abbrev main_v192 : Ref sig .tc := ⟨.hbm, 283, rfl⟩
abbrev main_cst_31 : Ref sig .tc := ⟨.hbm, 284, rfl⟩
abbrev main_v193 : Ref sig .tc := ⟨.hbm, 285, rfl⟩
abbrev main_v194 : Ref sig .tc := ⟨.hbm, 286, rfl⟩
abbrev main_v195 : Ref sig .tc := ⟨.hbm, 287, rfl⟩
abbrev main_v196 : Ref sig .tc := ⟨.hbm, 288, rfl⟩
abbrev main_v197 : Ref sig .tc := ⟨.hbm, 289, rfl⟩
abbrev main_v198 : Ref sig .tc := ⟨.hbm, 290, rfl⟩
abbrev main_v199 : Ref sig .tc := ⟨.hbm, 291, rfl⟩
abbrev main_v200 : Ref sig .tc := ⟨.hbm, 292, rfl⟩
abbrev main_v201 : Ref sig .tc := ⟨.hbm, 293, rfl⟩
abbrev main_v202 : Ref sig .tc := ⟨.hbm, 294, rfl⟩
abbrev main_v203 : Ref sig .tc := ⟨.hbm, 295, rfl⟩
abbrev main_cst_32 : Ref sig .tc := ⟨.hbm, 296, rfl⟩
abbrev main_v204 : Ref sig .tc := ⟨.hbm, 297, rfl⟩
abbrev main_cst_33 : Ref sig .tc := ⟨.hbm, 298, rfl⟩
abbrev main_v205 : Ref sig .tc := ⟨.hbm, 299, rfl⟩
abbrev main_v206 : Ref sig .tc := ⟨.hbm, 300, rfl⟩
abbrev main_v207 : Ref sig .tc := ⟨.hbm, 301, rfl⟩
abbrev main_v208 : Ref sig .tc := ⟨.hbm, 302, rfl⟩
abbrev main_v209 : Ref sig .tc := ⟨.hbm, 303, rfl⟩
abbrev main_v210 : Ref sig .tc := ⟨.hbm, 304, rfl⟩
abbrev main_v211 : Ref sig .tc := ⟨.hbm, 305, rfl⟩
abbrev main_v212 : Ref sig .tc := ⟨.hbm, 306, rfl⟩
abbrev main_v213 : Ref sig .tc := ⟨.hbm, 307, rfl⟩
abbrev main_v214 : Ref sig .tc := ⟨.hbm, 308, rfl⟩
abbrev main_v215 : Ref sig .tc := ⟨.hbm, 309, rfl⟩
abbrev main_v216 : Ref sig .tc := ⟨.hbm, 310, rfl⟩
abbrev main_v217 : Ref sig .tc := ⟨.hbm, 311, rfl⟩
abbrev main_v218 : Ref sig .tc := ⟨.hbm, 312, rfl⟩
abbrev main_v219 : Ref sig .tc := ⟨.hbm, 313, rfl⟩
abbrev main_cst_34 : Ref sig .tc := ⟨.hbm, 314, rfl⟩
abbrev main_v220 : Ref sig .tc := ⟨.hbm, 315, rfl⟩
abbrev main_cst_35 : Ref sig .tc := ⟨.hbm, 316, rfl⟩
abbrev main_v221 : Ref sig .tc := ⟨.hbm, 317, rfl⟩
abbrev main_v222 : Ref sig .tc := ⟨.hbm, 318, rfl⟩
abbrev main_v223 : Ref sig .tc := ⟨.hbm, 319, rfl⟩
abbrev main_v224 : Ref sig .tc := ⟨.hbm, 320, rfl⟩
abbrev main_v225 : Ref sig .tc := ⟨.hbm, 321, rfl⟩
abbrev main_v226 : Ref sig .tc := ⟨.hbm, 322, rfl⟩
abbrev main_cst_36 : Ref sig .tc := ⟨.hbm, 323, rfl⟩
abbrev main_v227 : Ref sig .tc := ⟨.hbm, 324, rfl⟩
abbrev main_v228 : Ref sig .tc := ⟨.hbm, 325, rfl⟩
abbrev main_v229 : Ref sig .tc := ⟨.hbm, 326, rfl⟩
abbrev main_v230 : Ref sig .tc := ⟨.hbm, 327, rfl⟩
abbrev main_v231 : Ref sig .tc := ⟨.hbm, 328, rfl⟩
abbrev main_v232 : Ref sig .tc := ⟨.hbm, 329, rfl⟩
abbrev main_v233 : Ref sig .tc := ⟨.hbm, 330, rfl⟩
abbrev main_cst_37 : Ref sig .tc := ⟨.hbm, 331, rfl⟩
abbrev main_v234 : Ref sig .tc := ⟨.hbm, 332, rfl⟩
abbrev main_v235 : Ref sig .tc := ⟨.hbm, 333, rfl⟩
abbrev main_cst_38 : Ref sig .tc := ⟨.hbm, 334, rfl⟩
abbrev main_v236 : Ref sig .tc := ⟨.hbm, 335, rfl⟩
abbrev main_v237 : Ref sig .tc := ⟨.hbm, 336, rfl⟩
abbrev main_v238 : Ref sig .tc := ⟨.hbm, 337, rfl⟩
abbrev main_v239 : Ref sig .tc := ⟨.hbm, 338, rfl⟩
abbrev main_v240 : Ref sig .tc := ⟨.hbm, 339, rfl⟩
abbrev main_v241 : Ref sig .tc := ⟨.hbm, 340, rfl⟩
abbrev main_v242 : Ref sig .tc := ⟨.hbm, 341, rfl⟩
abbrev main_v243 : Ref sig .tc := ⟨.hbm, 342, rfl⟩
abbrev main_v244 : Ref sig .tc := ⟨.hbm, 343, rfl⟩
abbrev main_v245 : Ref sig .tc := ⟨.hbm, 344, rfl⟩
abbrev main_cst_39 : Ref sig .tc := ⟨.hbm, 345, rfl⟩
abbrev main_v246 : Ref sig .tc := ⟨.hbm, 346, rfl⟩
abbrev main_v247 : Ref sig .tc := ⟨.hbm, 347, rfl⟩
abbrev main_cst_40 : Ref sig .tc := ⟨.hbm, 348, rfl⟩
abbrev main_v248 : Ref sig .tc := ⟨.hbm, 349, rfl⟩
abbrev main_v249 : Ref sig .tc := ⟨.hbm, 350, rfl⟩
abbrev main_v250 : Ref sig .tc := ⟨.hbm, 351, rfl⟩
abbrev main_v251 : Ref sig .tc := ⟨.hbm, 352, rfl⟩
abbrev main_v252 : Ref sig .tc := ⟨.hbm, 353, rfl⟩
abbrev main_v253 : Ref sig .tc := ⟨.hbm, 354, rfl⟩
abbrev main_v254 : Ref sig .tc := ⟨.hbm, 355, rfl⟩
abbrev main_v255 : Ref sig .tc := ⟨.hbm, 356, rfl⟩
abbrev main_cst_41 : Ref sig .tc := ⟨.hbm, 357, rfl⟩
abbrev main_v256 : Ref sig .tc := ⟨.hbm, 358, rfl⟩
abbrev main_v257 : Ref sig .tc := ⟨.hbm, 359, rfl⟩
abbrev main_cst_42 : Ref sig .tc := ⟨.hbm, 360, rfl⟩
abbrev main_v258 : Ref sig .tc := ⟨.hbm, 361, rfl⟩
abbrev main_v259 : Ref sig .tc := ⟨.hbm, 362, rfl⟩
abbrev main_v260 : Ref sig .tc := ⟨.hbm, 363, rfl⟩
abbrev main_v261 : Ref sig .tc := ⟨.hbm, 364, rfl⟩
abbrev main_v262 : Ref sig .tc := ⟨.hbm, 365, rfl⟩
abbrev main_cst_43 : Ref sig .tc := ⟨.hbm, 366, rfl⟩
abbrev main_v263 : Ref sig .tc := ⟨.hbm, 367, rfl⟩
abbrev main_v264 : Ref sig .tc := ⟨.hbm, 368, rfl⟩
abbrev main_cst_44 : Ref sig .tc := ⟨.hbm, 369, rfl⟩
abbrev main_v265 : Ref sig .tc := ⟨.hbm, 370, rfl⟩
abbrev main_v266 : Ref sig .tc := ⟨.hbm, 371, rfl⟩
abbrev main_v267 : Ref sig .tc := ⟨.hbm, 372, rfl⟩
abbrev main_v268 : Ref sig .tc := ⟨.hbm, 373, rfl⟩
abbrev main_cst_45 : Ref sig .tc := ⟨.hbm, 374, rfl⟩
abbrev main_v269 : Ref sig .tc := ⟨.hbm, 375, rfl⟩
abbrev main_v270 : Ref sig .tc := ⟨.hbm, 376, rfl⟩
abbrev main_v271 : Ref sig .tc := ⟨.hbm, 377, rfl⟩
abbrev main_v272 : Ref sig .tc := ⟨.hbm, 378, rfl⟩
abbrev main_v273 : Ref sig .tc := ⟨.hbm, 379, rfl⟩
abbrev main_v274 : Ref sig .tc := ⟨.hbm, 380, rfl⟩
abbrev main_v275 : Ref sig .tc := ⟨.hbm, 381, rfl⟩
abbrev main_v276 : Ref sig .tc := ⟨.hbm, 382, rfl⟩
abbrev main_v277 : Ref sig .tc := ⟨.hbm, 383, rfl⟩
abbrev main_v278 : Ref sig .tc := ⟨.hbm, 384, rfl⟩
abbrev main_v279 : Ref sig .tc := ⟨.hbm, 385, rfl⟩
abbrev main_cst_46 : Ref sig .tc := ⟨.hbm, 386, rfl⟩
abbrev main_v280 : Ref sig .tc := ⟨.hbm, 387, rfl⟩
abbrev main_cst_47 : Ref sig .tc := ⟨.hbm, 388, rfl⟩
abbrev main_v281 : Ref sig .tc := ⟨.hbm, 389, rfl⟩
abbrev main_v282 : Ref sig .tc := ⟨.hbm, 390, rfl⟩
abbrev main_v283 : Ref sig .tc := ⟨.hbm, 391, rfl⟩
abbrev main_v284 : Ref sig .tc := ⟨.hbm, 392, rfl⟩
abbrev main_v285 : Ref sig .tc := ⟨.hbm, 393, rfl⟩
abbrev main_v286 : Ref sig .tc := ⟨.hbm, 394, rfl⟩
abbrev main_v287 : Ref sig .tc := ⟨.hbm, 395, rfl⟩

abbrev nD : Nat := 1
abbrev τ : Topo := Topo.v7x

variable {F : FTy → Type} [FloatOps F]
-- ==== Proof.Held.lean ====
/-
  Holding a whole memref at given contents, as one points-to: shared by every region of both programs.
-/
module

public import Idealize.ShloMosaic.Lib.Pipeline.FrameBody
public import Idealize.ShloMosaic.Lib.VecWindow

@[expose] public section

noncomputable section

namespace Cert.Held

open Idealize.ShloMosaic Idealize.ShloMosaic.TcCoe
open Idealize.SL Idealize.SL.RA Idealize.SL.BI
open scoped Idealize.SL.BI
open Idealize.SL.BI.BIBase Idealize.SL.BI.Laws Idealize.SL.ProofMode

variable {nD : Nat} {τ : Topo} {sig : RefSig} {Val : EltTy → Type}
variable {Ix : Type} [DecidableEq Ix] {Name : Type} [DecidableEq Name] {U : Type} [URA U] {Lvl : Type}

/-- A whole memref held at contents `X` is its buffer held at the one raw contents that reads `X`. -/
theorem owns_raw (c : Thread nD τ) {sp : Space} {sh : Shape} {e : EltTy} {m : Memref sig c.2.kind sp sh e} (h : m.IsWhole)
    (q : PosShare TreeShare) (X : sh.Idx → Val e) :
    (owns c m q X : sProp (MT nD τ sig Ix Val Name U Lvl)) = (m.view.loc c ↦[m.view.set]{q} h.unread X) := by
  unfold owns
  refine equiv_iff.mp ⟨(?_ : (_ : sProp (MT nD τ sig Ix Val Name U Lvl)) ⊢ _), (?_ : (_ : sProp (MT nD τ sig Ix Val Name U Lvl)) ⊢ _)⟩
  · iintro ⟨%f, %hf, H⟩
    obtain rfl := h.eq_unread hf
    iexact H
  · iintro H
    iexists h.unread X
    isplitr; · ipureintro; exact h.read_unread X
    iexact H

/-- A load of a whole two-axis memref reads what it is held at. -/
theorem load2 {sig : RefSig} {κ : Kind} {sp : Space} {e : EltTy} {a b : ℕ} {m : Memref sig κ sp ⟨2, ![a, b]⟩ e} (h : m.IsWhole)
    (inb : ∀ k, (![0, 0] : Fin 2 → ℕ) k + (![a, b] : Fin 2 → ℕ) k ≤ (⟨2, ![a, b]⟩ : Shape).size k) (X : (⟨2, ![a, b]⟩ : Shape).Idx → Val e) :
    m.view.readAt Val (Rect.unit (s := ⟨2, ![a, b]⟩) ![0, 0] ![a, b] inb).toLoadRect (h.unread X) = X :=
  (View.readAt_full m.view _ inb).trans (h.read_unread X)

/-- A load of a whole three-axis memref reads what it is held at. -/
theorem load3 {sig : RefSig} {κ : Kind} {sp : Space} {e : EltTy} {a b c : ℕ} {m : Memref sig κ sp ⟨3, ![a, b, c]⟩ e} (h : m.IsWhole)
    (inb : ∀ k, (![0, 0, 0] : Fin 3 → ℕ) k + (![a, b, c] : Fin 3 → ℕ) k ≤ (⟨3, ![a, b, c]⟩ : Shape).size k)
    (X : (⟨3, ![a, b, c]⟩ : Shape).Idx → Val e) :
    m.view.readAt Val (Rect.unit (s := ⟨3, ![a, b, c]⟩) ![0, 0, 0] ![a, b, c] inb).toLoadRect (h.unread X) = X :=
  (View.readAt_full m.view _ inb).trans (h.read_unread X)

/-- A load of part of a whole memref reads that part of what it is held at. -/
theorem loadPart {sig : RefSig} {κ : Kind} {sp : Space} {sh : Shape} {e : EltTy} {m : Memref sig κ sp sh e} (h : m.IsWhole)
    (r : Rect sh) (X : sh.Idx → Val e) : m.view.readAt Val r.toLoadRect (h.unread X) = View.ld X r :=
  (View.readAt_eq_ld m.view (h.unread X) r).trans (congrArg (fun f => View.ld f r) (h.read_unread X))

/-- A load of a whole two-axis memref just stored whole reads what was stored. -/
theorem reload2 [∀ e, Nonempty (Val e)] {sig : RefSig} {κ : Kind} {sp : Space} {e : EltTy} {a b : ℕ} (v : View sig κ sp ⟨2, ![a, b]⟩ e)
    (inb inb' : ∀ k, (![0, 0] : Fin 2 → ℕ) k + (![a, b] : Fin 2 → ℕ) k ≤ (⟨2, ![a, b]⟩ : Shape).size k)
    (X : (⟨2, ![a, b]⟩ : Shape).Idx → Val e) :
    v.readCov [⟨Rect.unit (s := ⟨2, ![a, b]⟩) ![0, 0] ![a, b] inb', X⟩] (Rect.unit (s := ⟨2, ![a, b]⟩) ![0, 0] ![a, b] inb).toLoadRect = X :=
  View.readCov_full v inb inb' X []

end Cert.Held
-- ==== Proof.KI.Run0.lean ====
/-
  The front end (custom call 0): what its body leaves in its block, run on whole staging memrefs.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Held
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.VecWindow
public import Idealize.ShloMosaic.Lib.WordCmp

@[expose] public section

set_option maxRecDepth 16384

noncomputable section

namespace Cert.KernelIdeal.Own

open Cert.KernelIdeal Cert.KernelIdeal.Gen Cert.Held
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ (UR sig nD τ) ℕ

/-- The front end's pieces of its widest operand: 512 columns of the 8192. -/
def cols (x7 : Vec F S1024x8192 .f32) (o : ℕ) (inb : ∀ a, (![0, o] : Fin 2 → ℕ) a + S1024x512.size a ≤ S1024x8192.size a) : Vec F S1024x512 .f32 :=
  View.ld x7 (Rect.unit (s := S1024x8192) ![0, o] S1024x512.size inb)

/-- The node features the front end leaves, from its operands. -/
def front (x0 : Vec F S1024x16 .f32) (x1 : Vec F S16x32 .f32) (x2 : Vec F S1x512 .f32) (x3 : Vec F S512x32 .f32) (x4 : Vec F S1x512 .f32) (x5 : Vec F S512x512 .f32) (x6 : Vec F S1x512 .f32) (x7 : Vec F S1024x8192 .f32) (x8 : Vec F S1x1024 .f32) (x9 : Vec F S512x1024 .f32) (x10 : Vec F S1x512 .f32) : Vec F S1024x512 .f32 :=
  let s0 := cols x7 0 inb_S1024x8192_S1024x512_0_0
  let s1 := cols x7 512 inb_S1024x8192_S1024x512_0_512
  let s2 := cols x7 1024 inb_S1024x8192_S1024x512_0_1024
  let s3 := cols x7 1536 inb_S1024x8192_S1024x512_0_1536
  let s4 := cols x7 2048 inb_S1024x8192_S1024x512_0_2048
  let s5 := cols x7 2560 inb_S1024x8192_S1024x512_0_2560
  let s6 := cols x7 3072 inb_S1024x8192_S1024x512_0_3072
  let s7 := cols x7 3584 inb_S1024x8192_S1024x512_0_3584
  let s8 := cols x7 4096 inb_S1024x8192_S1024x512_0_4096
  let s9 := cols x7 4608 inb_S1024x8192_S1024x512_0_4608
  let s10 := cols x7 5120 inb_S1024x8192_S1024x512_0_5120
  let s11 := cols x7 5632 inb_S1024x8192_S1024x512_0_5632
  let s12 := cols x7 6144 inb_S1024x8192_S1024x512_0_6144
  let s13 := cols x7 6656 inb_S1024x8192_S1024x512_0_6656
  let s14 := cols x7 7168 inb_S1024x8192_S1024x512_0_7168
  let s15 := cols x7 7680 inb_S1024x8192_S1024x512_0_7680
  let v8 := k0_pay1 x1 x3 x4
  let v10 := k0_pay2 x2
  let v12 := k0_pay3 x0
  let v15 := k0_pay4 x6
  let v31 := k0_pay5 x1 x3 x4 x2 x0 x5 x6 s0
  let v38 := k0_pay6 x1 x3 x4 x2 x0
  let v39 := k0_pay7 x1 x3 x4 x2 x0
  let v76 := k0_pay8 v8 v10 v12 x5 v15 v31 v38 v39 s1 s2 s3
  let v86 := k0_pay9 v8 v10 v12 x5
  let v121 := k0_pay10 v8 v10 v12 x5 v15 v76 v86 s4 s5 s6
  let v133 := k0_pay11 v8 v10 v12 x5 v15
  let v166 := k0_pay12 v8 v10 v12 x5 v15 v121 v133 s7 s8 s9
  let v178 := k0_pay13 v8 v10 v12 x5 v15
  let z := constant S1024x1024 .f32 0x00000000#32
  let v226 := k0_pay14 v8 v10 v12 x5 v15 v166 v178 s10 z s11 s12 s13
  let v227 := k0_pay15 v12
  k0_pay16 v8 v10 v12 x5 v15 v226 v227 s14 s15 x8 x9 x10

/-! ## The body on whole staging memrefs -/

section Body

variable (c : Dev nD)
  (arg0 : Memref sig .tc .vmem S1024x16 .f32) (harg0 : arg0.IsWhole) (arg1 : Memref sig .tc .vmem S16x32 .f32) (harg1 : arg1.IsWhole)
  (arg2 : Memref sig .tc .vmem S1x512 .f32) (harg2 : arg2.IsWhole) (arg3 : Memref sig .tc .vmem S512x32 .f32) (harg3 : arg3.IsWhole)
  (arg4 : Memref sig .tc .vmem S1x512 .f32) (harg4 : arg4.IsWhole) (arg5 : Memref sig .tc .vmem S512x512 .f32) (harg5 : arg5.IsWhole)
  (arg6 : Memref sig .tc .vmem S1x512 .f32) (harg6 : arg6.IsWhole) (arg7 : Memref sig .tc .vmem S1024x8192 .f32) (harg7 : arg7.IsWhole)
  (arg8 : Memref sig .tc .vmem S1x1024 .f32) (harg8 : arg8.IsWhole) (arg9 : Memref sig .tc .vmem S512x1024 .f32) (harg9 : arg9.IsWhole)
  (arg10 : Memref sig .tc .vmem S1x512 .f32) (harg10 : arg10.IsWhole) (arg11 : Memref sig .tc .vmem S1024x512 .f32) (harg11 : arg11.IsWhole)
  (x0 : Vec F S1024x16 .f32) (x1 : Vec F S16x32 .f32) (x2 : Vec F S1x512 .f32) (x3 : Vec F S512x32 .f32) (x4 : Vec F S1x512 .f32) (x5 : Vec F S512x512 .f32) (x6 : Vec F S1x512 .f32) (x7 : Vec F S1024x8192 .f32) (x8 : Vec F S1x1024 .f32) (x9 : Vec F S512x1024 .f32) (x10 : Vec F S1x512 .f32)

/-- The inputs' staging memrefs, held at their blocks. -/
abbrev ins0 : sProp 𝕄 :=
  iprop(owns (c : Thread nD τ) arg0 fullShare x0 ∗ owns (c : Thread nD τ) arg1 fullShare x1 ∗ owns (c : Thread nD τ) arg2 fullShare x2 ∗
    owns (c : Thread nD τ) arg3 fullShare x3 ∗ owns (c : Thread nD τ) arg4 fullShare x4 ∗ owns (c : Thread nD τ) arg5 fullShare x5 ∗
    owns (c : Thread nD τ) arg6 fullShare x6 ∗ owns (c : Thread nD τ) arg7 fullShare x7 ∗ owns (c : Thread nD τ) arg8 fullShare x8 ∗
    owns (c : Thread nD τ) arg9 fullShare x9 ∗ owns (c : Thread nD τ) arg10 fullShare x10)

set_option maxHeartbeats 1000000 in
/-- The body leaves the inputs alone and the output's memref at the node features. -/
theorem run0 (d : Vec F S1024x512 .f32) (E : Set ℕ) (K : PUnit → sProp 𝕄) :
    iprop(ins0 c arg0 arg1 arg2 arg3 arg4 arg5 arg6 arg7 arg8 arg9 arg10 x0 x1 x2 x3 x4 x5 x6 x7 x8 x9 x10 ∗ owns (c : Thread nD τ) arg11 fullShare d
        ∗ (iprop(ins0 c arg0 arg1 arg2 arg3 arg4 arg5 arg6 arg7 arg8 arg9 arg10 x0 x1 x2 x3 x4 x5 x6 x7 x8 x9 x10
            ∗ owns (c : Thread nD τ) arg11 fullShare (front x0 x1 x2 x3 x4 x5 x6 x7 x8 x9 x10)) -∗ K ⟨⟩))
      ⊢ wp frame (wpE (defs₀ (F := F)) Variants.none c none) E
          (cc0__frontend_body
            arg0 harg0 arg1 harg1 arg2 harg2 arg3 harg3 arg4 harg4 arg5 harg5 arg6 harg6 arg7 harg7 arg8 harg8 arg9 harg9 arg10 harg10
            arg11 harg11) K := by
  rw [owns_raw _ harg11 _ d]
  unfold ins0
  rw [owns_raw _ harg0, owns_raw _ harg1, owns_raw _ harg2, owns_raw _ harg3, owns_raw _ harg4, owns_raw _ harg5, owns_raw _ harg6, owns_raw _ harg7, owns_raw _ harg8, owns_raw _ harg9, owns_raw _ harg10]
  simp only [cc0__frontend_body_eq_skeleton]; unfold cc0__frontend_body_skel
  simp only [k0_part1_eq_skeleton, k0_part2_eq_skeleton, k0_part3_eq_skeleton, k0_part4_eq_skeleton, k0_part5_eq_skeleton, k0_part6_eq_skeleton]
  iintro ⟨⟨H0, H1, H2, H3, H4, H5, H6, H7, H8, H9, H10⟩, H11, Hk⟩
  sl_exec
  sl_step
  iapply Hk
  isplitr [H11]
  · iframe H0 H1 H2 H3 H4 H5 H6 H7 H8 H9 H10
  · unfold owns; iexists _; isplitr; swap; (· iexact H11)
    ipureintro
    refine (View.read_writes_full _ _ _ _ _).trans ?_
    unfold front cols
    sl_unfold_run_names
    simp only [load2]
    simp only [loadPart]

end Body

end Cert.KernelIdeal.Own

end
-- ==== Proof.KI.Dat0.lean ====
/-
  The front end (custom call 0): its pipeline's proof data and the library's obligation on its body.
-/
module

public import proofs.«01_k».proof.Proof.KI.Run0

@[expose] public section

set_option maxRecDepth 16384

noncomputable section

namespace Cert.KernelIdeal.Own

open Cert.KernelIdeal Cert.KernelIdeal.Gen Cert.Held
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ (UR sig nD τ) ℕ

/-! ## The call's proof data, from any contents -/

variable (V : (c : Dev nD) → (b : Ref sig .tc) → Buf (Elt F) ((c : Thread nD τ).loc b))

/-- Window `w`'s block at point `t`, read off its array. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The node features, the call's one point's output. -/
def feats (c : Dev nD) (t : Fin cfg0.N) : Vec F S1024x512 .f32 :=
  front (blk0 V c 0 t) (blk0 V c 1 t) (blk0 V c 2 t) (blk0 V c 3 t) (blk0 V c 4 t) (blk0 V c 5 t) (blk0 V c 6 t) (blk0 V c 7 t)
  (blk0 V c 8 t) (blk0 V c 9 t) (blk0 V c 10 t)

/-- The proof data: every input's buffer keeps its block, the outputs hold what the body leaves. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => blk0 V c 6 t
    | ⟨7, _⟩ => blk0 V c 7 t
    | ⟨8, _⟩ => blk0 V c 8 t
    | ⟨9, _⟩ => blk0 V c 9 t
    | ⟨10, _⟩ => blk0 V c 10 t
    | ⟨11, _⟩ => feats V c t
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_out (c : Dev nD) (t : Fin cfg0.N) : (dat0 V c).after 11 t = feats V c t := by dsimp only [dat0]

set_option maxHeartbeats 1000000 in
/-- An input's staging buffer holds its block when the body runs, fetched at this point or before, and the body leaves it. -/
theorem before0_in (c : Dev nD) : ∀ (w : Fin 12), w ≠ 11 → ∀ (t : Fin cfg0.N) (d : (cfg0.win w).block.Idx → Elt F (cfg0.win w).elt),
    (dat0 V c).before w t d = (dat0 V c).after w t := by
  intro w
  fin_cases w <;> first
    | (intro h; exact absurd rfl h)
    | exact fun _ t d => ((dat0 V c).before_in_eq_fetched _ rfl (fun _ => rfl) (fun _ _ _ => rfl) (fun _ => rfl) t d).trans rfl

theorem live0 : ∀ (w : Fin cfg0.W) (t : Fin cfg0.N), cfg0.idle w (grid0.coords t) = false := by decide +kernel

theorem leaves0 (c : Dev nD) (w : Fin cfg0.W) (t : Fin cfg0.N) : (dat0 V c).leavesExact w t
    = owns (c : Thread nD τ) ((cfg0.win w).stage (cfg0.slots t w)) fullShare ((dat0 V c).after w t) := by
  unfold Dat.leavesExact; rw [live0]

theorem row0 (t : Fin cfg0.N) : defs₀ (F := F) .tc cfg0.body (cfg0.bodyArgs t (cfg0.slots t)) = bodyAt0 t := by
  unfold defs₀; rw [Defs.onTc_tc]

set_option maxHeartbeats 1600000 in
theorem sound0 (c : Dev nD) (t : Fin cfg0.N) :
    iprop((dat0 V c).Φ t.castSucc ∗ (dat0 V c).owesAt () t.castSucc
        ∗ bigSep Finset.univ fun w : Fin 12 => iprop(∃ d, owns (c : Thread nD τ) ((cfg0.win w).stage (cfg0.slots t w)) fullShare ((dat0 V c).before w t d)))
      ⊢ wp frame (wpE (defs₀ (F := F)) Variants.none c none) Set.univ (bodyAt0 t) fun _ =>
        iprop((dat0 V c).Φ t.succ ∗ (dat0 V c).owesAt () t.succ ∗ bigSep Finset.univ fun w : Fin 12 => (dat0 V c).leavesExact w t) := by
  simp only [leaves0]
  rw [bigSep_W0, bigSep_W0, after0_out]
  simp only [
    before0_in V c 0 (by decide), before0_in V c 1 (by decide), before0_in V c 2 (by decide), before0_in V c 3 (by decide),
    before0_in V c 4 (by decide), before0_in V c 5 (by decide), before0_in V c 6 (by decide), before0_in V c 7 (by decide),
    before0_in V c 8 (by decide), before0_in V c 9 (by decide), before0_in V c 10 (by decide)]
  rw [show (dat0 V c).Φ t.succ = (dat0 V c).Φ t.castSucc from rfl,
    show (dat0 V c).owesAt () t.succ = (dat0 V c).owesAt () t.castSucc from rfl]
  unfold bodyAt0
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run0 c _ _ _ _ _ _ _ _ _ _ _ _ _ _ _ _ _ _ _ _ _ _ _ _
    ((dat0 V c).after 0 t) ((dat0 V c).after 1 t) ((dat0 V c).after 2 t) ((dat0 V c).after 3 t) ((dat0 V c).after 4 t)
    ((dat0 V c).after 5 t) ((dat0 V c).after 6 t) ((dat0 V c).after 7 t) ((dat0 V c).after 8 t) ((dat0 V c).after 9 t)
    ((dat0 V c).after 10 t) _ Set.univ _)
  isplitl [H0 H1 H2 H3 H4 H5 H6 H7 H8 H9 H10]
  · unfold ins0
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9] <;> iassumption
  isplitl [H11]; · iexact H11
  iintro ⟨⟨H0, H1, H2, H3, H4, H5, H6, H7, H8, H9, H10⟩, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's obligation on the body, at every point. -/
theorem body_obligation0 (c : Dev nD) : BodyObligation (dat0 (F := F) V c) (defs₀ (F := F)) Variants.none () Set.univ := fun t => by
  rw [row0]
  exact sound0 V c t

end Cert.KernelIdeal.Own

end
-- ==== Proof.KI.Run1.lean ====
/-
  The first attention step (custom call 1): what its body leaves in its blocks, run on whole staging memrefs.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Held
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.VecWindow
public import Idealize.ShloMosaic.Lib.WordCmp

@[expose] public section

set_option maxRecDepth 16384

noncomputable section

namespace Cert.KernelIdeal.Own

open Cert.KernelIdeal Cert.KernelIdeal.Gen Cert.Held
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ (UR sig nD τ) ℕ

/-- One head's contribution to the step before its scale and shift, from the node features `x0`, the mask `x1`, the head's query,
    key and value projections `x2`, `x3`, `x4` and its two feed-forward layers `x5 … x8`. -/
def step1 (x0 : Vec F S1024x512 .f32) (x1 : Vec F S64x64 .f32) (x2 x3 x4 x5 : Vec F S1x512x512 .f32) (x6 : Vec F S1x1x512 .f32)
    (x7 : Vec F S1x512x512 .f32) (x8 : Vec F S1x1x512 .f32) : Vec F S1024x512 .f32 :=
  let v9 := k1_pay5 x0
  let v11 := k1_pay6 x1
  let v12 := k1_pay7 x2 x3 x0
  let v15 := k1_pay8 x0 x4
  let v18 := k1_pay9 x2 x3 x0
  let v21 := k1_pay10 x2 x3 x0
  let v24 := k1_pay11 x2 x3 x0
  let v27 := k1_pay12 x2 x3 x0
  let v30 := k1_pay13 x2 x3 x0
  let v31 := k1_pay14 x2 x3 x0
  let v32 := k1_pay15 x0
  let z64 := constant S64x64 .f32 0x00000000#32
  let z512 := constant S64x512 .f32 0x00000000#32
  let v76 := k1_pay16 v9 v11 v12 v18 v21 v24 v27 v30 v31 v32 z64
  let v79 := k1_pay19 (k1_pay17 v9 v11 v12 v18 v21 v24 v27 v30 v31 v32 z64) (k1_pay18 v15) z512
  k1_pay36 v79 (k1_pay20 v15 v76) (k1_pay21 v15 v76) (k1_pay22 v15 v76) (k1_pay23 v15 v76) (k1_pay24 v15 v76) (k1_pay25 v15 v76)
    (k1_pay26 v15 v76) (k1_pay27 v15 v76) (k1_pay28 v15 v76) (k1_pay29 v15 v76) (k1_pay30 v15 v76) (k1_pay31 v15 v76)
    (k1_pay32 v15 v76) (k1_pay33 v15 v76) (k1_pay34 v76) (k1_pay35 v15) z512 x5 x6 x7 x8

/-! ## The body's branches -/

theorem first1 (t : Fin cfg1.N) : k1_cond1 (grid1.coords t) = 1#1 ↔ t.val = 0 := by
  have ht : t.val < 8 := Nat.lt_of_lt_of_eq t.isLt N_1
  have e0 : (grid1.coords t 0).val = t.val / 1 % 8 := Pipeline.Grid.coords_val t 0 (by decide) rfl
  simp only [k1_cond1, e0]
  word_cmp

theorem later1 (t : Fin cfg1.N) : k1_cond2 (grid1.coords t) = 1#1 ↔ 1 ≤ t.val := by
  have ht : t.val < 8 := Nat.lt_of_lt_of_eq t.isLt N_1
  have e0 : (grid1.coords t 0).val = t.val / 1 % 8 := Pipeline.Grid.coords_val t 0 (by decide) rfl
  simp only [k1_cond2, e0]
  word_cmp

/-! ## The body on whole staging memrefs -/

section Body

variable (c : Dev nD) (i : grid1.Coords)
  (arg1 : Memref sig .tc .vmem S1024x512 .f32) (harg1 : arg1.IsWhole) (arg2 : Memref sig .tc .vmem S64x64 .f32) (harg2 : arg2.IsWhole)
  (arg3 : Memref sig .tc .vmem S1x512x512 .f32) (harg3 : arg3.IsWhole) (arg4 : Memref sig .tc .vmem S1x512x512 .f32) (harg4 : arg4.IsWhole)
  (arg5 : Memref sig .tc .vmem S1x512x512 .f32) (harg5 : arg5.IsWhole) (arg6 : Memref sig .tc .vmem S1x512x512 .f32) (harg6 : arg6.IsWhole)
  (arg7 : Memref sig .tc .vmem S1x1x512 .f32) (harg7 : arg7.IsWhole) (arg8 : Memref sig .tc .vmem S1x512x512 .f32) (harg8 : arg8.IsWhole)
  (arg9 : Memref sig .tc .vmem S1x1x512 .f32) (harg9 : arg9.IsWhole) (arg10 : Memref sig .tc .vmem S1x1x512 .f32) (harg10 : arg10.IsWhole)
  (arg11 : Memref sig .tc .vmem S1x1x512 .f32) (harg11 : arg11.IsWhole)
  (arg12 : Memref sig .tc .vmem S1024x512 .f32) (harg12 : arg12.IsWhole)
  (arg13 : Memref sig .tc .vmem S1x512x512 .f32) (harg13 : arg13.IsWhole)
  (x0 : Vec F S1024x512 .f32) (x1 : Vec F S64x64 .f32) (x2 x3 x4 x5 : Vec F S1x512x512 .f32) (x6 : Vec F S1x1x512 .f32) (x7 : Vec F S1x512x512 .f32) (x8 x9 x10 : Vec F S1x1x512 .f32)

/-- The inputs' staging memrefs, held at their blocks. -/
abbrev ins1 : sProp 𝕄 :=
  iprop(owns (c : Thread nD τ) arg1 fullShare x0 ∗ owns (c : Thread nD τ) arg2 fullShare x1 ∗ owns (c : Thread nD τ) arg3 fullShare x2 ∗
    owns (c : Thread nD τ) arg4 fullShare x3 ∗ owns (c : Thread nD τ) arg5 fullShare x4 ∗ owns (c : Thread nD τ) arg6 fullShare x5 ∗
    owns (c : Thread nD τ) arg7 fullShare x6 ∗ owns (c : Thread nD τ) arg8 fullShare x7 ∗ owns (c : Thread nD τ) arg9 fullShare x8 ∗
    owns (c : Thread nD τ) arg10 fullShare x9 ∗ owns (c : Thread nD τ) arg11 fullShare x10)

set_option maxHeartbeats 1000000 in
/-- The body leaves the inputs alone and the sum's memref, found at `d`, at the head's contribution — at the first point —, or
    at `d` with the contribution added. The second output is the head's score matrix. -/
theorem run1 (d y : Vec F S1024x512 .f32) (e : Vec F S1x512x512 .f32)
    (hy : (k1_cond1 i = 1#1 ∧ ¬ k1_cond2 i = 1#1 ∧ y = k1_pay1 (step1 x0 x1 x2 x3 x4 x5 x6 x7 x8) x9 x10)
      ∨ (¬ k1_cond1 i = 1#1 ∧ k1_cond2 i = 1#1 ∧ y = k1_pay2 (step1 x0 x1 x2 x3 x4 x5 x6 x7 x8) x9 x10 d)) (E : Set ℕ) (K : PUnit → sProp 𝕄) :
    iprop(ins1 c arg1 arg2 arg3 arg4 arg5 arg6 arg7 arg8 arg9 arg10 arg11 x0 x1 x2 x3 x4 x5 x6 x7 x8 x9 x10 ∗ owns (c : Thread nD τ) arg12 fullShare d ∗ owns (c : Thread nD τ) arg13 fullShare e
        ∗ (iprop(ins1 c arg1 arg2 arg3 arg4 arg5 arg6 arg7 arg8 arg9 arg10 arg11 x0 x1 x2 x3 x4 x5 x6 x7 x8 x9 x10
            ∗ owns (c : Thread nD τ) arg12 fullShare y ∗ owns (c : Thread nD τ) arg13 fullShare (k1_pay4 x2 x3)) -∗ K ⟨⟩))
      ⊢ wp frame (wpE (defs₀ (F := F)) Variants.none c none) E
          (cc1__gat_step1_body i
            arg1 harg1 arg2 harg2 arg3 harg3 arg4 harg4 arg5 harg5 arg6 harg6 arg7 harg7 arg8 harg8 arg9 harg9 arg10 harg10 arg11 harg11
            arg12 harg12 arg13 harg13) K := by
  rw [owns_raw _ harg12 _ d, owns_raw _ harg13 _ e]
  unfold ins1
  rw [owns_raw _ harg1, owns_raw _ harg2, owns_raw _ harg3, owns_raw _ harg4, owns_raw _ harg5, owns_raw _ harg6, owns_raw _ harg7, owns_raw _ harg8, owns_raw _ harg9, owns_raw _ harg10, owns_raw _ harg11]
  simp only [cc1__gat_step1_body_eq_skeleton]; unfold cc1__gat_step1_body_skel
  simp only [k1_part1_eq_skeleton, k1_part2_eq_skeleton, k1_part3_eq_skeleton, k1_part4_eq_skeleton]
  iintro ⟨⟨H0, H1, H2, H3, H4, H5, H6, H7, H8, H9, H10⟩, H11, H12, Hk⟩
  rcases hy with ⟨hc0, hc1, hy⟩ | ⟨hc0, hc1, hy⟩ <;>
  · sl_exec (disch := first | sl_exact hc0 | sl_exact hc1)
    sl_step
    iapply Hk
    isplitr [H11 H12]
    · iframe H0 H1 H2 H3 H4 H5 H6 H7 H8 H9 H10
    isplitl [H11]
    · unfold owns; iexists _; isplitr; swap; (· iexact H11)
      ipureintro
      rw [hy]
      refine (View.read_writes_full _ _ _ _ _).trans ?_
      unfold step1
      sl_unfold_run_names
      simp only [load2, load3]
    · unfold owns; iexists _; isplitr; swap; (· iexact H12)
      ipureintro
      refine (View.read_writes_full _ _ _ _ _).trans ?_
      sl_unfold_run_names
      simp only [load3]

end Body

end Cert.KernelIdeal.Own

end
-- ==== Proof.KI.Dat1.lean ====
/-
  The first attention step (custom call 1): its pipeline's proof data and the library's obligation on its body.
-/
module

public import proofs.«01_k».proof.Proof.KI.Run1

@[expose] public section

set_option maxRecDepth 16384

noncomputable section

namespace Cert.KernelIdeal.Own

open Cert.KernelIdeal Cert.KernelIdeal.Gen Cert.Held
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ (UR sig nD τ) ℕ

/-! ## The call's proof data, from any contents -/

variable (V : (c : Dev nD) → (b : Ref sig .tc) → Buf (Elt F) ((c : Thread nD τ).loc b))

/-- Window `w`'s block at point `t`, read off its array. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the head of point `t` adds before its scale and shift, -/
def pre1 (c : Dev nD) (t : Fin cfg1.N) : Vec F S1024x512 .f32 :=
  step1 (blk1 V c 0 t) (blk1 V c 1 t) (blk1 V c 2 t) (blk1 V c 3 t) (blk1 V c 4 t) (blk1 V c 5 t) (blk1 V c 6 t) (blk1 V c 7 t)
  (blk1 V c 8 t)

/-- and its contribution. -/
def head1 (c : Dev nD) (t : Fin cfg1.N) : Vec F S1024x512 .f32 := k1_pay1 (pre1 V c t) (blk1 V c 9 t) (blk1 V c 10 t)

/-- The sum's block after point `n`: the contributions so far, added up. -/
def acc1 (c : Dev nD) : (n : ℕ) → n < cfg1.N → Vec F S1024x512 .f32
  | 0, h => head1 V c ⟨0, h⟩
  | n + 1, h => k1_pay2 (pre1 V c ⟨n + 1, h⟩) (blk1 V c 9 ⟨n + 1, h⟩) (blk1 V c 10 ⟨n + 1, h⟩) (acc1 c n (Nat.lt_of_succ_lt h))

/-- The proof data: every input's buffer keeps its block, the outputs hold what the body leaves. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => blk1 V c 7 t
    | ⟨8, _⟩ => blk1 V c 8 t
    | ⟨9, _⟩ => blk1 V c 9 t
    | ⟨10, _⟩ => blk1 V c 10 t
    | ⟨11, _⟩ => acc1 V c t.val t.isLt
    | ⟨12, _⟩ => k1_pay4 (blk1 V c 2 t) (blk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_out (c : Dev nD) (t : Fin cfg1.N) : (dat1 V c).after 11 t = acc1 V c t.val t.isLt := by dsimp only [dat1]

theorem after1_aux (c : Dev nD) (t : Fin cfg1.N) : (dat1 V c).after 12 t = k1_pay4 (blk1 V c 2 t) (blk1 V c 3 t) := by dsimp only [dat1]

set_option maxHeartbeats 1000000 in
/-- An input's staging buffer holds its block when the body runs, fetched at this point or before, and the body leaves it. -/
theorem before1_in (c : Dev nD) : ∀ (w : Fin 13), w ≠ 11 → w ≠ 12 → ∀ (t : Fin cfg1.N) (d : (cfg1.win w).block.Idx → Elt F (cfg1.win w).elt),
    (dat1 V c).before w t d = (dat1 V c).after w t := by
  intro w
  fin_cases w <;> first
    | (intro h; exact absurd rfl h)
    | (intro _ h; exact absurd rfl h)
    | exact fun _ _ t d => ((dat1 V c).before_in_eq_fetched _ rfl (fun _ => rfl) (fun _ _ _ => rfl) (fun _ => rfl) t d).trans rfl

theorem live1 : ∀ (w : Fin cfg1.W) (t : Fin cfg1.N), cfg1.idle w (grid1.coords t) = false := by decide +kernel

/-- The sum's buffer carries it from the first point to the last. -/
def fresh1Tab : ℕ → Bool
  | 0 => true
  | n + 1 => n == 7
theorem fresh1 (t : Fin cfg1.N) : cfg1.fresh 11 t.val = fresh1Tab t.val :=
  Pipeline.Cfg.fresh_tab cfg1 11 fresh1Tab rfl (by decide +kernel) t.val (Nat.le_of_lt t.isLt)

theorem before1_out (c : Dev nD) (n : ℕ) (h : n + 1 < cfg1.N) (d) :
    (dat1 V c).before 11 ⟨n + 1, h⟩ d = acc1 V c n (Nat.lt_of_succ_lt h) := by
  have h8 : n + 1 < 8 := Nat.lt_of_lt_of_eq h N_1
  have hf : cfg1.fresh 11 (n + 1) = false := (fresh1 ⟨n + 1, h⟩).trans (by simp only [fresh1Tab, beq_eq_false_iff_ne]; omega)
  rw [Dat.before_out_traj _ 11 rfl (fun _ _ => rfl) (fun t _ hi _ => absurd ((live1 11 t).symm.trans hi) (by decide)) (n + 1) ⟨n + 1, h⟩ rfl d,
    if_neg (by rw [hf]; decide), after1_out]
  rfl

theorem leaves1 (c : Dev nD) (w : Fin cfg1.W) (t : Fin cfg1.N) : (dat1 V c).leavesExact w t
    = owns (c : Thread nD τ) ((cfg1.win w).stage (cfg1.slots t w)) fullShare ((dat1 V c).after w t) := by
  unfold Dat.leavesExact; rw [live1]

theorem row1 (t : Fin cfg1.N) : defs₀ (F := F) .tc cfg1.body (cfg1.bodyArgs t (cfg1.slots t)) = bodyAt1 t := by
  unfold defs₀; rw [Defs.onTc_tc]

/-- What the run's triple asks of point `t`: the sum so far from the sum before. -/
theorem sum1 (c : Dev nD) (t : Fin cfg1.N) (d) :
    (k1_cond1 (grid1.coords t) = 1#1 ∧ ¬ k1_cond2 (grid1.coords t) = 1#1 ∧ acc1 V c t.val t.isLt = head1 V c t)
      ∨ (¬ k1_cond1 (grid1.coords t) = 1#1 ∧ k1_cond2 (grid1.coords t) = 1#1
        ∧ acc1 V c t.val t.isLt = k1_pay2 (pre1 V c t) (blk1 V c 9 t) (blk1 V c 10 t) ((dat1 V c).before 11 t d)) := by
  obtain ⟨n, h⟩ := t
  cases n with
  | zero => exact .inl ⟨(first1 _).mpr rfl, fun e => by have := (later1 _).mp e; simp at this, rfl⟩
  | succ n =>
    refine .inr ⟨fun e => by have := (first1 _).mp e; simp at this, (later1 _).mpr (by simp), ?_⟩
    rw [before1_out]; rfl

set_option maxHeartbeats 1600000 in
theorem sound1 (c : Dev nD) (t : Fin cfg1.N) :
    iprop((dat1 V c).Φ t.castSucc ∗ (dat1 V c).owesAt () t.castSucc
        ∗ bigSep Finset.univ fun w : Fin 13 => iprop(∃ d, owns (c : Thread nD τ) ((cfg1.win w).stage (cfg1.slots t w)) fullShare ((dat1 V c).before w t d)))
      ⊢ wp frame (wpE (defs₀ (F := F)) Variants.none c none) Set.univ (bodyAt1 t) fun _ =>
        iprop((dat1 V c).Φ t.succ ∗ (dat1 V c).owesAt () t.succ ∗ bigSep Finset.univ fun w : Fin 13 => (dat1 V c).leavesExact w t) := by
  simp only [leaves1]
  rw [bigSep_W1, bigSep_W1, after1_out, after1_aux]
  simp only [
    before1_in V c 0 (by decide) (by decide), before1_in V c 1 (by decide) (by decide), before1_in V c 2 (by decide) (by decide),
    before1_in V c 3 (by decide) (by decide), before1_in V c 4 (by decide) (by decide), before1_in V c 5 (by decide) (by decide),
    before1_in V c 6 (by decide) (by decide), before1_in V c 7 (by decide) (by decide), before1_in V c 8 (by decide) (by decide),
    before1_in V c 9 (by decide) (by decide), before1_in V c 10 (by decide) (by decide)]
  rw [show (dat1 V c).Φ t.succ = (dat1 V c).Φ t.castSucc from rfl,
    show (dat1 V c).owesAt () t.succ = (dat1 V c).owesAt () t.castSucc from rfl]
  unfold bodyAt1
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (run1 c (grid1.coords t) _ _ _ _ _ _ _ _ _ _ _ _ _ _ _ _ _ _ _ _ _ _ _ _ _ _
    ((dat1 V c).after 0 t) ((dat1 V c).after 1 t) ((dat1 V c).after 2 t) ((dat1 V c).after 3 t) ((dat1 V c).after 4 t)
    ((dat1 V c).after 5 t) ((dat1 V c).after 6 t) ((dat1 V c).after 7 t) ((dat1 V c).after 8 t) ((dat1 V c).after 9 t)
    ((dat1 V c).after 10 t) _ _ _ (sum1 V c t d11) Set.univ _)
  isplitl [H0 H1 H2 H3 H4 H5 H6 H7 H8 H9 H10]
  · unfold ins1
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9] <;> iassumption
  isplitl [H11]; · iexact H11
  isplitl [H12]; · iexact H12
  iintro ⟨⟨H0, H1, H2, H3, H4, H5, H6, H7, H8, H9, H10⟩, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The library's obligation on the body, at every point. -/
theorem body_obligation1 (c : Dev nD) : BodyObligation (dat1 (F := F) V c) (defs₀ (F := F)) Variants.none () Set.univ := fun t => by
  rw [row1]
  exact sound1 V c t

end Cert.KernelIdeal.Own

end
-- ==== Proof.KI.Run2.lean ====
/-
  The middle attention step (custom call 2): what its body leaves in its blocks, run on whole staging memrefs.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Held
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.VecWindow
public import Idealize.ShloMosaic.Lib.WordCmp

@[expose] public section

set_option maxRecDepth 16384

noncomputable section

namespace Cert.KernelIdeal.Own

open Cert.KernelIdeal Cert.KernelIdeal.Gen Cert.Held
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ (UR sig nD τ) ℕ

/-- One head's contribution to the step, from the node features `x0`, the mask `x1`, the head's score matrix `x2`, its value
    projection `x3`, its two feed-forward layers `x4 … x7` and its scale and shift `x8`, `x9`. -/
def step2 (x0 : Vec F S1024x512 .f32) (x1 : Vec F S64x64 .f32) (x2 x3 x4 : Vec F S1x512x512 .f32) (x5 : Vec F S1x1x512 .f32)
    (x6 : Vec F S1x512x512 .f32) (x7 x8 x9 : Vec F S1x1x512 .f32) : Vec F S1024x512 .f32 :=
  let v1 := k2_pay2 x0
  let v5 := k2_pay3 x1
  let v6 := k2_pay4 x0 x2
  let v9 := k2_pay5 x0 x3
  let v12 := k2_pay6 x0 x2
  let v15 := k2_pay7 x0 x2
  let v18 := k2_pay8 x0 x2
  let v21 := k2_pay9 x0 x2
  let v24 := k2_pay10 x0 x2
  let v27 := k2_pay11 x0 x2
  let v30 := k2_pay12 x0 x2
  let v33 := k2_pay13 x0 x2
  let v36 := k2_pay14 x0 x2
  let v37 := k2_pay15 x0 x2
  let v70 := k2_pay16 v1 v5 v6 v12 v15 v18 v21 v24 v27 v30 v33 v36 v37
  let v73 := k2_pay17 v1 v5 v6 v9 v12 v15 v18 v21 v24 v27 v30 v33 v36 v37
  let v76 := k2_pay18 v1 v5 v6 v9 v12 v15 v18 v21 v24 v27 v30 v33 v36 v37
  let v79 := k2_pay19 v1 v5 v6 v9 v12 v15 v18 v21 v24 v27 v30 v33 v36 v37
  let v82 := k2_pay20 v1 v5 v6 v9 v12 v15 v18 v21 v24 v27 v30 v33 v36 v37
  let v83 := k2_pay21 v1 v5 v6 v12 v15 v18 v21 v24 v27 v30 v33 v36 v37
  k2_pay23 (k2_pay22 v9 v70 v73 v76 v79 v82 v83 x4) x5 x6 x7 x8 x9

/-! ## The body's branches -/

theorem first2 (t : Fin cfg2.N) : k2_cond1 (grid2.coords t) = 1#1 ↔ t.val = 0 := by
  have ht : t.val < 8 := Nat.lt_of_lt_of_eq t.isLt N_2
  have e0 : (grid2.coords t 0).val = t.val / 1 % 8 := Pipeline.Grid.coords_val t 0 (by decide) rfl
  simp only [k2_cond1, e0]
  word_cmp

theorem later2 (t : Fin cfg2.N) : k2_cond2 (grid2.coords t) = 1#1 ↔ 1 ≤ t.val := by
  have ht : t.val < 8 := Nat.lt_of_lt_of_eq t.isLt N_2
  have e0 : (grid2.coords t 0).val = t.val / 1 % 8 := Pipeline.Grid.coords_val t 0 (by decide) rfl
  simp only [k2_cond2, e0]
  word_cmp

/-! ## The body on whole staging memrefs -/

section Body

variable (c : Dev nD) (i : grid2.Coords)
  (arg1 : Memref sig .tc .vmem S1024x512 .f32) (harg1 : arg1.IsWhole) (arg2 : Memref sig .tc .vmem S64x64 .f32) (harg2 : arg2.IsWhole)
  (arg3 : Memref sig .tc .vmem S1x512x512 .f32) (harg3 : arg3.IsWhole) (arg4 : Memref sig .tc .vmem S1x512x512 .f32) (harg4 : arg4.IsWhole)
  (arg5 : Memref sig .tc .vmem S1x512x512 .f32) (harg5 : arg5.IsWhole) (arg6 : Memref sig .tc .vmem S1x1x512 .f32) (harg6 : arg6.IsWhole)
  (arg7 : Memref sig .tc .vmem S1x512x512 .f32) (harg7 : arg7.IsWhole) (arg8 : Memref sig .tc .vmem S1x1x512 .f32) (harg8 : arg8.IsWhole)
  (arg9 : Memref sig .tc .vmem S1x1x512 .f32) (harg9 : arg9.IsWhole) (arg10 : Memref sig .tc .vmem S1x1x512 .f32) (harg10 : arg10.IsWhole)
  (arg11 : Memref sig .tc .vmem S1024x512 .f32) (harg11 : arg11.IsWhole)
  (x0 : Vec F S1024x512 .f32) (x1 : Vec F S64x64 .f32) (x2 x3 x4 : Vec F S1x512x512 .f32) (x5 : Vec F S1x1x512 .f32) (x6 : Vec F S1x512x512 .f32) (x7 x8 x9 : Vec F S1x1x512 .f32)

/-- The inputs' staging memrefs, held at their blocks. -/
abbrev ins2 : sProp 𝕄 :=
  iprop(owns (c : Thread nD τ) arg1 fullShare x0 ∗ owns (c : Thread nD τ) arg2 fullShare x1 ∗ owns (c : Thread nD τ) arg3 fullShare x2 ∗
    owns (c : Thread nD τ) arg4 fullShare x3 ∗ owns (c : Thread nD τ) arg5 fullShare x4 ∗ owns (c : Thread nD τ) arg6 fullShare x5 ∗
    owns (c : Thread nD τ) arg7 fullShare x6 ∗ owns (c : Thread nD τ) arg8 fullShare x7 ∗ owns (c : Thread nD τ) arg9 fullShare x8 ∗
    owns (c : Thread nD τ) arg10 fullShare x9)

set_option maxHeartbeats 1000000 in
/-- The body leaves the inputs alone and the sum's memref, found at `d`, at the head's contribution — at the first point —, or
    at `d` with the contribution added. -/
theorem run2 (d y : Vec F S1024x512 .f32)
    (hy : (k2_cond1 i = 1#1 ∧ ¬ k2_cond2 i = 1#1 ∧ y = step2 x0 x1 x2 x3 x4 x5 x6 x7 x8 x9)
      ∨ (¬ k2_cond1 i = 1#1 ∧ k2_cond2 i = 1#1 ∧ y = k2_pay1 (step2 x0 x1 x2 x3 x4 x5 x6 x7 x8 x9) d)) (E : Set ℕ) (K : PUnit → sProp 𝕄) :
    iprop(ins2 c arg1 arg2 arg3 arg4 arg5 arg6 arg7 arg8 arg9 arg10 x0 x1 x2 x3 x4 x5 x6 x7 x8 x9 ∗ owns (c : Thread nD τ) arg11 fullShare d
        ∗ (iprop(ins2 c arg1 arg2 arg3 arg4 arg5 arg6 arg7 arg8 arg9 arg10 x0 x1 x2 x3 x4 x5 x6 x7 x8 x9
            ∗ owns (c : Thread nD τ) arg11 fullShare y) -∗ K ⟨⟩))
      ⊢ wp frame (wpE (defs₀ (F := F)) Variants.none c none) E
          (cc2__gat_step_body i
            arg1 harg1 arg2 harg2 arg3 harg3 arg4 harg4 arg5 harg5 arg6 harg6 arg7 harg7 arg8 harg8 arg9 harg9 arg10 harg10 arg11 harg11) K := by
  rw [owns_raw _ harg11 _ d]
  unfold ins2
  rw [owns_raw _ harg1, owns_raw _ harg2, owns_raw _ harg3, owns_raw _ harg4, owns_raw _ harg5, owns_raw _ harg6, owns_raw _ harg7, owns_raw _ harg8, owns_raw _ harg9, owns_raw _ harg10]
  simp only [cc2__gat_step_body_eq_skeleton]; unfold cc2__gat_step_body_skel
  simp only [k2_part1_eq_skeleton, k2_part2_eq_skeleton, k2_part3_eq_skeleton, k2_part4_eq_skeleton]
  iintro ⟨⟨H0, H1, H2, H3, H4, H5, H6, H7, H8, H9⟩, H10, Hk⟩
  rcases hy with ⟨hc0, hc1, hy⟩ | ⟨hc0, hc1, hy⟩ <;>
  · sl_exec (disch := first | sl_exact hc0 | sl_exact hc1)
    sl_step
    iapply Hk
    isplitr [H10]
    · iframe H0 H1 H2 H3 H4 H5 H6 H7 H8 H9
    · unfold owns; iexists _; isplitr; swap; (· iexact H10)
      ipureintro
      rw [hy]
      refine (View.read_writes_full _ _ _ _ _).trans ?_
      unfold step2
      sl_unfold_run_names
      simp only [load2, load3]

end Body

end Cert.KernelIdeal.Own

end
-- ==== Proof.KI.Dat2.lean ====
/-
  The middle attention step (custom call 2): its pipeline's proof data and the library's obligation on its body.
-/
module

public import proofs.«01_k».proof.Proof.KI.Run2

@[expose] public section

set_option maxRecDepth 16384

noncomputable section

namespace Cert.KernelIdeal.Own

open Cert.KernelIdeal Cert.KernelIdeal.Gen Cert.Held
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ (UR sig nD τ) ℕ

/-! ## The call's proof data, from any contents -/

variable (V : (c : Dev nD) → (b : Ref sig .tc) → Buf (Elt F) ((c : Thread nD τ).loc b))

/-- Window `w`'s block at point `t`, read off its array. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The contribution of the head of point `t`. -/
def head2 (c : Dev nD) (t : Fin cfg2.N) : Vec F S1024x512 .f32 :=
  step2 (blk2 V c 0 t) (blk2 V c 1 t) (blk2 V c 2 t) (blk2 V c 3 t) (blk2 V c 4 t) (blk2 V c 5 t) (blk2 V c 6 t) (blk2 V c 7 t)
  (blk2 V c 8 t) (blk2 V c 9 t)

/-- The sum's block after point `n`: the contributions so far, added up. -/
def acc2 (c : Dev nD) : (n : ℕ) → n < cfg2.N → Vec F S1024x512 .f32
  | 0, h => head2 V c ⟨0, h⟩
  | n + 1, h => k2_pay1 (head2 V c ⟨n + 1, h⟩) (acc2 c n (Nat.lt_of_succ_lt h))

/-- The proof data: every input's buffer keeps its block, the outputs hold what the body leaves. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => blk2 V c 5 t
    | ⟨6, _⟩ => blk2 V c 6 t
    | ⟨7, _⟩ => blk2 V c 7 t
    | ⟨8, _⟩ => blk2 V c 8 t
    | ⟨9, _⟩ => blk2 V c 9 t
    | ⟨10, _⟩ => acc2 V c t.val t.isLt
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_out (c : Dev nD) (t : Fin cfg2.N) : (dat2 V c).after 10 t = acc2 V c t.val t.isLt := by dsimp only [dat2]

set_option maxHeartbeats 1000000 in
/-- An input's staging buffer holds its block when the body runs, fetched at this point or before, and the body leaves it. -/
theorem before2_in (c : Dev nD) : ∀ (w : Fin 11), w ≠ 10 → ∀ (t : Fin cfg2.N) (d : (cfg2.win w).block.Idx → Elt F (cfg2.win w).elt),
    (dat2 V c).before w t d = (dat2 V c).after w t := by
  intro w
  fin_cases w <;> first
    | (intro h; exact absurd rfl h)
    | exact fun _ t d => ((dat2 V c).before_in_eq_fetched _ rfl (fun _ => rfl) (fun _ _ _ => rfl) (fun _ => rfl) t d).trans rfl

theorem live2 : ∀ (w : Fin cfg2.W) (t : Fin cfg2.N), cfg2.idle w (grid2.coords t) = false := by decide +kernel

/-- The sum's buffer carries it from the first point to the last. -/
def fresh2Tab : ℕ → Bool
  | 0 => true
  | n + 1 => n == 7
theorem fresh2 (t : Fin cfg2.N) : cfg2.fresh 10 t.val = fresh2Tab t.val :=
  Pipeline.Cfg.fresh_tab cfg2 10 fresh2Tab rfl (by decide +kernel) t.val (Nat.le_of_lt t.isLt)

theorem before2_out (c : Dev nD) (n : ℕ) (h : n + 1 < cfg2.N) (d) :
    (dat2 V c).before 10 ⟨n + 1, h⟩ d = acc2 V c n (Nat.lt_of_succ_lt h) := by
  have h8 : n + 1 < 8 := Nat.lt_of_lt_of_eq h N_2
  have hf : cfg2.fresh 10 (n + 1) = false := (fresh2 ⟨n + 1, h⟩).trans (by simp only [fresh2Tab, beq_eq_false_iff_ne]; omega)
  rw [Dat.before_out_traj _ 10 rfl (fun _ _ => rfl) (fun t _ hi _ => absurd ((live2 10 t).symm.trans hi) (by decide)) (n + 1) ⟨n + 1, h⟩ rfl d,
    if_neg (by rw [hf]; decide), after2_out]
  rfl

theorem leaves2 (c : Dev nD) (w : Fin cfg2.W) (t : Fin cfg2.N) : (dat2 V c).leavesExact w t
    = owns (c : Thread nD τ) ((cfg2.win w).stage (cfg2.slots t w)) fullShare ((dat2 V c).after w t) := by
  unfold Dat.leavesExact; rw [live2]

theorem row2 (t : Fin cfg2.N) : defs₀ (F := F) .tc cfg2.body (cfg2.bodyArgs t (cfg2.slots t)) = bodyAt2 t := by
  unfold defs₀; rw [Defs.onTc_tc]

/-- What the run's triple asks of point `t`: the sum so far from the sum before. -/
theorem sum2 (c : Dev nD) (t : Fin cfg2.N) (d) :
    (k2_cond1 (grid2.coords t) = 1#1 ∧ ¬ k2_cond2 (grid2.coords t) = 1#1 ∧ acc2 V c t.val t.isLt = head2 V c t)
      ∨ (¬ k2_cond1 (grid2.coords t) = 1#1 ∧ k2_cond2 (grid2.coords t) = 1#1
        ∧ acc2 V c t.val t.isLt = k2_pay1 (head2 V c t) ((dat2 V c).before 10 t d)) := by
  obtain ⟨n, h⟩ := t
  cases n with
  | zero => exact .inl ⟨(first2 _).mpr rfl, fun e => by have := (later2 _).mp e; simp at this, rfl⟩
  | succ n =>
    refine .inr ⟨fun e => by have := (first2 _).mp e; simp at this, (later2 _).mpr (by simp), ?_⟩
    rw [before2_out]; rfl

set_option maxHeartbeats 1600000 in
theorem sound2 (c : Dev nD) (t : Fin cfg2.N) :
    iprop((dat2 V c).Φ t.castSucc ∗ (dat2 V c).owesAt () t.castSucc
        ∗ bigSep Finset.univ fun w : Fin 11 => iprop(∃ d, owns (c : Thread nD τ) ((cfg2.win w).stage (cfg2.slots t w)) fullShare ((dat2 V c).before w t d)))
      ⊢ wp frame (wpE (defs₀ (F := F)) Variants.none c none) Set.univ (bodyAt2 t) fun _ =>
        iprop((dat2 V c).Φ t.succ ∗ (dat2 V c).owesAt () t.succ ∗ bigSep Finset.univ fun w : Fin 11 => (dat2 V c).leavesExact w t) := by
  simp only [leaves2]
  rw [bigSep_W2, bigSep_W2, after2_out]
  simp only [
    before2_in V c 0 (by decide), before2_in V c 1 (by decide), before2_in V c 2 (by decide), before2_in V c 3 (by decide),
    before2_in V c 4 (by decide), before2_in V c 5 (by decide), before2_in V c 6 (by decide), before2_in V c 7 (by decide),
    before2_in V c 8 (by decide), before2_in V c 9 (by decide)]
  rw [show (dat2 V c).Φ t.succ = (dat2 V c).Φ t.castSucc from rfl,
    show (dat2 V c).owesAt () t.succ = (dat2 V c).owesAt () t.castSucc from rfl]
  unfold bodyAt2
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (run2 c (grid2.coords t) _ _ _ _ _ _ _ _ _ _ _ _ _ _ _ _ _ _ _ _ _ _
    ((dat2 V c).after 0 t) ((dat2 V c).after 1 t) ((dat2 V c).after 2 t) ((dat2 V c).after 3 t) ((dat2 V c).after 4 t)
    ((dat2 V c).after 5 t) ((dat2 V c).after 6 t) ((dat2 V c).after 7 t) ((dat2 V c).after 8 t) ((dat2 V c).after 9 t) _ _ (sum2 V c t d10) Set.univ _)
  isplitl [H0 H1 H2 H3 H4 H5 H6 H7 H8 H9]
  · unfold ins2
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8] <;> iassumption
  isplitl [H10]; · iexact H10
  iintro ⟨⟨H0, H1, H2, H3, H4, H5, H6, H7, H8, H9⟩, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's obligation on the body, at every point. -/
theorem body_obligation2 (c : Dev nD) : BodyObligation (dat2 (F := F) V c) (defs₀ (F := F)) Variants.none () Set.univ := fun t => by
  rw [row2]
  exact sound2 V c t

end Cert.KernelIdeal.Own

end
-- ==== Proof.KI.Run3.lean ====
/-
  The last attention step (custom call 3): what its body leaves in its blocks, run on whole staging memrefs.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Held
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.VecWindow
public import Idealize.ShloMosaic.Lib.WordCmp

@[expose] public section

set_option maxRecDepth 16384

noncomputable section

namespace Cert.KernelIdeal.Own

open Cert.KernelIdeal Cert.KernelIdeal.Gen Cert.Held
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ (UR sig nD τ) ℕ

/-- One head's contribution to the step, from the node features `x0`, the mask `x1`, the head's score matrix `x2`, its value
    projection `x3`, its two feed-forward layers `x4 … x7` and its scale and shift `x8`, `x9`. -/
def step3 (x0 : Vec F S1024x512 .f32) (x1 : Vec F S64x64 .f32) (x2 x3 x4 : Vec F S1x512x512 .f32) (x5 : Vec F S1x1x512 .f32)
    (x6 : Vec F S1x512x512 .f32) (x7 x8 x9 : Vec F S1x1x512 .f32) : Vec F S1024x512 .f32 :=
  let v1 := k3_pay3 x0
  let v5 := k3_pay4 x1
  let v6 := k3_pay5 x0 x2
  let v9 := k3_pay6 x0 x3
  let v12 := k3_pay7 x0 x2
  let v15 := k3_pay8 x0 x2
  let v18 := k3_pay9 x0 x2
  let v21 := k3_pay10 x0 x2
  let v24 := k3_pay11 x0 x2
  let v27 := k3_pay12 x0 x2
  let v30 := k3_pay13 x0 x2
  let v33 := k3_pay14 x0 x2
  let v36 := k3_pay15 x0 x2
  let v37 := k3_pay16 x0 x2
  let v70 := k3_pay17 v1 v5 v6 v12 v15 v18 v21 v24 v27 v30 v33 v36 v37
  let v73 := k3_pay18 v1 v5 v6 v9 v12 v15 v18 v21 v24 v27 v30 v33 v36 v37
  let v76 := k3_pay19 v1 v5 v6 v9 v12 v15 v18 v21 v24 v27 v30 v33 v36 v37
  let v79 := k3_pay20 v1 v5 v6 v9 v12 v15 v18 v21 v24 v27 v30 v33 v36 v37
  let v82 := k3_pay21 v1 v5 v6 v9 v12 v15 v18 v21 v24 v27 v30 v33 v36 v37
  let v83 := k3_pay22 v1 v5 v6 v12 v15 v18 v21 v24 v27 v30 v33 v36 v37
  k3_pay24 (k3_pay23 v9 v70 v73 v76 v79 v82 v83 x4) x5 x6 x7 x8 x9

/-! ## The body's branches -/

theorem first3 (t : Fin cfg3.N) : k3_cond1 (grid3.coords t) = 1#1 ↔ t.val = 0 := by
  have ht : t.val < 8 := Nat.lt_of_lt_of_eq t.isLt N_3
  have e0 : (grid3.coords t 0).val = t.val / 1 % 8 := Pipeline.Grid.coords_val t 0 (by decide) rfl
  simp only [k3_cond1, e0]
  word_cmp

theorem later3 (t : Fin cfg3.N) : k3_cond2 (grid3.coords t) = 1#1 ↔ 1 ≤ t.val := by
  have ht : t.val < 8 := Nat.lt_of_lt_of_eq t.isLt N_3
  have e0 : (grid3.coords t 0).val = t.val / 1 % 8 := Pipeline.Grid.coords_val t 0 (by decide) rfl
  simp only [k3_cond2, e0]
  word_cmp

theorem final3 (t : Fin cfg3.N) : k3_cond3 (grid3.coords t) = 1#1 ↔ t.val = 7 := by
  have ht : t.val < 8 := Nat.lt_of_lt_of_eq t.isLt N_3
  have e0 : (grid3.coords t 0).val = t.val / 1 % 8 := Pipeline.Grid.coords_val t 0 (by decide) rfl
  simp only [k3_cond3, e0]
  word_cmp

/-! ## The body on whole staging memrefs -/

section Body

variable (c : Dev nD) (i : grid3.Coords)
  (arg1 : Memref sig .tc .vmem S1024x512 .f32) (harg1 : arg1.IsWhole) (arg2 : Memref sig .tc .vmem S64x64 .f32) (harg2 : arg2.IsWhole)
  (arg3 : Memref sig .tc .vmem S1x512x512 .f32) (harg3 : arg3.IsWhole) (arg4 : Memref sig .tc .vmem S1x512x512 .f32) (harg4 : arg4.IsWhole)
  (arg5 : Memref sig .tc .vmem S1x512x512 .f32) (harg5 : arg5.IsWhole) (arg6 : Memref sig .tc .vmem S1x1x512 .f32) (harg6 : arg6.IsWhole)
  (arg7 : Memref sig .tc .vmem S1x512x512 .f32) (harg7 : arg7.IsWhole) (arg8 : Memref sig .tc .vmem S1x1x512 .f32) (harg8 : arg8.IsWhole)
  (arg9 : Memref sig .tc .vmem S1x1x512 .f32) (harg9 : arg9.IsWhole) (arg10 : Memref sig .tc .vmem S1x1x512 .f32) (harg10 : arg10.IsWhole)
  (arg11 : Memref sig .tc .vmem S1024x512 .f32) (harg11 : arg11.IsWhole)
  (arg12 : Memref sig .tc .vmem S1x1024 .f32) (harg12 : arg12.IsWhole)
  (arg13 : Memref sig .tc .vmem S1024x512 .f32) (harg13 : arg13.IsWhole)
  (arg14 : Memref sig .tc .vmem S1024x1024 .f32) (harg14 : arg14.IsWhole)
  (x0 : Vec F S1024x512 .f32) (x1 : Vec F S64x64 .f32) (x2 x3 x4 : Vec F S1x512x512 .f32) (x5 : Vec F S1x1x512 .f32) (x6 : Vec F S1x512x512 .f32) (x7 x8 x9 : Vec F S1x1x512 .f32) (x10 : Vec F S1024x512 .f32) (x11 : Vec F S1x1024 .f32)

/-- The inputs' staging memrefs, held at their blocks. -/
abbrev ins3 : sProp 𝕄 :=
  iprop(owns (c : Thread nD τ) arg1 fullShare x0 ∗ owns (c : Thread nD τ) arg2 fullShare x1 ∗ owns (c : Thread nD τ) arg3 fullShare x2 ∗
    owns (c : Thread nD τ) arg4 fullShare x3 ∗ owns (c : Thread nD τ) arg5 fullShare x4 ∗ owns (c : Thread nD τ) arg6 fullShare x5 ∗
    owns (c : Thread nD τ) arg7 fullShare x6 ∗ owns (c : Thread nD τ) arg8 fullShare x7 ∗ owns (c : Thread nD τ) arg9 fullShare x8 ∗
    owns (c : Thread nD τ) arg10 fullShare x9 ∗ owns (c : Thread nD τ) arg11 fullShare x10 ∗ owns (c : Thread nD τ) arg12 fullShare x11)

set_option maxHeartbeats 1000000 in
/-- The body leaves the inputs alone, the sum's memref, found at `d`, at the head's contribution — at the first point — or at `d`
    with the contribution added, and the projection's, found at `e`, alone but at the last point, where it projects the sum. -/
theorem run3 (d y : Vec F S1024x512 .f32) (e z : Vec F S1024x1024 .f32)
    (hy : (k3_cond1 i = 1#1 ∧ ¬ k3_cond2 i = 1#1 ∧ ¬ k3_cond3 i = 1#1 ∧ y = step3 x0 x1 x2 x3 x4 x5 x6 x7 x8 x9 ∧ z = e)
      ∨ (¬ k3_cond1 i = 1#1 ∧ k3_cond2 i = 1#1 ∧ ¬ k3_cond3 i = 1#1 ∧ y = k3_pay1 (step3 x0 x1 x2 x3 x4 x5 x6 x7 x8 x9) d ∧ z = e)
      ∨ (¬ k3_cond1 i = 1#1 ∧ k3_cond2 i = 1#1 ∧ k3_cond3 i = 1#1 ∧ y = k3_pay1 (step3 x0 x1 x2 x3 x4 x5 x6 x7 x8 x9) d ∧ z = k3_pay2 y x10 x11)) (E : Set ℕ) (K : PUnit → sProp 𝕄) :
    iprop(ins3 c arg1 arg2 arg3 arg4 arg5 arg6 arg7 arg8 arg9 arg10 arg11 arg12 x0 x1 x2 x3 x4 x5 x6 x7 x8 x9 x10 x11 ∗ owns (c : Thread nD τ) arg13 fullShare d ∗ owns (c : Thread nD τ) arg14 fullShare e
        ∗ (iprop(ins3 c arg1 arg2 arg3 arg4 arg5 arg6 arg7 arg8 arg9 arg10 arg11 arg12 x0 x1 x2 x3 x4 x5 x6 x7 x8 x9 x10 x11
            ∗ owns (c : Thread nD τ) arg13 fullShare y ∗ owns (c : Thread nD τ) arg14 fullShare z) -∗ K ⟨⟩))
      ⊢ wp frame (wpE (defs₀ (F := F)) Variants.none c none) E
          (cc3__gat_step_last_body i
            arg1 harg1 arg2 harg2 arg3 harg3 arg4 harg4 arg5 harg5 arg6 harg6 arg7 harg7 arg8 harg8 arg9 harg9 arg10 harg10 arg11 harg11
            arg12 harg12 arg13 harg13 arg14 harg14) K := by
  rw [owns_raw _ harg13 _ d, owns_raw _ harg14 _ e]
  unfold ins3
  rw [owns_raw _ harg1, owns_raw _ harg2, owns_raw _ harg3, owns_raw _ harg4, owns_raw _ harg5, owns_raw _ harg6, owns_raw _ harg7, owns_raw _ harg8, owns_raw _ harg9, owns_raw _ harg10, owns_raw _ harg11, owns_raw _ harg12]
  simp only [cc3__gat_step_last_body_eq_skeleton]; unfold cc3__gat_step_last_body_skel
  simp only [k3_part1_eq_skeleton, k3_part2_eq_skeleton, k3_part3_eq_skeleton, k3_part4_eq_skeleton]
  iintro ⟨⟨H0, H1, H2, H3, H4, H5, H6, H7, H8, H9, H10, H11⟩, H12, H13, Hk⟩
  rcases hy with ⟨hc0, hc1, hc2, hy, hz⟩ | ⟨hc0, hc1, hc2, hy, hz⟩ | ⟨hc0, hc1, hc2, hy, hz⟩
  · sl_exec (disch := first | sl_exact hc0 | sl_exact hc1 | sl_exact hc2)
    sl_step
    iapply Hk
    isplitr [H12 H13]
    · iframe H0 H1 H2 H3 H4 H5 H6 H7 H8 H9 H10 H11
    isplitl [H12]
    · unfold owns; iexists _; isplitr; swap; (· iexact H12)
      ipureintro
      rw [hy]
      refine (View.read_writes_full _ _ _ _ _).trans ?_
      unfold step3
      sl_unfold_run_names
      simp only [load2, load3]
    · rw [hz, owns_raw _ harg14]; iexact H13
  · sl_exec (disch := first | sl_exact hc0 | sl_exact hc1 | sl_exact hc2)
    sl_step
    iapply Hk
    isplitr [H12 H13]
    · iframe H0 H1 H2 H3 H4 H5 H6 H7 H8 H9 H10 H11
    isplitl [H12]
    · unfold owns; iexists _; isplitr; swap; (· iexact H12)
      ipureintro
      rw [hy]
      refine (View.read_writes_full _ _ _ _ _).trans ?_
      unfold step3
      sl_unfold_run_names
      simp only [load2, load3]
    · rw [hz, owns_raw _ harg14]; iexact H13
  · sl_exec (disch := first | sl_exact hc0 | sl_exact hc1 | sl_exact hc2)
    sl_step
    iapply Hk
    isplitr [H12 H13]
    · iframe H0 H1 H2 H3 H4 H5 H6 H7 H8 H9 H10 H11
    isplitl [H12]
    · unfold owns; iexists _; isplitr; swap; (· iexact H12)
      ipureintro
      rw [hy]
      refine (View.read_writes_full _ _ _ _ _).trans ?_
      unfold step3
      sl_unfold_run_names
      simp only [load2, load3]
    · unfold owns; iexists _; isplitr; swap; (· iexact H13)
      ipureintro
      rw [hz, hy]
      refine (View.read_writes_full _ _ _ _ _).trans ?_
      unfold step3
      sl_unfold_run_names
      simp only [reload2, load2, load3]

end Body

end Cert.KernelIdeal.Own

end
-- ==== Proof.KI.Dat3.lean ====
/-
  The last attention step (custom call 3): its pipeline's proof data and the library's obligation on its body.
-/
module

public import proofs.«01_k».proof.Proof.KI.Run3

@[expose] public section

set_option maxRecDepth 16384

noncomputable section

namespace Cert.KernelIdeal.Own

open Cert.KernelIdeal Cert.KernelIdeal.Gen Cert.Held
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ (UR sig nD τ) ℕ

/-! ## The call's proof data, from any contents -/

variable (V : (c : Dev nD) → (b : Ref sig .tc) → Buf (Elt F) ((c : Thread nD τ).loc b))

/-- Window `w`'s block at point `t`, read off its array. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The contribution of the head of point `t`. -/
def head3 (c : Dev nD) (t : Fin cfg3.N) : Vec F S1024x512 .f32 :=
  step3 (blk3 V c 0 t) (blk3 V c 1 t) (blk3 V c 2 t) (blk3 V c 3 t) (blk3 V c 4 t) (blk3 V c 5 t) (blk3 V c 6 t) (blk3 V c 7 t)
  (blk3 V c 8 t) (blk3 V c 9 t)

/-- The sum's block after point `n`: the contributions so far, added up. -/
def acc3 (c : Dev nD) : (n : ℕ) → n < cfg3.N → Vec F S1024x512 .f32
  | 0, h => head3 V c ⟨0, h⟩
  | n + 1, h => k3_pay1 (head3 V c ⟨n + 1, h⟩) (acc3 c n (Nat.lt_of_succ_lt h))

/-- The proof data: every input's buffer keeps its block, the outputs hold what the body leaves. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => blk3 V c 3 t
    | ⟨4, _⟩ => blk3 V c 4 t
    | ⟨5, _⟩ => blk3 V c 5 t
    | ⟨6, _⟩ => blk3 V c 6 t
    | ⟨7, _⟩ => blk3 V c 7 t
    | ⟨8, _⟩ => blk3 V c 8 t
    | ⟨9, _⟩ => blk3 V c 9 t
    | ⟨10, _⟩ => blk3 V c 10 t
    | ⟨11, _⟩ => blk3 V c 11 t
    | ⟨12, _⟩ => acc3 V c t.val t.isLt
    | ⟨13, _⟩ => k3_pay2 (acc3 V c t.val t.isLt) (blk3 V c 10 t) (blk3 V c 11 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_out (c : Dev nD) (t : Fin cfg3.N) : (dat3 V c).after 12 t = acc3 V c t.val t.isLt := by dsimp only [dat3]

theorem after3_aux (c : Dev nD) (t : Fin cfg3.N) : (dat3 V c).after 13 t = k3_pay2 (acc3 V c t.val t.isLt) (blk3 V c 10 t) (blk3 V c 11 t) := by dsimp only [dat3]

set_option maxHeartbeats 1000000 in
/-- An input's staging buffer holds its block when the body runs, fetched at this point or before, and the body leaves it. -/
theorem before3_in (c : Dev nD) : ∀ (w : Fin 14), w ≠ 12 → w ≠ 13 → ∀ (t : Fin cfg3.N) (d : (cfg3.win w).block.Idx → Elt F (cfg3.win w).elt),
    (dat3 V c).before w t d = (dat3 V c).after w t := by
  intro w
  fin_cases w <;> first
    | (intro h; exact absurd rfl h)
    | (intro _ h; exact absurd rfl h)
    | exact fun _ _ t d => ((dat3 V c).before_in_eq_fetched _ rfl (fun _ => rfl) (fun _ _ _ => rfl) (fun _ => rfl) t d).trans rfl

theorem live3 : ∀ (w : Fin cfg3.W), w ≠ 13 → ∀ (t : Fin cfg3.N), cfg3.idle w (grid3.coords t) = false := by decide +kernel

/-- The projection's window is idle, and not written back, before the last point; at the last point it is live. -/
theorem idle3 : ∀ (t : Fin cfg3.N), t.val ≠ 7 → cfg3.idle 13 (grid3.coords t) = true ∧ (cfg3.win 13).flush t = false := by decide +kernel
theorem live3_last : ∀ (t : Fin cfg3.N), t.val = 7 → cfg3.idle 13 (grid3.coords t) = false := by decide +kernel

/-- The sum's buffer carries it from the first point to the last. -/
def fresh3Tab : ℕ → Bool
  | 0 => true
  | n + 1 => n == 7
theorem fresh3 (t : Fin cfg3.N) : cfg3.fresh 12 t.val = fresh3Tab t.val :=
  Pipeline.Cfg.fresh_tab cfg3 12 fresh3Tab rfl (by decide +kernel) t.val (Nat.le_of_lt t.isLt)

theorem before3_out (c : Dev nD) (n : ℕ) (h : n + 1 < cfg3.N) (d) :
    (dat3 V c).before 12 ⟨n + 1, h⟩ d = acc3 V c n (Nat.lt_of_succ_lt h) := by
  have h8 : n + 1 < 8 := Nat.lt_of_lt_of_eq h N_3
  have hf : cfg3.fresh 12 (n + 1) = false := (fresh3 ⟨n + 1, h⟩).trans (by simp only [fresh3Tab, beq_eq_false_iff_ne]; omega)
  rw [Dat.before_out_traj _ 12 rfl (fun _ _ => rfl) (fun t _ hi _ => absurd ((live3 12 (by decide) t).symm.trans hi) (by decide)) (n + 1) ⟨n + 1, h⟩ rfl d,
    if_neg (by rw [hf]; decide), after3_out]
  rfl

theorem leaves3 (c : Dev nD) (w : Fin cfg3.W) (hw : w ≠ 13) (t : Fin cfg3.N) : (dat3 V c).leavesExact w t
    = owns (c : Thread nD τ) ((cfg3.win w).stage (cfg3.slots t w)) fullShare ((dat3 V c).after w t) := by
  unfold Dat.leavesExact; rw [live3 w hw]

theorem leaves3_last (c : Dev nD) (t : Fin cfg3.N) (ht : t.val = 7) : (dat3 V c).leavesExact 13 t
    = owns (c : Thread nD τ) ((cfg3.win 13).stage (cfg3.slots t 13)) fullShare ((dat3 V c).after 13 t) := by
  unfold Dat.leavesExact; rw [live3_last t ht]

theorem row3 (t : Fin cfg3.N) : defs₀ (F := F) .tc cfg3.body (cfg3.bodyArgs t (cfg3.slots t)) = bodyAt3 t := by
  unfold defs₀; rw [Defs.onTc_tc]

/-- What the projection's buffer is left at: as found before the last point, the sum projected at the last. -/
def left3 (c : Dev nD) (t : Fin cfg3.N) (e : Vec F S1024x1024 .f32) : Vec F S1024x1024 .f32 :=
  if t.val = 7 then (dat3 V c).after 13 t else e

/-- What the run's triple asks of point `t`: the sum so far from the sum before, and the projection's buffer. -/
theorem sum3 (c : Dev nD) (t : Fin cfg3.N) (d) (e : Vec F S1024x1024 .f32) :
    (k3_cond1 (grid3.coords t) = 1#1 ∧ ¬ k3_cond2 (grid3.coords t) = 1#1 ∧ ¬ k3_cond3 (grid3.coords t) = 1#1 ∧ acc3 V c t.val t.isLt = head3 V c t ∧ left3 V c t e = e)
      ∨ (¬ k3_cond1 (grid3.coords t) = 1#1 ∧ k3_cond2 (grid3.coords t) = 1#1 ∧ ¬ k3_cond3 (grid3.coords t) = 1#1
        ∧ acc3 V c t.val t.isLt = k3_pay1 (head3 V c t) ((dat3 V c).before 12 t d) ∧ left3 V c t e = e)
      ∨ (¬ k3_cond1 (grid3.coords t) = 1#1 ∧ k3_cond2 (grid3.coords t) = 1#1 ∧ k3_cond3 (grid3.coords t) = 1#1
        ∧ acc3 V c t.val t.isLt = k3_pay1 (head3 V c t) ((dat3 V c).before 12 t d)
        ∧ left3 V c t e = k3_pay2 (acc3 V c t.val t.isLt) ((dat3 V c).after 10 t) ((dat3 V c).after 11 t)) := by
  obtain ⟨n, h⟩ := t
  cases n with
  | zero =>
    exact .inl ⟨(first3 _).mpr rfl, fun e => by have := (later3 _).mp e; simp at this, fun e => by have := (final3 _).mp e; simp at this, rfl,
      if_neg (by simp)⟩
  | succ n =>
    have h1 : ¬ k3_cond1 (grid3.coords ⟨n + 1, h⟩) = 1#1 := fun e => by have := (first3 _).mp e; simp at this
    have h2 := (later3 ⟨n + 1, h⟩).mpr (by simp)
    rw [before3_out]
    by_cases h7 : n + 1 = 7
    · exact .inr (.inr ⟨h1, h2, (final3 _).mpr h7, rfl, (if_pos h7).trans (after3_aux V c _)⟩)
    · exact .inr (.inl ⟨h1, h2, fun e => h7 ((final3 _).mp e), rfl, if_neg h7⟩)

/-- So the last window is left as the library asks. -/
theorem left3_leaves (c : Dev nD) (t : Fin cfg3.N) (d) :
    owns (c : Thread nD τ) ((cfg3.win 13).stage (cfg3.slots t 13)) fullShare (left3 V c t ((dat3 V c).before 13 t d))
      ⊢ (dat3 V c).leavesExact 13 t := by
  by_cases ht : t.val = 7
  · rw [leaves3_last V c t ht, left3, if_pos ht]
  · rw [Dat.leavesExact_idle (dat3 V c) 13 t (idle3 t ht).1 (idle3 t ht).2, left3, if_neg ht]
    iintro H; iexists d; iexact H

set_option maxHeartbeats 1600000 in
theorem sound3 (c : Dev nD) (t : Fin cfg3.N) :
    iprop((dat3 V c).Φ t.castSucc ∗ (dat3 V c).owesAt () t.castSucc
        ∗ bigSep Finset.univ fun w : Fin 14 => iprop(∃ d, owns (c : Thread nD τ) ((cfg3.win w).stage (cfg3.slots t w)) fullShare ((dat3 V c).before w t d)))
      ⊢ wp frame (wpE (defs₀ (F := F)) Variants.none c none) Set.univ (bodyAt3 t) fun _ =>
        iprop((dat3 V c).Φ t.succ ∗ (dat3 V c).owesAt () t.succ ∗ bigSep Finset.univ fun w : Fin 14 => (dat3 V c).leavesExact w t) := by
  rw [bigSep_W3, bigSep_W3]
  simp only [leaves3 V c 0 (by decide), leaves3 V c 1 (by decide), leaves3 V c 2 (by decide), leaves3 V c 3 (by decide), leaves3 V c 4 (by decide), leaves3 V c 5 (by decide), leaves3 V c 6 (by decide), leaves3 V c 7 (by decide), leaves3 V c 8 (by decide), leaves3 V c 9 (by decide), leaves3 V c 10 (by decide), leaves3 V c 11 (by decide), leaves3 V c 12 (by decide)]
  rw [after3_out]
  simp only [
    before3_in V c 0 (by decide) (by decide), before3_in V c 1 (by decide) (by decide), before3_in V c 2 (by decide) (by decide),
    before3_in V c 3 (by decide) (by decide), before3_in V c 4 (by decide) (by decide), before3_in V c 5 (by decide) (by decide),
    before3_in V c 6 (by decide) (by decide), before3_in V c 7 (by decide) (by decide), before3_in V c 8 (by decide) (by decide),
    before3_in V c 9 (by decide) (by decide), before3_in V c 10 (by decide) (by decide), before3_in V c 11 (by decide) (by decide)]
  rw [show (dat3 V c).Φ t.succ = (dat3 V c).Φ t.castSucc from rfl,
    show (dat3 V c).owesAt () t.succ = (dat3 V c).owesAt () t.castSucc from rfl]
  unfold bodyAt3
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (run3 c (grid3.coords t) _ _ _ _ _ _ _ _ _ _ _ _ _ _ _ _ _ _ _ _ _ _ _ _ _ _ _ _
    ((dat3 V c).after 0 t) ((dat3 V c).after 1 t) ((dat3 V c).after 2 t) ((dat3 V c).after 3 t) ((dat3 V c).after 4 t)
    ((dat3 V c).after 5 t) ((dat3 V c).after 6 t) ((dat3 V c).after 7 t) ((dat3 V c).after 8 t) ((dat3 V c).after 9 t)
    ((dat3 V c).after 10 t) ((dat3 V c).after 11 t) _ _ _ _ (sum3 V c t d12 _) Set.univ _)
  isplitl [H0 H1 H2 H3 H4 H5 H6 H7 H8 H9 H10 H11]
  · unfold ins3
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10] <;> iassumption
  isplitl [H12]; · iexact H12
  isplitl [H13]; · iexact H13
  iintro ⟨⟨H0, H1, H2, H3, H4, H5, H6, H7, H8, H9, H10, H11⟩, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iapply left3_leaves V c t d13; iexact H13

/-- The library's obligation on the body, at every point. -/
theorem body_obligation3 (c : Dev nD) : BodyObligation (dat3 (F := F) V c) (defs₀ (F := F)) Variants.none () Set.univ := fun t => by
  rw [row3]
  exact sound3 V c t

end Cert.KernelIdeal.Own

end
-- ==== Proof.KI.Launch.lean ====
/-
  The whole program's run: the buffers' contents at each boundary of @main, every call as a segment between two boundaries, and the
  launch. `run` says that every execution ends, with every buffer @main holds at the last boundary's contents.
-/
module

public import proofs.«01_k».proof.Proof.KI.Dat0
public import proofs.«01_k».proof.Proof.KI.Dat1
public import proofs.«01_k».proof.Proof.KI.Dat2
public import proofs.«01_k».proof.Proof.KI.Dat3
public import proofs.«01_k».proof.Proof.Gen.KernelIdeal.Regions

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## A call between two boundaries, whichever call it is -/

section Call

/-- Every call's proof data. -/
abbrev Fam : Type := (p : Fin 4) → (c : Dev nD) → Dat τ (Elt F) Unit ℕ (UR sig nD τ) ℕ (Pipeline.pin (pcfgs (F := F)) adm p) c

/-- No core owes another anything, and no level is assigned. -/
abbrev noLev : GSem nD τ sig → Finset Unit := fun _ => ∅
abbrev lev0 : GSem nD τ sig → Unit → ℕ := fun _ _ => 0

/-- What rides beside the buffers: the generator register at some state, and nothing owed. -/
abbrev side (c : Dev nD) : sProp 𝕄 := iprop((∃ r, prngReg c r) ∗ ∃ W, owes (c : Thread nD τ) (0 : CellTallies nD τ sig Unit) W)

/-- The thread state at a boundary: every buffer @main holds at the boundary's contents. -/
abbrev state (W : Dev nD → Valuation τ sig (Elt F)) (c : Dev nD) : sProp 𝕄 :=
  iprop(StableHlo.held (c : Thread nD τ) (Pipeline.ucRefs τ sig) (W c) ∗ side c)

variable (pd : Fam (F := F)) (p : Fin 4) (hl : Pipeline.LaunchFacts (nD := nD) (τ := τ) cfgs p) (W W' : Dev nD → Valuation τ sig (Elt F))

set_option backward.isDefEq.respectTransparency.types false in
/-- A call from the boundary `W` to the boundary `W'`: its arrays are taken out of the buffers at `W` and put back as it leaves them,
    which is what `W'` has (`hF`), the other buffers staying (`hrest`). -/
def call (hA : ∀ c w, (pd p c).A w = W c (Pipeline.arrRef (Pipeline.pin (pcfgs (F := F)) adm p).spec w)) (hq : ∀ c w, (pd p c).q w = fullShare)
    (hΦ : ∀ c t, (pd p c).Φ t = Pipeline.ΦA (Pipeline.pin (pcfgs (F := F)) adm p).spec c) (hO : ∀ c t, (pd p c).owed t = 0) (hR : ∀ c t, (pd p c).recorded t = Set.univ)
    (hb : ∀ c, BodyObligation (pd p c) (defs₀ (F := F)) Variants.none () Set.univ)
    (hF : ∀ c w, (pd p c).arrAt w (Pipeline.pin (pcfgs (F := F)) adm p).N = W' c (Pipeline.arrRef (Pipeline.pin (pcfgs (F := F)) adm p).spec w))
    (hrest : ∀ c (b : Ref sig .tc), b ∉ Finset.univ.image (Pipeline.arrRef (Pipeline.pin (pcfgs (F := F)) adm p).spec) → W' c b = W c b) :
    Pipeline.RegionSeg (pcfgs (F := F)) adm pd () defs₀ Variants.none noLev lev0 p where
  win := hl.win.to₀
  block_pos := hl.block_pos
  stage_whole := hl.stage_whole
  K := PEmpty
  osem k := k.elim
  ho := Pipeline.OwnSemFacts.none _
  hbody c := (hb c).loose
  hwaits := Pipeline.hwaits_of_owed_zero _ _ _ _ noLev lev0 p fun c t => hO c t
  pre := state W
  post := state W'
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c fun b => W c b
  hentry c := by
    rw [Pipeline.ownSems0_none]
    have hsplit := Pipeline.arrays_of_unscopedBufs (p := p) (pcfgs (F := F)) adm pd hl.win hl.arr_whole c
      ((pd p c).share_full fun w => hq c w) (fun b => W c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [hO]
      icases HO with ⟨%T, HO⟩; iexists T; isplitr; · ipureintro; exact fun x _ => Or.inl (by rw [hR]; exact Set.mem_univ x)
      iexact HO
    isplitl [Hp]; · iexact Hp
    iexact Hrest
  hin c := by
    rw [hΦ]; unfold Pipeline.ΦA
    iintro ⟨Hp, -, Hr⟩
    isplitl [Hr]; · iexact Hr
    iexact Hp
  hout c := by
    rw [Pipeline.ownSems0_none, hΦ]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      hl.win hl.arr_whole c pd ((pd p c).share_full fun w => hq c w)
      (fun b => W c b) (fun b => W' c b) ((pd p c).arrAt · (Pipeline.pin (pcfgs (F := F)) adm p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [hO]
    icases HO with ⟨%T, -, HO⟩; iexists T; iexact HO

end Call

/-! ## The boundaries of @main -/

variable (m : (ℓ : Loc nD τ sig) → Buf (Elt F) ℓ) (ρ : Dev nD → PrngReg)

/-- What the core's buffers hold at a boundary, at the references of its own. -/
abbrev rd (W : Dev nD → Valuation τ sig (Elt F)) : (c : Dev nD) → (b : Ref sig .tc) → Buf (Elt F) ((c : Thread nD τ).loc b) := fun c b => W c b

/-- At the launch; after each host stretch; after each call, its arrays at what its pipeline leaves. -/
abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev W4 : Dev nD → Valuation τ sig (Elt F) := fun c => StableHlo.after hostOps0_3 (W3 m ρ c)
abbrev W5 : Dev nD → Valuation τ sig (Elt F) := fun c => StableHlo.after hostOps0_4 (W4 m ρ c)
def W6 : Dev nD → Valuation τ sig (Elt F) := fun c =>
  Pipeline.withArrays spec0 c (W5 m ρ c) fun w => (dat0 (rd (W5 m ρ)) c).arrAt w cfg0.N
abbrev W7 : Dev nD → Valuation τ sig (Elt F) := fun c => StableHlo.after hostOps1 (W6 m ρ c)
def W8 : Dev nD → Valuation τ sig (Elt F) := fun c =>
  Pipeline.withArrays spec1 c (W7 m ρ c) fun w => (dat1 (rd (W7 m ρ)) c).arrAt w cfg1.N
abbrev W9 : Dev nD → Valuation τ sig (Elt F) := fun c => StableHlo.after hostOps2 (W8 m ρ c)
def W10 : Dev nD → Valuation τ sig (Elt F) := fun c =>
  Pipeline.withArrays spec2 c (W9 m ρ c) fun w => (dat2 (rd (W9 m ρ)) c).arrAt w cfg2.N
abbrev W11 : Dev nD → Valuation τ sig (Elt F) := fun c => StableHlo.after hostOps3 (W10 m ρ c)
def W12 : Dev nD → Valuation τ sig (Elt F) := fun c =>
  Pipeline.withArrays spec3 c (W11 m ρ c) fun w => (dat3 (rd (W11 m ρ)) c).arrAt w cfg3.N
abbrev W13 : Dev nD → Valuation τ sig (Elt F) := fun c => StableHlo.after hostOps4 (W12 m ρ c)

/-! A call's arrays after it, and what it leaves as it was: every buffer but its output arrays. -/

theorem arr0 (c : Dev nD) (w : Fin cfg0.W) :
    W6 m ρ c (Proc.devRef .tc (Pipeline.arrRef spec0 w)) = (dat0 (rd (W5 m ρ)) c).arrAt w cfg0.N := by
  unfold W6; exact Pipeline.withArrays_arr spec0 launch0.win.arr_inj c _ _ w

theorem off0 (c : Dev nD) (b : Ref sig .tc) (hb : b ∉ Finset.univ.image (Pipeline.arrRef spec0)) :
    W6 m ρ c (Proc.devRef .tc b) = W5 m ρ c (Proc.devRef .tc b) := by
  unfold W6; exact Pipeline.withArrays_of_ne spec0 c _ _ b fun w e => hb (Finset.mem_image.mpr ⟨w, Finset.mem_univ _, e⟩)

theorem stay0 (c : Dev nD) (b : Ref sig .tc) (h : ∀ w : Fin cfg0.W, Pipeline.arrRef spec0 w = b → (cfg0.win w).isOut = false) :
    W6 m ρ c (Proc.devRef .tc b) = W5 m ρ c (Proc.devRef .tc b) := by
  by_cases hb : b ∈ Finset.univ.image (Pipeline.arrRef spec0)
  · obtain ⟨w, -, rfl⟩ := Finset.mem_image.mp hb
    exact (arr0 m ρ c w).trans (((dat0 (rd (W5 m ρ)) c).arrAt_in w (h w rfl) _).trans (A_eq0 (rd (W5 m ρ)) c w))
  · exact off0 m ρ c b hb

theorem arr1 (c : Dev nD) (w : Fin cfg1.W) :
    W8 m ρ c (Proc.devRef .tc (Pipeline.arrRef spec1 w)) = (dat1 (rd (W7 m ρ)) c).arrAt w cfg1.N := by
  unfold W8; exact Pipeline.withArrays_arr spec1 launch1.win.arr_inj c _ _ w

theorem off1 (c : Dev nD) (b : Ref sig .tc) (hb : b ∉ Finset.univ.image (Pipeline.arrRef spec1)) :
    W8 m ρ c (Proc.devRef .tc b) = W7 m ρ c (Proc.devRef .tc b) := by
  unfold W8; exact Pipeline.withArrays_of_ne spec1 c _ _ b fun w e => hb (Finset.mem_image.mpr ⟨w, Finset.mem_univ _, e⟩)

theorem stay1 (c : Dev nD) (b : Ref sig .tc) (h : ∀ w : Fin cfg1.W, Pipeline.arrRef spec1 w = b → (cfg1.win w).isOut = false) :
    W8 m ρ c (Proc.devRef .tc b) = W7 m ρ c (Proc.devRef .tc b) := by
  by_cases hb : b ∈ Finset.univ.image (Pipeline.arrRef spec1)
  · obtain ⟨w, -, rfl⟩ := Finset.mem_image.mp hb
    exact (arr1 m ρ c w).trans (((dat1 (rd (W7 m ρ)) c).arrAt_in w (h w rfl) _).trans (A_eq1 (rd (W7 m ρ)) c w))
  · exact off1 m ρ c b hb

theorem arr2 (c : Dev nD) (w : Fin cfg2.W) :
    W10 m ρ c (Proc.devRef .tc (Pipeline.arrRef spec2 w)) = (dat2 (rd (W9 m ρ)) c).arrAt w cfg2.N := by
  unfold W10; exact Pipeline.withArrays_arr spec2 launch2.win.arr_inj c _ _ w

theorem off2 (c : Dev nD) (b : Ref sig .tc) (hb : b ∉ Finset.univ.image (Pipeline.arrRef spec2)) :
    W10 m ρ c (Proc.devRef .tc b) = W9 m ρ c (Proc.devRef .tc b) := by
  unfold W10; exact Pipeline.withArrays_of_ne spec2 c _ _ b fun w e => hb (Finset.mem_image.mpr ⟨w, Finset.mem_univ _, e⟩)

theorem stay2 (c : Dev nD) (b : Ref sig .tc) (h : ∀ w : Fin cfg2.W, Pipeline.arrRef spec2 w = b → (cfg2.win w).isOut = false) :
    W10 m ρ c (Proc.devRef .tc b) = W9 m ρ c (Proc.devRef .tc b) := by
  by_cases hb : b ∈ Finset.univ.image (Pipeline.arrRef spec2)
  · obtain ⟨w, -, rfl⟩ := Finset.mem_image.mp hb
    exact (arr2 m ρ c w).trans (((dat2 (rd (W9 m ρ)) c).arrAt_in w (h w rfl) _).trans (A_eq2 (rd (W9 m ρ)) c w))
  · exact off2 m ρ c b hb

theorem arr3 (c : Dev nD) (w : Fin cfg3.W) :
    W12 m ρ c (Proc.devRef .tc (Pipeline.arrRef spec3 w)) = (dat3 (rd (W11 m ρ)) c).arrAt w cfg3.N := by
  unfold W12; exact Pipeline.withArrays_arr spec3 launch3.win.arr_inj c _ _ w

theorem off3 (c : Dev nD) (b : Ref sig .tc) (hb : b ∉ Finset.univ.image (Pipeline.arrRef spec3)) :
    W12 m ρ c (Proc.devRef .tc b) = W11 m ρ c (Proc.devRef .tc b) := by
  unfold W12; exact Pipeline.withArrays_of_ne spec3 c _ _ b fun w e => hb (Finset.mem_image.mpr ⟨w, Finset.mem_univ _, e⟩)

theorem stay3 (c : Dev nD) (b : Ref sig .tc) (h : ∀ w : Fin cfg3.W, Pipeline.arrRef spec3 w = b → (cfg3.win w).isOut = false) :
    W12 m ρ c (Proc.devRef .tc b) = W11 m ρ c (Proc.devRef .tc b) := by
  by_cases hb : b ∈ Finset.univ.image (Pipeline.arrRef spec3)
  · obtain ⟨w, -, rfl⟩ := Finset.mem_image.mp hb
    exact (arr3 m ρ c w).trans (((dat3 (rd (W11 m ρ)) c).arrAt_in w (h w rfl) _).trans (A_eq3 (rd (W11 m ρ)) c w))
  · exact off3 m ρ c b hb

/-! ## The arguments end as launched -/

/-- @main's arguments. -/
abbrev args : List (Ref sig .tc) :=
  [main_arg0, main_arg1, main_arg2, main_arg3, main_arg4, main_arg5, main_arg6, main_arg7, main_arg8, main_arg9, main_arg10, main_arg11,
    main_arg12, main_arg13, main_arg14, main_arg15, main_arg16, main_arg17, main_arg18, main_arg19, main_arg20, main_arg21]

theorem args_hostOps0 : ∀ a ∈ args, a ∉ hostOps0_W := ListAll.forall_mem_of_all_decide (by decide +kernel)
theorem args_hostOps0_1 : ∀ a ∈ args, a ∉ hostOps0_1_W := ListAll.forall_mem_of_all_decide (by decide +kernel)
theorem args_hostOps0_2 : ∀ a ∈ args, a ∉ hostOps0_2_W := ListAll.forall_mem_of_all_decide (by decide +kernel)
theorem args_hostOps0_3 : ∀ a ∈ args, a ∉ hostOps0_3_W := ListAll.forall_mem_of_all_decide (by decide +kernel)
theorem args_hostOps0_4 : ∀ a ∈ args, a ∉ hostOps0_4_W := ListAll.forall_mem_of_all_decide (by decide +kernel)
theorem args_hostOps1 : ∀ a ∈ args, a ∉ hostOps1_W := ListAll.forall_mem_of_all_decide (by decide +kernel)
theorem args_hostOps2 : ∀ a ∈ args, a ∉ hostOps2_W := ListAll.forall_mem_of_all_decide (by decide +kernel)
theorem args_hostOps3 : ∀ a ∈ args, a ∉ hostOps3_W := ListAll.forall_mem_of_all_decide (by decide +kernel)
theorem args_hostOps4 : ∀ a ∈ args, a ∉ hostOps4_W := ListAll.forall_mem_of_all_decide (by decide +kernel)
theorem args_call0 : ∀ a ∈ args, ∀ w : Fin cfg0.W, Pipeline.arrRef spec0 w = a → (cfg0.win w).isOut = false :=
  ListAll.forall_mem_of_all_decide (by decide +kernel)
theorem args_call1 : ∀ a ∈ args, ∀ w : Fin cfg1.W, Pipeline.arrRef spec1 w = a → (cfg1.win w).isOut = false :=
  ListAll.forall_mem_of_all_decide (by decide +kernel)
theorem args_call2 : ∀ a ∈ args, ∀ w : Fin cfg2.W, Pipeline.arrRef spec2 w = a → (cfg2.win w).isOut = false :=
  ListAll.forall_mem_of_all_decide (by decide +kernel)
theorem args_call3 : ∀ a ∈ args, ∀ w : Fin cfg3.W, Pipeline.arrRef spec3 w = a → (cfg3.win w).isOut = false :=
  ListAll.forall_mem_of_all_decide (by decide +kernel)

theorem kept1 (c : Dev nD) : ∀ a ∈ args, W1 m ρ c (Proc.devRef .tc a) = m ((c : Thread nD τ).loc a) := fun a ha =>
  (StableHlo.after_of_writes_sub hostOps0 _ hostOps0_writes (args_hostOps0 a ha)).trans rfl
theorem kept2 (c : Dev nD) : ∀ a ∈ args, W2 m ρ c (Proc.devRef .tc a) = m ((c : Thread nD τ).loc a) := fun a ha =>
  (StableHlo.after_of_writes_sub hostOps0_1 _ hostOps0_1_writes (args_hostOps0_1 a ha)).trans (kept1 m ρ c a ha)
theorem kept3 (c : Dev nD) : ∀ a ∈ args, W3 m ρ c (Proc.devRef .tc a) = m ((c : Thread nD τ).loc a) := fun a ha =>
  (StableHlo.after_of_writes_sub hostOps0_2 _ hostOps0_2_writes (args_hostOps0_2 a ha)).trans (kept2 m ρ c a ha)
theorem kept4 (c : Dev nD) : ∀ a ∈ args, W4 m ρ c (Proc.devRef .tc a) = m ((c : Thread nD τ).loc a) := fun a ha =>
  (StableHlo.after_of_writes_sub hostOps0_3 _ hostOps0_3_writes (args_hostOps0_3 a ha)).trans (kept3 m ρ c a ha)
theorem kept5 (c : Dev nD) : ∀ a ∈ args, W5 m ρ c (Proc.devRef .tc a) = m ((c : Thread nD τ).loc a) := fun a ha =>
  (StableHlo.after_of_writes_sub hostOps0_4 _ hostOps0_4_writes (args_hostOps0_4 a ha)).trans (kept4 m ρ c a ha)
theorem kept6 (c : Dev nD) : ∀ a ∈ args, W6 m ρ c (Proc.devRef .tc a) = m ((c : Thread nD τ).loc a) := fun a ha =>
  (stay0 m ρ c a (args_call0 a ha)).trans (kept5 m ρ c a ha)
theorem kept7 (c : Dev nD) : ∀ a ∈ args, W7 m ρ c (Proc.devRef .tc a) = m ((c : Thread nD τ).loc a) := fun a ha =>
  (StableHlo.after_of_writes_sub hostOps1 _ hostOps1_writes (args_hostOps1 a ha)).trans (kept6 m ρ c a ha)
theorem kept8 (c : Dev nD) : ∀ a ∈ args, W8 m ρ c (Proc.devRef .tc a) = m ((c : Thread nD τ).loc a) := fun a ha =>
  (stay1 m ρ c a (args_call1 a ha)).trans (kept7 m ρ c a ha)
theorem kept9 (c : Dev nD) : ∀ a ∈ args, W9 m ρ c (Proc.devRef .tc a) = m ((c : Thread nD τ).loc a) := fun a ha =>
  (StableHlo.after_of_writes_sub hostOps2 _ hostOps2_writes (args_hostOps2 a ha)).trans (kept8 m ρ c a ha)
theorem kept10 (c : Dev nD) : ∀ a ∈ args, W10 m ρ c (Proc.devRef .tc a) = m ((c : Thread nD τ).loc a) := fun a ha =>
  (stay2 m ρ c a (args_call2 a ha)).trans (kept9 m ρ c a ha)
theorem kept11 (c : Dev nD) : ∀ a ∈ args, W11 m ρ c (Proc.devRef .tc a) = m ((c : Thread nD τ).loc a) := fun a ha =>
  (StableHlo.after_of_writes_sub hostOps3 _ hostOps3_writes (args_hostOps3 a ha)).trans (kept10 m ρ c a ha)
theorem kept12 (c : Dev nD) : ∀ a ∈ args, W12 m ρ c (Proc.devRef .tc a) = m ((c : Thread nD τ).loc a) := fun a ha =>
  (stay3 m ρ c a (args_call3 a ha)).trans (kept11 m ρ c a ha)
theorem kept13 (c : Dev nD) : ∀ a ∈ args, W13 m ρ c (Proc.devRef .tc a) = m ((c : Thread nD τ).loc a) := fun a ha =>
  (StableHlo.after_of_writes_sub hostOps4 _ hostOps4_writes (args_hostOps4 a ha)).trans (kept12 m ρ c a ha)

/-! ## The launch -/

/-- Every call's proof data, at its boundary's contents. -/
def fam : Fam (F := F)
  | ⟨0, _⟩ => fun c => dat0 (rd (W5 m ρ)) c
  | ⟨1, _⟩ => fun c => dat1 (rd (W7 m ρ)) c
  | ⟨2, _⟩ => fun c => dat2 (rd (W9 m ρ)) c
  | ⟨3, _⟩ => fun c => dat3 (rd (W11 m ρ)) c

set_option backward.isDefEq.respectTransparency.types false in
def call0 : Pipeline.RegionSeg (pcfgs (F := F)) adm (fam m ρ) () defs₀ Variants.none noLev lev0 0 :=
  call (fam m ρ) 0 launch0 (W5 m ρ) (W6 m ρ) (fun c w => A_eq0 (rd (W5 m ρ)) c w) (fun _ _ => rfl) (fun _ _ => rfl) (fun _ _ => rfl)
    (fun _ _ => rfl) (fun c => body_obligation0 (rd (W5 m ρ)) c) (fun c w => (arr0 m ρ c w).symm) (off0 m ρ)

set_option backward.isDefEq.respectTransparency.types false in
def call1 : Pipeline.RegionSeg (pcfgs (F := F)) adm (fam m ρ) () defs₀ Variants.none noLev lev0 1 :=
  call (fam m ρ) 1 launch1 (W7 m ρ) (W8 m ρ) (fun c w => A_eq1 (rd (W7 m ρ)) c w) (fun _ _ => rfl) (fun _ _ => rfl) (fun _ _ => rfl)
    (fun _ _ => rfl) (fun c => body_obligation1 (rd (W7 m ρ)) c) (fun c w => (arr1 m ρ c w).symm) (off1 m ρ)

set_option backward.isDefEq.respectTransparency.types false in
def call2 : Pipeline.RegionSeg (pcfgs (F := F)) adm (fam m ρ) () defs₀ Variants.none noLev lev0 2 :=
  call (fam m ρ) 2 launch2 (W9 m ρ) (W10 m ρ) (fun c w => A_eq2 (rd (W9 m ρ)) c w) (fun _ _ => rfl) (fun _ _ => rfl) (fun _ _ => rfl)
    (fun _ _ => rfl) (fun c => body_obligation2 (rd (W9 m ρ)) c) (fun c w => (arr2 m ρ c w).symm) (off2 m ρ)

set_option backward.isDefEq.respectTransparency.types false in
def call3 : Pipeline.RegionSeg (pcfgs (F := F)) adm (fam m ρ) () defs₀ Variants.none noLev lev0 3 :=
  call (fam m ρ) 3 launch3 (W11 m ρ) (W12 m ρ) (fun c w => A_eq3 (rd (W11 m ρ)) c w) (fun _ _ => rfl) (fun _ _ => rfl) (fun _ _ => rfl)
    (fun _ _ => rfl) (fun c => body_obligation3 (rd (W11 m ρ)) c) (fun c w => (arr3 m ρ c w).symm) (off3 m ρ)

/-- A host stretch from the boundary `W`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none noLev lev0 :=
  Pipeline.HostSeg.ofOps _ _ _ _ _ (Pipeline.ucRefs τ sig) ops (fun op h => Pipeline.sub_ucRefs op ((List.forall_iff_forall_mem.mp hsub) op h))
    (fun op h => (List.forall_iff_forall_mem.mp hfresh) op h) W side

/-- @main, segment by segment. -/
abbrev parts : List (Pipeline.Seg (pcfgs (F := F)) adm (fam m ρ) () defs₀ Variants.none noLev lev0) :=
  [.host (hostSeg hostOps0 hostOps0_sub hostOps0_fresh (W0 m ρ)),
   .host (hostSeg hostOps0_1 hostOps0_1_sub hostOps0_1_fresh (W1 m ρ)),
   .host (hostSeg hostOps0_2 hostOps0_2_sub hostOps0_2_fresh (W2 m ρ)),
   .host (hostSeg hostOps0_3 hostOps0_3_sub hostOps0_3_fresh (W3 m ρ)),
   .host (hostSeg hostOps0_4 hostOps0_4_sub hostOps0_4_fresh (W4 m ρ)),
   .region (call0 m ρ),
   .host (hostSeg hostOps1 hostOps1_sub hostOps1_fresh (W6 m ρ)),
   .region (call1 m ρ),
   .host (hostSeg hostOps2 hostOps2_sub hostOps2_fresh (W8 m ρ)),
   .region (call2 m ρ),
   .host (hostSeg hostOps3 hostOps3_sub hostOps3_fresh (W10 m ρ)),
   .region (call3 m ρ),
   .host (hostSeg hostOps4 hostOps4_sub hostOps4_fresh (W12 m ρ))]

theorem main_parts (c : Dev nD) : main (F := F) c = Pipeline.Seg.run (parts m ρ) := (main_chain c).trans (by chain_rfl)

set_option backward.isDefEq.respectTransparency.types false in
/-- Every execution of @main ends, nothing faulting, with every buffer it holds at the last boundary's contents and every counter at
    zero. -/
theorem run : θ_run defs (onTc (τ := τ) (main (F := F))) ⟨m, fun _ => 0, ρ⟩ (fun r =>
    (∀ (c : Dev nD), ∀ b ∈ Pipeline.ucRefs τ sig, r.2.mem ((c : Thread nD τ).1, b) = W13 m ρ c b) ∧ r.2.sem = fun _ => 0) :=
  Pipeline.θ_run_regions_kit_sems (pcfgs (F := F)) adm (fam m ρ) () cellOf_inj emb₁ defs₀ Variants.none noLev lev0 m ρ main (parts m ρ)
    (fun c Q => by rw [main_parts m ρ c])
    (by simp only [parts, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := state (W0 m ρ))
    (Tₙ := fun c => iprop(StableHlo.held (c : Thread nD τ) (Pipeline.ucRefs τ sig) (W13 m ρ c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hostSeg, Pipeline.HostSeg.ofOps]
      iintro ⟨Hh, Hp, HO⟩
      isplitl [Hh Hp]
      · isplitl [Hh]; · iexact Hh
        iexact Hp
      iexact HO⟩)
    (hinit := by
      refine Pipeline.initEach noLev lev0 fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = W13 m ρ c b)
    (hfin := fun c s' => by
      iintro ⟨⟨Hh, -⟩, HSI⟩
      unfold StableHlo.held
      imodintro
      iapply (pointsTo_read_all (Pipeline.ucRefs τ sig) (fun b => ((c : Thread nD τ).1, b)) (W13 m ρ c) s')
      isplitl [Hh] <;> iassumption)
    (hQ := fun s h hz => ⟨h, funext fun g => hz g (.inr (regions_no_unscoped g.2))⟩)

/-- @main holds a buffer no scope declares. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem args_uc : ∀ a ∈ args, ¬ (Proc.devRef .tc a : DevRef τ sig).isScoped := ListAll.forall_mem_of_all_decide (by decide +kernel)

/-- Every execution ends with the arguments as launched, the result at the last boundary's contents and every counter at zero. -/
theorem run_ends : θ_run defs (onTc (τ := τ) (main (F := F))) ⟨m, fun _ => 0, ρ⟩ (fun r =>
    (∀ c : Dev nD, (∀ a ∈ args, r.2.mem ((c : Thread nD τ).loc a) = m ((c : Thread nD τ).loc a))
      ∧ r.2.mem ((c : Thread nD τ).loc main_v41) = W13 m ρ c (Proc.devRef .tc main_v41)) ∧ r.2.sem = fun _ => 0) :=
  (θ_run defs _ _).mono (fun r h => ⟨fun c => ⟨fun a ha => (h.1 c _ (mem_uc a (args_uc a ha))).trans (kept13 m ρ c a ha),
    h.1 c _ (mem_uc main_v41 (by decide))⟩, h.2⟩) (run m ρ)

/-- The frame claim's statement. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21))
      ∧ r.2.sem = fun _ => 0) :=
  (θ_run defs _ _).mono (fun r h => ⟨fun c => by
    have ha := (h.1 c).1
    refine ⟨?_, ?_, ?_, ?_, ?_, ?_, ?_, ?_, ?_, ?_, ?_, ?_, ?_, ?_, ?_, ?_, ?_, ?_, ?_, ?_, ?_, ?_⟩ <;> exact ha _ (by decide), h.2⟩) (run_ends m ρ)

end Cert.KernelIdeal.Own

end
-- ==== Proof.KI.Blocks.lean ====
/-
  The operands' blocks read at an index: at every point a whole operand is itself, and an operand that holds all heads' weights gives
  the head of the point. Each call's output arrays are what its last point leaves, or, for the joint matrices, every point's own.
-/
module

public import proofs.«01_k».proof.Proof.KI.Launch
public import Idealize.ShloMosaic.Lib.Pipeline.ValueKit
public import Idealize.ShloMosaic.Lib.Pointwise

@[expose] public section

set_option maxRecDepth 16384

noncomputable section

namespace Cert.KernelIdeal.Own

open Cert.KernelIdeal Cert.KernelIdeal.Gen
open Idealize.ShloMosaic Idealize.ShloMosaic.TcCoe Idealize.ShloMosaic.Pointwise

variable {F : FTy → Type} [FloatOps F] [Named F]
variable (V : (c : Dev nD) → (b : Ref sig .tc) → Buf (Elt F) ((c : Thread nD τ).loc b)) (c : Dev nD)

/-! ## The front end -/

section Call0

theorem whole0 : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] := by decide +kernel

variable {x0 : Vec F S1024x16 .f32} {x1 : Vec F S16x32 .f32} {x2 : Vec F S1x512 .f32} {x3 : Vec F S512x32 .f32} {x4 : Vec F S1x512 .f32} {x5 : Vec F S512x512 .f32} {x6 : Vec F S1x512 .f32} {x7 : Vec F S1024x8192 .f32} {x8 : Vec F S1x1024 .f32} {x9 : Vec F S512x1024 .f32} {x10 : Vec F S1x512 .f32}
set_option maxHeartbeats 4000000 in
theorem reads0 (t : Fin cfg0.N)
    (e0 : V c main_v15 = x0) (e1 : V c main_v13 = x1) (e2 : V c main_v18 = x2) (e3 : V c main_v19 = x3) (e4 : V c main_v20 = x4) (e5 : V c main_arg4 = x5) (e6 : V c main_v21 = x6) (e7 : V c main_arg6 = x7) (e8 : V c main_v22 = x8) (e9 : V c main_arg8 = x9) (e10 : V c main_v23 = x10) :
    (∀ r d, blk0 V c 0 t (ix2 r d) = x0 (ix2 r d))
    ∧ (∀ r d, blk0 V c 1 t (ix2 r d) = x1 (ix2 r d))
    ∧ (∀ r d, blk0 V c 2 t (ix2 r d) = x2 (ix2 r d))
    ∧ (∀ r d, blk0 V c 3 t (ix2 r d) = x3 (ix2 r d))
    ∧ (∀ r d, blk0 V c 4 t (ix2 r d) = x4 (ix2 r d))
    ∧ (∀ r d, blk0 V c 5 t (ix2 r d) = x5 (ix2 r d))
    ∧ (∀ r d, blk0 V c 6 t (ix2 r d) = x6 (ix2 r d))
    ∧ (∀ r d, blk0 V c 7 t (ix2 r d) = x7 (ix2 r d))
    ∧ (∀ r d, blk0 V c 8 t (ix2 r d) = x8 (ix2 r d))
    ∧ (∀ r d, blk0 V c 9 t (ix2 r d) = x9 (ix2 r d))
    ∧ (∀ r d, blk0 V c 10 t (ix2 r d) = x10 (ix2 r d)) := by
  subst e0 e1 e2 e3 e4 e5 e6 e7 e8 e9 e10
  refine ⟨?_, ?_, ?_, ?_, ?_, ?_, ?_, ?_, ?_, ?_, ?_⟩ <;> intros <;> blk_simp [blk0] <;> refine congrArg _ ?_ <;> blk_ext [whole0]

theorem out0 : (dat0 V c).arrAt 11 cfg0.N = (feats V c t0_0 : Vec F S1024x512 .f32) := by
  refine (dat0 V c).arrAt_eq_of_after_last 11 t0_0 (by decide +kernel) _ fun j => ?_
  blk_simp [after0_out]

end Call0

/-! ## The first step -/

section Call1

theorem whole1 : ∀ t : Fin cfg1.N, win1_0.index t = ![0, 0] ∧ win1_1.index t = ![0, 0] := by decide +kernel
theorem perHead1 : ∀ t : Fin cfg1.N, win1_2.index t = ![t.val, 0, 0] ∧ win1_3.index t = ![t.val, 0, 0] ∧ win1_4.index t = ![t.val, 0, 0] ∧ win1_5.index t = ![t.val, 0, 0] ∧ win1_6.index t = ![t.val, 0, 0] ∧ win1_7.index t = ![t.val, 0, 0] ∧ win1_8.index t = ![t.val, 0, 0] ∧ win1_9.index t = ![t.val, 0, 0] ∧ win1_10.index t = ![t.val, 0, 0] := by decide +kernel

variable {x0 : Vec F S1024x512 .f32} {x1 : Vec F S64x64 .f32} {x2 : Vec F S8x512x512 .f32} {x3 : Vec F S8x512x512 .f32} {x4 : Vec F S8x512x512 .f32} {x5 : Vec F S8x512x512 .f32} {x6 : Vec F S8x1x512 .f32} {x7 : Vec F S8x512x512 .f32} {x8 : Vec F S8x1x512 .f32} {x9 : Vec F S8x1x512 .f32} {x10 : Vec F S8x1x512 .f32}
set_option maxHeartbeats 4000000 in
theorem reads1 (t : Fin cfg1.N) (n : Fin 8) (hn : t.val = n.val)
    (e0 : V c main_v24 = x0) (e1 : V c main_arg10 = x1) (e2 : V c main_arg11 = x2) (e3 : V c main_arg12 = x3) (e4 : V c main_arg13 = x4) (e5 : V c main_arg14 = x5) (e6 : V c main_v25 = x6) (e7 : V c main_arg16 = x7) (e8 : V c main_v26 = x8) (e9 : V c main_v27 = x9) (e10 : V c main_v28 = x10) :
    (∀ r d, blk1 V c 0 t (ix2 r d) = x0 (ix2 r d))
    ∧ (∀ r d, blk1 V c 1 t (ix2 r d) = x1 (ix2 r d))
    ∧ (∀ i j, blk1 V c 2 t (ix3 0 i j) = x2 (ix3 n i j))
    ∧ (∀ i j, blk1 V c 3 t (ix3 0 i j) = x3 (ix3 n i j))
    ∧ (∀ i j, blk1 V c 4 t (ix3 0 i j) = x4 (ix3 n i j))
    ∧ (∀ i j, blk1 V c 5 t (ix3 0 i j) = x5 (ix3 n i j))
    ∧ (∀ i j, blk1 V c 6 t (ix3 0 i j) = x6 (ix3 n i j))
    ∧ (∀ i j, blk1 V c 7 t (ix3 0 i j) = x7 (ix3 n i j))
    ∧ (∀ i j, blk1 V c 8 t (ix3 0 i j) = x8 (ix3 n i j))
    ∧ (∀ i j, blk1 V c 9 t (ix3 0 i j) = x9 (ix3 n i j))
    ∧ (∀ i j, blk1 V c 10 t (ix3 0 i j) = x10 (ix3 n i j)) := by
  subst e0 e1 e2 e3 e4 e5 e6 e7 e8 e9 e10
  refine ⟨?_, ?_, ?_, ?_, ?_, ?_, ?_, ?_, ?_, ?_, ?_⟩ <;> intros <;> blk_simp [blk1] <;> refine congrArg _ ?_ <;> blk_ext [whole1, perHead1]

theorem out1 : (dat1 V c).arrAt 11 cfg1.N = (acc1 V c 7 (by decide) : Vec F S1024x512 .f32) := by
  refine (dat1 V c).arrAt_eq_of_after_last 11 t1_7 (by decide +kernel) _ fun j => ?_
  blk_simp [after1_out]
  rfl

/-- The joint matrices, one per head. -/
theorem aux1 (Y : Vec F S8x512x512 .f32)
    (h : ∀ (t : Fin cfg1.N) (n : Fin 8), t.val = n.val → ∀ i j, k1_pay4 (blk1 V c 2 t) (blk1 V c 3 t) (ix3 0 i j) = Y (ix3 n i j)) :
    (dat1 V c).arrAt 12 cfg1.N = Y := by
  refine (dat1 V c).arrAt_eq_of_covers 12 _ (by decide +kernel) fun t hf y => ?_
  have e : ∀ t : Fin cfg1.N, win1_12.index t = ![t.val, 0, 0] := by decide +kernel
  blk_simp
  rw [after1_aux]
  obtain ⟨n, hn⟩ : ∃ n : Fin 8, t.val = n.val := ⟨t.cast N_1, rfl⟩
  have hy : y = ix3 (0 : Fin 1) (y 1) (y 2) := funext fun a => match a with
    | 0 => Subsingleton.elim (α := Fin 1) _ _
    | 1 => rfl
    | 2 => rfl
  rw [hy]
  refine (h t n hn _ _).trans (congrArg Y ?_)
  blk_ext [e]

end Call1

/-! ## The second step -/

section Call2

theorem whole2 : ∀ t : Fin cfg2.N, win2_0.index t = ![0, 0] ∧ win2_1.index t = ![0, 0] := by decide +kernel
theorem perHead2 : ∀ t : Fin cfg2.N, win2_2.index t = ![t.val, 0, 0] ∧ win2_3.index t = ![t.val, 0, 0] ∧ win2_4.index t = ![t.val, 0, 0] ∧ win2_5.index t = ![t.val, 0, 0] ∧ win2_6.index t = ![t.val, 0, 0] ∧ win2_7.index t = ![t.val, 0, 0] ∧ win2_8.index t = ![t.val, 0, 0] ∧ win2_9.index t = ![t.val, 0, 0] := by decide +kernel

variable {x0 : Vec F S1024x512 .f32} {x1 : Vec F S64x64 .f32} {x2 : Vec F S8x512x512 .f32} {x3 : Vec F S8x512x512 .f32} {x4 : Vec F S8x512x512 .f32} {x5 : Vec F S8x1x512 .f32} {x6 : Vec F S8x512x512 .f32} {x7 : Vec F S8x1x512 .f32} {x8 : Vec F S8x1x512 .f32} {x9 : Vec F S8x1x512 .f32}
set_option maxHeartbeats 4000000 in
theorem reads2 (t : Fin cfg2.N) (n : Fin 8) (hn : t.val = n.val)
    (e0 : V c main_v29_0 = x0) (e1 : V c main_arg10 = x1) (e2 : V c main_v29_1 = x2) (e3 : V c main_arg13 = x3) (e4 : V c main_arg14 = x4) (e5 : V c main_v30 = x5) (e6 : V c main_arg16 = x6) (e7 : V c main_v31 = x7) (e8 : V c main_v32 = x8) (e9 : V c main_v33 = x9) :
    (∀ r d, blk2 V c 0 t (ix2 r d) = x0 (ix2 r d))
    ∧ (∀ r d, blk2 V c 1 t (ix2 r d) = x1 (ix2 r d))
    ∧ (∀ i j, blk2 V c 2 t (ix3 0 i j) = x2 (ix3 n i j))
    ∧ (∀ i j, blk2 V c 3 t (ix3 0 i j) = x3 (ix3 n i j))
    ∧ (∀ i j, blk2 V c 4 t (ix3 0 i j) = x4 (ix3 n i j))
    ∧ (∀ i j, blk2 V c 5 t (ix3 0 i j) = x5 (ix3 n i j))
    ∧ (∀ i j, blk2 V c 6 t (ix3 0 i j) = x6 (ix3 n i j))
    ∧ (∀ i j, blk2 V c 7 t (ix3 0 i j) = x7 (ix3 n i j))
    ∧ (∀ i j, blk2 V c 8 t (ix3 0 i j) = x8 (ix3 n i j))
    ∧ (∀ i j, blk2 V c 9 t (ix3 0 i j) = x9 (ix3 n i j)) := by
  subst e0 e1 e2 e3 e4 e5 e6 e7 e8 e9
  refine ⟨?_, ?_, ?_, ?_, ?_, ?_, ?_, ?_, ?_, ?_⟩ <;> intros <;> blk_simp [blk2] <;> refine congrArg _ ?_ <;> blk_ext [whole2, perHead2]

theorem out2 : (dat2 V c).arrAt 10 cfg2.N = (acc2 V c 7 (by decide) : Vec F S1024x512 .f32) := by
  refine (dat2 V c).arrAt_eq_of_after_last 10 t2_7 (by decide +kernel) _ fun j => ?_
  blk_simp [after2_out]
  rfl

end Call2

/-! ## The last step -/

section Call3

theorem whole3 : ∀ t : Fin cfg3.N, win3_0.index t = ![0, 0] ∧ win3_1.index t = ![0, 0] ∧ win3_10.index t = ![0, 0] ∧ win3_11.index t = ![0, 0] := by decide +kernel
theorem perHead3 : ∀ t : Fin cfg3.N, win3_2.index t = ![t.val, 0, 0] ∧ win3_3.index t = ![t.val, 0, 0] ∧ win3_4.index t = ![t.val, 0, 0] ∧ win3_5.index t = ![t.val, 0, 0] ∧ win3_6.index t = ![t.val, 0, 0] ∧ win3_7.index t = ![t.val, 0, 0] ∧ win3_8.index t = ![t.val, 0, 0] ∧ win3_9.index t = ![t.val, 0, 0] := by decide +kernel

variable {x0 : Vec F S1024x512 .f32} {x1 : Vec F S64x64 .f32} {x2 : Vec F S8x512x512 .f32} {x3 : Vec F S8x512x512 .f32} {x4 : Vec F S8x512x512 .f32} {x5 : Vec F S8x1x512 .f32} {x6 : Vec F S8x512x512 .f32} {x7 : Vec F S8x1x512 .f32} {x8 : Vec F S8x1x512 .f32} {x9 : Vec F S8x1x512 .f32} {x10 : Vec F S1024x512 .f32} {x11 : Vec F S1x1024 .f32}
set_option maxHeartbeats 4000000 in
theorem reads3 (t : Fin cfg3.N) (n : Fin 8) (hn : t.val = n.val)
    (e0 : V c main_v34 = x0) (e1 : V c main_arg10 = x1) (e2 : V c main_v29_1 = x2) (e3 : V c main_arg13 = x3) (e4 : V c main_arg14 = x4) (e5 : V c main_v36 = x5) (e6 : V c main_arg16 = x6) (e7 : V c main_v37 = x7) (e8 : V c main_v38 = x8) (e9 : V c main_v39 = x9) (e10 : V c main_arg20 = x10) (e11 : V c main_v35 = x11) :
    (∀ r d, blk3 V c 0 t (ix2 r d) = x0 (ix2 r d))
    ∧ (∀ r d, blk3 V c 1 t (ix2 r d) = x1 (ix2 r d))
    ∧ (∀ i j, blk3 V c 2 t (ix3 0 i j) = x2 (ix3 n i j))
    ∧ (∀ i j, blk3 V c 3 t (ix3 0 i j) = x3 (ix3 n i j))
    ∧ (∀ i j, blk3 V c 4 t (ix3 0 i j) = x4 (ix3 n i j))
    ∧ (∀ i j, blk3 V c 5 t (ix3 0 i j) = x5 (ix3 n i j))
    ∧ (∀ i j, blk3 V c 6 t (ix3 0 i j) = x6 (ix3 n i j))
    ∧ (∀ i j, blk3 V c 7 t (ix3 0 i j) = x7 (ix3 n i j))
    ∧ (∀ i j, blk3 V c 8 t (ix3 0 i j) = x8 (ix3 n i j))
    ∧ (∀ i j, blk3 V c 9 t (ix3 0 i j) = x9 (ix3 n i j))
    ∧ (∀ r d, blk3 V c 10 t (ix2 r d) = x10 (ix2 r d))
    ∧ (∀ r d, blk3 V c 11 t (ix2 r d) = x11 (ix2 r d)) := by
  subst e0 e1 e2 e3 e4 e5 e6 e7 e8 e9 e10 e11
  refine ⟨?_, ?_, ?_, ?_, ?_, ?_, ?_, ?_, ?_, ?_, ?_, ?_⟩ <;> intros <;> blk_simp [blk3] <;> refine congrArg _ ?_ <;> blk_ext [whole3, perHead3]

theorem out3 : (dat3 V c).arrAt 12 cfg3.N = (acc3 V c 7 (by decide) : Vec F S1024x512 .f32) := by
  refine (dat3 V c).arrAt_eq_of_after_last 12 t3_7 (by decide +kernel) _ fun j => ?_
  blk_simp [after3_out]
  rfl

theorem aux3 : (dat3 V c).arrAt 13 cfg3.N = (k3_pay2 (acc3 V c 7 (by decide)) (blk3 V c 10 t3_7) (blk3 V c 11 t3_7) : Vec F S1024x1024 .f32) := by
  refine (dat3 V c).arrAt_eq_of_after_last 13 t3_7 (by decide +kernel) _ fun j => ?_
  blk_simp [after3_aux]
  rfl

end Call3

end Cert.KernelIdeal.Own

end
-- ==== Proof.Spec.lean ====
/-
  What both programs compute, as plain mathematics on extended reals: the encoder of one node's
  features, and one attention head. No vectors here: a matrix is a function of its row and column.
-/
module

public import Idealize.ShloMosaic.PureOps.Ideal

@[expose] public section

noncomputable section

namespace Cert.Spec

open Idealize.ShloMosaic

/-- `z · logistic z`. -/
def sw (z : EReal) : EReal := z * Ideal.logistic z

/-- A linear layer with bias: entry `j` of `W x + b`. -/
def lin {k n : Nat} (W : Fin n → Fin k → EReal) (b : Fin n → EReal) (x : Fin k → EReal) (j : Fin n) : EReal :=
  (∑ e, x e * W j e) + b j

/-- Two linear layers, each behind `sw`. -/
def twoLayer (Wf1 : Fin 512 → Fin 512 → EReal) (bf1 : Fin 512 → EReal) (Wf2 : Fin 512 → Fin 512 → EReal)
    (bf2 : Fin 512 → EReal) (z : Fin 512 → EReal) : Fin 512 → EReal :=
  lin Wf2 bf2 fun e => sw (lin Wf1 bf1 (fun k => sw (z k)) e)

/-- The number 512, as both texts write it. -/
def n512 : EReal := Ideal.ofBits .f32 0x44000000#32
/-- The number 8, as the reference writes it. -/
def n8 : EReal := Ideal.ofBits .f32 0x41000000#32
/-- The number 1/8, as the kernel writes it. -/
def eighth : EReal := Ideal.ofBits .f32 0x3E000000#32
/-- The layer norm's small constant. -/
def eps : EReal := Ideal.ofBits .f32 0x3727C5AC#32

/-- The largest of 64 scores. -/
def top (s : Fin 64 → EReal) : EReal := Finset.univ.fold max ⊥ s

/-- The softmax of 64 scores. -/
def soft (s : Fin 64 → EReal) (c : Fin 64) : EReal :=
  Ideal.div (Ideal.exp (s c - top s)) (∑ k, Ideal.exp (s k - top s))

/-- The weighted sum of the values `Wv h`. -/
def mix (p : Fin 64 → EReal) (hb : Fin 64 → Fin 512 → EReal) (Wv : Fin 512 → Fin 512 → EReal) (d : Fin 512) : EReal :=
  ∑ c, p c * ∑ k, hb c k * Wv d k

/-- The mean of 512 entries. -/
def mean (o : Fin 512 → EReal) : EReal := Ideal.div (∑ k, o k) n512
/-- An entry less the mean. -/
def dev (o : Fin 512 → EReal) (d : Fin 512) : EReal := o d - mean o
/-- The variance plus the small constant. -/
def spread (o : Fin 512 → EReal) : EReal := Ideal.div (∑ k, dev o k * dev o k) n512 + eps

/-- The kernel's norm: by the reciprocal root, and the eighth that makes the mean over the heads. -/
def normK (g be : Fin 512 → EReal) (o : Fin 512 → EReal) (d : Fin 512) : EReal :=
  (dev o d * Ideal.rsqrt (spread o) * g d + be d) * eighth

/-- The reference's norm: by division through the root. -/
def normR (g be : Fin 512 → EReal) (o : Fin 512 → EReal) (d : Fin 512) : EReal :=
  Ideal.div (dev o d) (Ideal.sqrt (spread o)) * g d + be d

/-- The query and key weights contracted to one matrix. -/
def joint (Wq Wk : Fin 512 → Fin 512 → EReal) (k e : Fin 512) : EReal := ∑ f, Wq f k * Wk f e

/-- The kernel's scores: query row times the joint matrix, then against every row of the batch. -/
def scoreK (G : Fin 512 → Fin 512 → EReal) (ι : EReal) (mk : Fin 64 → EReal) (hb : Fin 64 → Fin 512 → EReal)
    (q : Fin 512 → EReal) (c : Fin 64) : EReal :=
  (∑ e, (∑ k, q k * G k e) * hb c e) * ι + mk c

/-- The reference's scores: queries against keys. -/
def scoreR (Wq Wk : Fin 512 → Fin 512 → EReal) (mk : Fin 64 → EReal) (hb : Fin 64 → Fin 512 → EReal)
    (q : Fin 512 → EReal) (c : Fin 64) : EReal :=
  Ideal.div (∑ f, (∑ k, q k * Wq f k) * (∑ k, hb c k * Wk f k)) (Ideal.sqrt n512) + mk c

/-- What follows the scores, up to the norm. -/
def tail (Wv Wf1 : Fin 512 → Fin 512 → EReal) (bf1 : Fin 512 → EReal) (Wf2 : Fin 512 → Fin 512 → EReal)
    (bf2 : Fin 512 → EReal) (hb : Fin 64 → Fin 512 → EReal) (s : Fin 64 → EReal) : Fin 512 → EReal :=
  twoLayer Wf1 bf1 Wf2 bf2 (mix (soft s) hb Wv)

/-- The weights of one head. -/
structure Head where
  Wq : Fin 512 → Fin 512 → EReal
  Wk : Fin 512 → Fin 512 → EReal
  Wv : Fin 512 → Fin 512 → EReal
  Wf1 : Fin 512 → Fin 512 → EReal
  bf1 : Fin 512 → EReal
  Wf2 : Fin 512 → Fin 512 → EReal
  bf2 : Fin 512 → EReal
  g : Fin 512 → EReal
  be : Fin 512 → EReal

/-- One head, as the kernel computes it, with `ι` for the reciprocal of the root of 512. -/
def headK (w : Head) (ι : EReal) (mk : Fin 64 → EReal) (hb : Fin 64 → Fin 512 → EReal) (q : Fin 512 → EReal) : Fin 512 → EReal :=
  normK w.g w.be (tail w.Wv w.Wf1 w.bf1 w.Wf2 w.bf2 hb (scoreK (joint w.Wq w.Wk) ι mk hb q))

/-- One head, as the reference computes it. -/
def headR (w : Head) (mk : Fin 64 → EReal) (hb : Fin 64 → Fin 512 → EReal) (q : Fin 512 → EReal) : Fin 512 → EReal :=
  normR w.g w.be (tail w.Wv w.Wf1 w.bf1 w.Wf2 w.bf2 hb (scoreR w.Wq w.Wk mk hb q))

/-- One step of the kernel: the heads' contributions added up. -/
def stepK (w : Fin 8 → Head) (ι : EReal) (mk : Fin 64 → Fin 64 → EReal) (h : Fin 16 → Fin 64 → Fin 512 → EReal)
    (b : Fin 16) (a : Fin 64) (d : Fin 512) : EReal :=
  ∑ n, headK (w n) ι (mk a) (h b) (h b a) d

/-- One step of the reference: the mean over the heads. -/
def stepR (w : Fin 8 → Head) (mk : Fin 64 → Fin 64 → EReal) (h : Fin 16 → Fin 64 → Fin 512 → EReal)
    (b : Fin 16) (a : Fin 64) (d : Fin 512) : EReal :=
  Ideal.div (∑ n, headR (w n) (mk a) (h b) (h b a) d) n8

/-- The first layer's input for one character: its number and its position code. -/
def entry (We1 : Fin 512 → Fin 33 → EReal) (be1 : Fin 512 → EReal) (x : EReal) (pos : Fin 32 → EReal) (j : Fin 512) : EReal :=
  x * We1 j 0 + ((∑ k, pos k * We1 j k.succ) + be1 j)

/-- The weights of the encoder. -/
structure Enc where
  We1 : Fin 512 → Fin 33 → EReal
  be1 : Fin 512 → EReal
  We2 : Fin 512 → Fin 512 → EReal
  be2 : Fin 512 → EReal
  Wc1 : Fin 1024 → Fin 8192 → EReal
  bc1 : Fin 1024 → EReal
  Wc2 : Fin 512 → Fin 1024 → EReal
  bc2 : Fin 512 → EReal

/-- The code of character `m`. -/
def code (w : Enc) (pos : Fin 16 → Fin 32 → EReal) (x : Fin 16 → EReal) (m : Fin 16) : Fin 512 → EReal :=
  lin w.We2 w.be2 fun k => sw (entry w.We1 w.be1 (x m) (pos m) k)

/-- Column `512 m + e` of the flattened codes. -/
def flatCol (m : Fin 16) (e : Fin 512) : Fin 8192 := ⟨512 * m.val + e.val, by omega⟩

/-- The features of one node, of its sixteen characters. -/
def feat (w : Enc) (pos : Fin 16 → Fin 32 → EReal) (x : Fin 16 → EReal) : Fin 512 → EReal :=
  lin w.Wc2 w.bc2 fun j => sw ((∑ m, ∑ e, code w pos x m e * w.Wc1 j (flatCol m e)) + w.bc1 j)

end Cert.Spec

end
-- ==== Proof.KI.Step.lean ====
/-
  One head's contribution to a step, as a handful of named vector operations: each attention step's body computes
  exactly these (the equations hold by unfolding), and each is read at an index.
-/
module

public import proofs.«01_k».proof.Proof.KI.Run1
public import proofs.«01_k».proof.Proof.KI.Run2
public import proofs.«01_k».proof.Proof.KI.Run3
public import proofs.«01_k».proof.Proof.Spec
public import Idealize.ShloMosaic.Lib.Pointwise
public import Idealize.ShloMosaic.Lib.Pipeline.Value

@[expose] public section

set_option maxRecDepth 16384

noncomputable section

namespace Cert.KernelIdeal.Own

open Cert.KernelIdeal Cert.KernelIdeal.Gen
open Idealize.ShloMosaic Idealize.ShloMosaic.TcCoe Idealize.ShloMosaic.Pointwise

variable {F : FTy → Type} [FloatOps F] [Named F]

/-! ## The vector operations -/

theorem cutFeat : ∀ j : Fin 16, S1024x512.Slices ![64 * j.val, 0] S64x512 := by decide
theorem cutProb : ∀ j : Fin 16, S1024x64.Slices ![64 * j.val, 0] S64x64 := by decide

/-- Rows `64 j … 64 j + 63` of the features: batch `j`. -/
def batchOf (X : FVec F S1024x512 .f32) (j : Fin 16) : FVec F S64x512 .f32 :=
  extractStridedSlice S64x512 ![64 * j.val, 0] X (cutFeat j)
/-- The same rows of the attention weights. -/
def probOf (P : FVec F S1024x64 .f32) (j : Fin 16) : FVec F S64x64 .f32 :=
  extractStridedSlice S64x64 ![64 * j.val, 0] P (cutProb j)

/-- Every batch's rows of `A` against its rows of `X`. -/
def scoresV (A X : FVec F S1024x512 .f32) : FVec F S1024x64 .f32 :=
  concatenate S1024x64 0 (List.ofFn fun j : Fin 16 => ⟨S64x64,
      matmul dot_S64x512_S64x512_S64x64_1_1_0_0_n_n none (batchOf A j) (batchOf X j) (constant S64x64 .f32 0x00000000#32)⟩)
    concatenates_S64x64_S64x64_S64x64_S64x64_S64x64_S64x64_S64x64_S64x64_S64x64_S64x64_S64x64_S64x64_S64x64_S64x64_S64x64_S64x64_S1024x64_d0

/-- The mask, once per batch. -/
def maskV (M : FVec F S64x64 .f32) : FVec F S1024x64 .f32 :=
  concatenate S1024x64 0 (List.ofFn fun _ : Fin 16 => ⟨S64x64, M⟩)
    concatenates_S64x64_S64x64_S64x64_S64x64_S64x64_S64x64_S64x64_S64x64_S64x64_S64x64_S64x64_S64x64_S64x64_S64x64_S64x64_S64x64_S1024x64_d0

/-- The scores scaled and masked. -/
def scaledV (S M : FVec F S1024x64 .f32) : FVec F S1024x64 .f32 :=
  addf (mulf S (broadcast S1024x64 (Named.named κ "inv_scale" 0x3D3504F3#32))) M

/-- Each row's scores less their largest, exponentiated. -/
def expV (Z : FVec F S1024x64 .f32) : FVec F S1024x64 .f32 :=
  exp (subf Z (broadcastTo S1024x64 (shapeCast S1024x1
    (multiReduction .maximumf [1] S1024 Z 0xFF800000#32 reduces_S1024x64_S1024 (.inl rfl) rfl) shapeCasts_S1024_S1024x1) broadcasts_S1024x1_S1024x64))

/-- The softmax of each row. -/
def softV (Z : FVec F S1024x64 .f32) : FVec F S1024x64 .f32 :=
  divf (expV Z) (broadcastTo S1024x64 (shapeCast S1024x1
    (multiReduction .add [1] S1024 (expV Z) 0x00000000#32 reduces_S1024x64_S1024 (.inl rfl) rfl) shapeCasts_S1024_S1024x1) broadcasts_S1024x1_S1024x64)

/-- Every batch's weights against its values. -/
def mixV (P : FVec F S1024x64 .f32) (V : FVec F S1024x512 .f32) : FVec F S1024x512 .f32 :=
  concatenate S1024x512 0 (List.ofFn fun j : Fin 16 => ⟨S64x512,
      matmul dot_S64x64_S64x512_S64x512_1_0_0_1_n_n none (probOf P j) (batchOf V j) (constant S64x512 .f32 0x00000000#32)⟩)
    concatenates_S64x512_S64x512_S64x512_S64x512_S64x512_S64x512_S64x512_S64x512_S64x512_S64x512_S64x512_S64x512_S64x512_S64x512_S64x512_S64x512_S1024x512_d0

/-- `z · logistic z`, entry by entry. -/
def swV (z : FVec F S1024x512 .f32) : FVec F S1024x512 .f32 := mulf z (logistic z)

/-- Rows against the rows of a weight matrix. -/
def rowsV (X : FVec F S1024x512 .f32) (W : FVec F S1x512x512 .f32) : FVec F S1024x512 .f32 :=
  matmul dot_S1024x512_S512x512_S1024x512_1_1_0_0_n_n none X (shapeCast S512x512 W shapeCasts_S1x512x512_S512x512)
    (constant S1024x512 .f32 0x00000000#32)

/-- One row, down all rows. -/
def downV (b : FVec F S1x1x512 .f32) : FVec F S1024x512 .f32 :=
  broadcastTo S1024x512 (shapeCast S1x512 b shapeCasts_S1x1x512_S1x512) broadcasts_S1x512_S1024x512

/-- The two feed-forward layers. -/
def layersV (z : FVec F S1024x512 .f32) (W1 : FVec F S1x512x512 .f32) (b1 : FVec F S1x1x512 .f32) (W2 : FVec F S1x512x512 .f32)
    (b2 : FVec F S1x1x512 .f32) : FVec F S1024x512 .f32 :=
  addf (rowsV (swV (addf (rowsV (swV z) W1) (downV b1))) W2) (downV b2)

/-- Each row's sum over 512. -/
def meanV (o : FVec F S1024x512 .f32) : FVec F S1024x1 .f32 :=
  divf (shapeCast S1024x1 (multiReduction .add [1] S1024 o 0x00000000#32 reduces_S1024x512_S1024 (.inl rfl) rfl) shapeCasts_S1024_S1024x1)
    (broadcast S1024x1 (Scalar.ofBits .f32 0x44000000#32))

/-- Each row less its mean. -/
def devV (o : FVec F S1024x512 .f32) : FVec F S1024x512 .f32 :=
  subf o (broadcastTo S1024x512 (meanV o) broadcasts_S1024x1_S1024x512)

/-- Each row over its spread. -/
def normV (o : FVec F S1024x512 .f32) : FVec F S1024x512 .f32 :=
  mulf (devV o) (broadcastTo S1024x512 (rsqrt (addf (meanV (mulf (devV o) (devV o))) (broadcast S1024x1 (Scalar.ofBits .f32 0x3727C5AC#32))))
    broadcasts_S1024x1_S1024x512)

/-- Scaled, shifted and divided by the number of heads. -/
def affineV (o : FVec F S1024x512 .f32) (g be : FVec F S1x1x512 .f32) : FVec F S1024x512 .f32 :=
  mulf (addf (mulf o (downV g)) (downV be)) (broadcast S1024x512 (Scalar.ofBits .f32 0x3E000000#32))

/-- The features against the joint matrix. -/
def queryV (X : FVec F S1024x512 .f32) (G : FVec F S512x512 .f32) : FVec F S1024x512 .f32 :=
  matmul dot_S1024x512_S512x512_S1024x512_1_0_0_1_n_n none X G (constant S1024x512 .f32 0x00000000#32)

/-- The attention weights. -/
def weightsV (X : FVec F S1024x512 .f32) (M : FVec F S64x64 .f32) (G : FVec F S512x512 .f32) : FVec F S1024x64 .f32 :=
  softV (scaledV (scoresV (queryV X G) X) (maskV M))

/-- The head up to the norm. -/
def tailV (P : FVec F S1024x64 .f32) (X : FVec F S1024x512 .f32) (Wv W1 : FVec F S1x512x512 .f32) (b1 : FVec F S1x1x512 .f32)
    (W2 : FVec F S1x512x512 .f32) (b2 : FVec F S1x1x512 .f32) : FVec F S1024x512 .f32 :=
  normV (layersV (mixV P (rowsV X Wv)) W1 b1 W2 b2)

/-- The head. -/
def headV (X : FVec F S1024x512 .f32) (M : FVec F S64x64 .f32) (G : FVec F S512x512 .f32) (Wv W1 : FVec F S1x512x512 .f32)
    (b1 : FVec F S1x1x512 .f32) (W2 : FVec F S1x512x512 .f32) (b2 g be : FVec F S1x1x512 .f32) : FVec F S1024x512 .f32 :=
  affineV (tailV (weightsV X M G) X Wv W1 b1 W2 b2) g be

/-! ## The bodies compute them -/

section Bodies

variable (x0 : FVec F S1024x512 .f32) (x1 : FVec F S64x64 .f32) (x2 x3 x4 : FVec F S1x512x512 .f32) (x5 : FVec F S1x1x512 .f32)
  (x6 : FVec F S1x512x512 .f32) (x7 x8 x9 : FVec F S1x1x512 .f32)

/-- The second step's attention weights. -/
theorem weights2 : k2_pay16 (k2_pay2 x0) (k2_pay3 x1) (k2_pay4 x0 x2) (k2_pay6 x0 x2) (k2_pay7 x0 x2) (k2_pay8 x0 x2) (k2_pay9 x0 x2)
    (k2_pay10 x0 x2) (k2_pay11 x0 x2) (k2_pay12 x0 x2) (k2_pay13 x0 x2) (k2_pay14 x0 x2) (k2_pay15 x0 x2)
    = weightsV (k2_pay2 x0) x1 (shapeCast S512x512 x2 shapeCasts_S1x512x512_S512x512) := rfl

theorem step2_eq : step2 x0 x1 x2 x3 x4 x5 x6 x7 x8 x9
    = headV (shapeCast S1024x512 x0 shapeCasts_S1024x512_S1024x512) x1 (shapeCast S512x512 x2 shapeCasts_S1x512x512_S512x512) x3 x4 x5 x6 x7 x8 x9 := rfl

theorem step3_eq : step3 x0 x1 x2 x3 x4 x5 x6 x7 x8 x9
    = headV (shapeCast S1024x512 x0 shapeCasts_S1024x512_S1024x512) x1 (shapeCast S512x512 x2 shapeCasts_S1x512x512_S512x512) x3 x4 x5 x6 x7 x8 x9 := rfl

/-- The first step works the joint matrix out itself. -/
theorem step1_eq (w1 : FVec F S1x512x512 .f32) (b1 g be : FVec F S1x1x512 .f32) :
    k1_pay1 (step1 x0 x1 x2 x3 x4 w1 b1 x6 x7) g be
    = headV (shapeCast S1024x512 x0 shapeCasts_S1024x512_S1024x512) x1 (k1_pay3 x2 x3) x4 w1 b1 x6 x7 g be := rfl

end Bodies

/-! ## Read at an index -/

/-- Row `64 b + a`: node `a` of batch `b`. -/
def row (b : Fin 16) (a : Fin 64) : Fin 1024 := ⟨64 * b.val + a.val, by omega⟩

section Read

variable (A X V : FVec Ideal S1024x512 .f32) (S Z P : FVec Ideal S1024x64 .f32) (b : Fin 16) (a c : Fin 64) (d : Fin 512)

theorem piece_of : (64 * b.val + a.val) / 64 = b.val := by omega
theorem place_of : (64 * b.val + a.val) % 64 = a.val := by omega

theorem scoresV_at : scoresV A X (ix2 (row b a) c) = ∑ e : Fin 512, A (ix2 (row b a) e) * X (ix2 (row b c) e) := by
  unfold scoresV
  refine (concatenate_ofFn_apply (t := S1024x64) (s₁ := S64x64) 0 _ _ rfl 64 rfl (ix2 (row b a) c) b (piece_of b a) (ix2 a c) (place_of b a).symm
    (by intro i hi; match i with | 0 => exact absurd rfl hi | 1 => rfl)).trans ?_
  pointwise [batchOf]
  rfl

theorem maskV_at (M : FVec Ideal S64x64 .f32) : maskV M (ix2 (row b a) c) = M (ix2 a c) := by
  unfold maskV
  refine (concatenate_ofFn_apply (t := S1024x64) (s₁ := S64x64) 0 _ _ rfl 64 rfl (ix2 (row b a) c) b (piece_of b a) (ix2 a c) (place_of b a).symm
    (by intro i hi; match i with | 0 => exact absurd rfl hi | 1 => rfl)).trans ?_
  rfl

theorem mixV_at : mixV P V (ix2 (row b a) d) = ∑ c : Fin 64, P (ix2 (row b a) c) * V (ix2 (row b c) d) := by
  unfold mixV
  refine (concatenate_ofFn_apply (t := S1024x512) (s₁ := S64x512) 0 _ _ rfl 64 rfl (ix2 (row b a) d) b (piece_of b a) (ix2 a d) (place_of b a).symm
    (by intro i hi; match i with | 0 => exact absurd rfl hi | 1 => rfl)).trans ?_
  pointwise [batchOf, probOf]
  rfl

theorem inv_scale : Named.named (F := Ideal) κ "inv_scale" (φ := .f32) 0x3D3504F3#32 = (((Real.sqrt 512)⁻¹ : ℝ) : EReal) :=
  IdealRules.named_const.ideal_named_scalar _ _ _ _ rfl

variable (r : Fin 1024)

theorem scaledV_at : scaledV S Z (ix2 r c) = S (ix2 r c) * (((Real.sqrt 512)⁻¹ : ℝ) : EReal) + Z (ix2 r c) := by
  pointwise [scaledV]
  rw [inv_scale]

theorem softV_at : softV Z (ix2 r c) = Spec.soft (fun c => Z (ix2 r c)) c := by
  pointwise [softV, expV, Spec.soft, Spec.top]
  rfl

theorem swV_at : swV X (ix2 r d) = Spec.sw (X (ix2 r d)) := rfl

theorem rowsV_at (W : FVec Ideal S1x512x512 .f32) : rowsV X W (ix2 r d) = ∑ k : Fin 512, X (ix2 r k) * W (ix3 0 d k) := by
  pointwise [rowsV]
  try rfl

theorem downV_at (v : FVec Ideal S1x1x512 .f32) : downV v (ix2 r d) = v (ix3 0 0 d) := by
  pointwise [downV]
  try rfl

theorem queryV_at (G : FVec Ideal S512x512 .f32) : queryV X G (ix2 r d) = ∑ k : Fin 512, X (ix2 r k) * G (ix2 k d) := by
  pointwise [queryV]
  try rfl

theorem layersV_at (W1 W2 : FVec Ideal S1x512x512 .f32) (b1 b2 : FVec Ideal S1x1x512 .f32) :
    layersV X W1 b1 W2 b2 (ix2 r d) = Spec.twoLayer (fun i j => W1 (ix3 0 i j)) (fun i => b1 (ix3 0 0 i)) (fun i j => W2 (ix3 0 i j))
      (fun i => b2 (ix3 0 0 i)) (fun k => X (ix2 r k)) d := by
  unfold layersV Spec.twoLayer Spec.lin
  simp only [addf_apply, rowsV_at, downV_at, swV_at]
  try rfl

theorem normV_at : normV X (ix2 r d) = Spec.dev (fun k => X (ix2 r k)) d * Ideal.rsqrt (Spec.spread fun k => X (ix2 r k)) := by
  pointwise [normV, devV, meanV, Spec.dev, Spec.spread, Spec.mean, Spec.n512, Spec.eps]
  try rfl

theorem affineV_at (g be : FVec Ideal S1x1x512 .f32) :
    affineV X g be (ix2 r d) = (X (ix2 r d) * g (ix3 0 0 d) + be (ix3 0 0 d)) * Spec.eighth := by
  pointwise [affineV, downV, Spec.eighth]
  try rfl

/-- The joint matrix, as the first step makes it and stores it for the later ones. -/
theorem joint_at (Wq Wk : FVec Ideal S1x512x512 .f32) (k e : Fin 512) :
    k1_pay3 (F := Ideal) Wq Wk (ix2 k e) = Spec.joint (fun i j => Wq (ix3 0 i j)) (fun i j => Wk (ix3 0 i j)) k e := by
  pointwise [k1_pay3, Spec.joint]

theorem stored_at (Wq Wk : FVec Ideal S1x512x512 .f32) (k e : Fin 512) :
    k1_pay4 (F := Ideal) Wq Wk (ix3 0 k e) = Spec.joint (fun i j => Wq (ix3 0 i j)) (fun i j => Wk (ix3 0 i j)) k e := by
  pointwise [k1_pay4, k1_pay3, Spec.joint]

/-- The features without their flattening: node `a` of batch `b`. -/
def nodes (X : FVec Ideal S1024x512 .f32) (b : Fin 16) (a : Fin 64) (d : Fin 512) : EReal := X (ix2 (row b a) d)

/-- The softmax weights. -/
theorem weightsV_at (M : FVec Ideal S64x64 .f32) (G : FVec Ideal S512x512 .f32) :
    weightsV X M G (ix2 (row b a) c) = Spec.soft (Spec.scoreK (fun i j => G (ix2 i j)) (((Real.sqrt 512)⁻¹ : ℝ) : EReal)
      (fun c => M (ix2 a c)) (nodes X b) (nodes X b a)) c := by
  unfold weightsV
  rw [softV_at]
  congr 1
  funext c
  rw [scaledV_at, scoresV_at, maskV_at]
  simp only [queryV_at]
  rfl

/-- One head, read at node `a` of batch `b`. -/
theorem headV_at (M : FVec Ideal S64x64 .f32) (G : FVec Ideal S512x512 .f32) (Wv W1 W2 : FVec Ideal S1x512x512 .f32)
    (b1 b2 g be : FVec Ideal S1x1x512 .f32) :
    headV X M G Wv W1 b1 W2 b2 g be (ix2 (row b a) d)
    = Spec.normK (fun i => g (ix3 0 0 i)) (fun i => be (ix3 0 0 i))
        (Spec.tail (fun i j => Wv (ix3 0 i j)) (fun i j => W1 (ix3 0 i j)) (fun i => b1 (ix3 0 0 i)) (fun i j => W2 (ix3 0 i j))
          (fun i => b2 (ix3 0 0 i)) (nodes X b)
          (Spec.scoreK (fun i j => G (ix2 i j)) (((Real.sqrt 512)⁻¹ : ℝ) : EReal) (fun c => M (ix2 a c)) (nodes X b) (nodes X b a))) d := by
  unfold headV tailV
  rw [affineV_at, normV_at]
  simp only [layersV_at, mixV_at, rowsV_at, weightsV_at]
  rfl

end Read

end Cert.KernelIdeal.Own

end
-- ==== Proof.KI.Front.lean ====
/-
  The node features as a handful of named vector operations: the front end's body computes exactly these (the equation
  holds by unfolding), and they are read at an index.
-/
module

public import proofs.«01_k».proof.Proof.KI.Run0
public import proofs.«01_k».proof.Proof.KI.Step
public import proofs.«01_k».proof.Proof.Spec
public import Idealize.ShloMosaic.Lib.Pointwise
public import Idealize.ShloMosaic.Lib.Pipeline.ValueKit.Tiles

@[expose] public section

set_option maxRecDepth 16384

noncomputable section

namespace Cert.KernelIdeal.Own

open Cert.KernelIdeal Cert.KernelIdeal.Gen
open Idealize.ShloMosaic Idealize.ShloMosaic.TcCoe Idealize.ShloMosaic.Pointwise

variable {F : FTy → Type} [FloatOps F] [Named F]

/-! ## The vector operations -/

theorem cutChar : ∀ m : Fin 16, S1024x16.Slices ![0, m.val] S1024x1 := by decide
theorem cutCode : ∀ m : Fin 16, S16x512.Slices ![m.val, 0] S1x512 := by decide
theorem cutCols : ∀ m : Fin 16, ∀ a, (![0, 512 * m.val] : Fin 2 → ℕ) a + S1024x512.size a ≤ S1024x8192.size a := by decide

/-- The position codes through the first layer's position columns, plus its bias: one row per character. -/
def placeV (pos : FVec F S16x32 .f32) (w1 : FVec F S512x32 .f32) (b1 : FVec F S1x512 .f32) : FVec F S16x512 .f32 :=
  addf (matmul dot_S16x32_S512x32_S16x512_1_1_0_0_n_n none (shapeCast S16x32 pos shapeCasts_S16x32_S16x32)
    (shapeCast S512x32 w1 shapeCasts_S512x32_S512x32) (constant S16x512 .f32 0x00000000#32))
    (broadcastTo S16x512 (shapeCast S1x512 b1 shapeCasts_S1x512_S1x512) broadcasts_S1x512_S16x512)

/-- Character `m`'s number through the first layer. -/
def entryV (p : FVec F S16x512 .f32) (w0 : FVec F S1x512 .f32) (x : FVec F S1024x16 .f32) (m : Fin 16) : FVec F S1024x512 .f32 :=
  addf (mulf (broadcastTo S1024x512 (extractStridedSlice S1024x1 ![0, m.val] x (cutChar m)) broadcasts_S1024x1_S1024x512)
      (broadcastTo S1024x512 w0 broadcasts_S1x512_S1024x512))
    (broadcastTo S1024x512 (extractStridedSlice S1x512 ![m.val, 0] p (cutCode m)) broadcasts_S1x512_S1024x512)

/-- Character `m`'s code. -/
def codeV (p : FVec F S16x512 .f32) (w0 : FVec F S1x512 .f32) (x : FVec F S1024x16 .f32) (W2 : FVec F S512x512 .f32)
    (b2 : FVec F S1x512 .f32) (m : Fin 16) : FVec F S1024x512 .f32 :=
  addf (matmul dot_S1024x512_S512x512_S1024x512_1_1_0_0_n_n none (swV (entryV p w0 x m)) W2 (constant S1024x512 .f32 0x00000000#32))
    (broadcastTo S1024x512 b2 broadcasts_S1x512_S1024x512)

/-- The part of the hidden layer that character `m` contributes. -/
def shareV (p : FVec F S16x512 .f32) (w0 : FVec F S1x512 .f32) (x : FVec F S1024x16 .f32) (W2 : FVec F S512x512 .f32)
    (b2 : FVec F S1x512 .f32) (C1 : FVec F S1024x8192 .f32) (m : Fin 16) : FVec F S1024x1024 .f32 :=
  matmul dot_S1024x512_S1024x512_S1024x1024_1_1_0_0_n_n none (codeV p w0 x W2 b2 m) (cols C1 (512 * m.val) (cutCols m))
    (constant S1024x1024 .f32 0x00000000#32)

/-- The contributions added up, from the first to the last. -/
def hiddenV (f : Fin 16 → FVec F S1024x1024 .f32) : FVec F S1024x1024 .f32 :=
  (List.ofFn f).foldl addf (broadcast S1024x1024 (Scalar.ofBits .f32 0x00000000#32))

/-- What follows the hidden layer. -/
def closeV (h : FVec F S1024x1024 .f32) (c1 : FVec F S1x1024 .f32) (C2 : FVec F S512x1024 .f32) (c2 : FVec F S1x512 .f32) : FVec F S1024x512 .f32 :=
  addf (matmul dot_S1024x1024_S512x1024_S1024x512_1_1_0_0_n_n none
      (mulf (addf h (broadcastTo S1024x1024 (shapeCast S1x1024 c1 shapeCasts_S1x1024_S1x1024) broadcasts_S1x1024_S1024x1024))
        (logistic (addf h (broadcastTo S1024x1024 (shapeCast S1x1024 c1 shapeCasts_S1x1024_S1x1024) broadcasts_S1x1024_S1024x1024))))
      C2 (constant S1024x512 .f32 0x00000000#32))
    (broadcastTo S1024x512 (shapeCast S1x512 c2 shapeCasts_S1x512_S1x512) broadcasts_S1x512_S1024x512)

theorem front_eq (x0 : FVec F S1024x16 .f32) (x1 : FVec F S16x32 .f32) (x2 : FVec F S1x512 .f32) (x3 : FVec F S512x32 .f32)
    (x4 : FVec F S1x512 .f32) (x5 : FVec F S512x512 .f32) (x6 : FVec F S1x512 .f32) (x7 : FVec F S1024x8192 .f32)
    (x8 : FVec F S1x1024 .f32) (x9 : FVec F S512x1024 .f32) (x10 : FVec F S1x512 .f32) :
    front x0 x1 x2 x3 x4 x5 x6 x7 x8 x9 x10
    = closeV (hiddenV (shareV (placeV x1 x3 x4) (shapeCast S1x512 x2 shapeCasts_S1x512_S1x512) (shapeCast S1024x16 x0 shapeCasts_S1024x16_S1024x16)
        x5 (shapeCast S1x512 x6 shapeCasts_S1x512_S1x512) x7)) x8 x9 x10 := rfl

/-! ## Read at an index -/

section Read

variable (p : FVec Ideal S16x512 .f32) (w0 : FVec Ideal S1x512 .f32) (x : FVec Ideal S1024x16 .f32) (W2 : FVec Ideal S512x512 .f32)
  (b2 : FVec Ideal S1x512 .f32) (C1 : FVec Ideal S1024x8192 .f32) (m : Fin 16) (r : Fin 1024) (d : Fin 512)

theorem placeV_at (pos : FVec Ideal S16x32 .f32) (w1 : FVec Ideal S512x32 .f32) (b1 : FVec Ideal S1x512 .f32) :
    placeV pos w1 b1 (ix2 m d) = (∑ k : Fin 32, pos (ix2 m k) * w1 (ix2 d k)) + b1 (ix2 0 d) := by
  pointwise [placeV]

theorem entryV_at : entryV p w0 x m (ix2 r d) = x (ix2 r m) * w0 (ix2 0 d) + p (ix2 m d) := by
  pointwise [entryV]

theorem codeV_at : codeV p w0 x W2 b2 m (ix2 r d)
    = Spec.lin (fun i j => W2 (ix2 i j)) (fun i => b2 (ix2 0 i)) (fun k => Spec.sw (x (ix2 r m) * w0 (ix2 0 k) + p (ix2 m k))) d := by
  pointwise [codeV, Spec.lin]
  simp only [swV_at, entryV_at]

theorem cols_at (j : Fin 1024) (e : Fin 512) : cols (F := Ideal) C1 (512 * m.val) (cutCols m) (ix2 j e) = C1 (ix2 j (Spec.flatCol m e)) := by
  refine View.ld_unit_apply_of (Val := Elt Ideal) (e := .f32) C1 _ _ _ _ _ fun a => ?_
  match a with
  | 0 => exact (Nat.zero_add _).symm
  | 1 => rfl

theorem shareV_at (j : Fin 1024) : shareV p w0 x W2 b2 C1 m (ix2 r j)
    = ∑ e : Fin 512, codeV p w0 x W2 b2 m (ix2 r e) * C1 (ix2 j (Spec.flatCol m e)) := by
  pointwise [shareV]
  simp only [cols_at]

theorem hiddenV_at (f : Fin 16 → FVec Ideal S1024x1024 .f32) (i : S1024x1024.Idx) : hiddenV f i = ∑ m, f m i := by
  have key : ∀ (l : List (FVec Ideal S1024x1024 .f32)) (z : FVec Ideal S1024x1024 .f32),
      l.foldl addf z i = z i + (l.map fun g => g i).sum := by
    intro l
    induction l with
    | nil => intro z; simp
    | cons g l ih => intro z; rw [List.foldl_cons, ih, List.map_cons, List.sum_cons, ← add_assoc]; rfl
  have z : (broadcast S1024x1024 (Scalar.ofBits .f32 0x00000000#32) : FVec Ideal S1024x1024 .f32) i = 0 := by pointwise
  rw [hiddenV, key, z, zero_add, List.map_ofFn, List.sum_ofFn]
  rfl

theorem closeV_at (h : FVec Ideal S1024x1024 .f32) (c1 : FVec Ideal S1x1024 .f32) (C2 : FVec Ideal S512x1024 .f32) (c2 : FVec Ideal S1x512 .f32) :
    closeV h c1 C2 c2 (ix2 r d) = Spec.lin (fun i j => C2 (ix2 i j)) (fun i => c2 (ix2 0 i))
      (fun j => Spec.sw (h (ix2 r j) + c1 (ix2 0 j))) d := by
  pointwise [closeV, Spec.lin, Spec.sw]

/-- The front end's output, read at row `r`. -/
theorem front_at (w : Spec.Enc) (pos : Fin 16 → Fin 32 → EReal)
    (x0 : FVec Ideal S1024x16 .f32) (x1 : FVec Ideal S16x32 .f32) (x2 : FVec Ideal S1x512 .f32) (x3 : FVec Ideal S512x32 .f32)
    (x4 : FVec Ideal S1x512 .f32) (x5 : FVec Ideal S512x512 .f32) (x6 : FVec Ideal S1x512 .f32) (x7 : FVec Ideal S1024x8192 .f32)
    (x8 : FVec Ideal S1x1024 .f32) (x9 : FVec Ideal S512x1024 .f32) (x10 : FVec Ideal S1x512 .f32)
    (h1 : ∀ m k, x1 (ix2 m k) = pos m k) (h2 : ∀ k, x2 (ix2 0 k) = w.We1 k 0) (h3 : ∀ k i, x3 (ix2 k i) = w.We1 k i.succ)
    (h4 : ∀ k, x4 (ix2 0 k) = w.be1 k) (h5 : ∀ i j, x5 (ix2 i j) = w.We2 i j) (h6 : ∀ k, x6 (ix2 0 k) = w.be2 k)
    (h7 : ∀ i j, x7 (ix2 i j) = w.Wc1 i j) (h8 : ∀ k, x8 (ix2 0 k) = w.bc1 k) (h9 : ∀ i j, x9 (ix2 i j) = w.Wc2 i j)
    (h10 : ∀ k, x10 (ix2 0 k) = w.bc2 k) :
    front (F := Ideal) x0 x1 x2 x3 x4 x5 x6 x7 x8 x9 x10 (ix2 r d) = Spec.feat w pos (fun m => x0 (ix2 r m)) d := by
  have e1 : (shapeCast S1x512 x2 shapeCasts_S1x512_S1x512) = x2 := by funext i; pointwise
  have e2 : (shapeCast S1024x16 x0 shapeCasts_S1024x16_S1024x16) = x0 := by funext i; pointwise
  have e3 : (shapeCast S1x512 x6 shapeCasts_S1x512_S1x512) = x6 := by funext i; pointwise
  rw [front_eq, e1, e2, e3, closeV_at]
  simp only [hiddenV_at, shareV_at, codeV_at, placeV_at, h1, h2, h3, h4, h5, h6, h7, h8, h9, h10]
  rfl

end Read

end Cert.KernelIdeal.Own

end
-- ==== Proof.KI.Calls.lean ====
/-
  What each call leaves, as the formulas: the front end's features, and each step's sum over the heads.
-/
module

public import proofs.«01_k».proof.Proof.KI.Blocks
public import proofs.«01_k».proof.Proof.KI.Step
public import proofs.«01_k».proof.Proof.KI.Front
public import proofs.«01_k».proof.Proof.Spec

@[expose] public section

set_option maxRecDepth 16384

noncomputable section

namespace Cert.KernelIdeal.Own

open Cert.KernelIdeal Cert.KernelIdeal.Gen
open Idealize.ShloMosaic Idealize.ShloMosaic.TcCoe Idealize.ShloMosaic.Pointwise

/-- The reciprocal of the root of 512. -/
abbrev invRoot : EReal := (((Real.sqrt 512)⁻¹ : ℝ) : EReal)

/-! ## One head, from its operands -/

/-- The operands of all heads hold the weights `w`, the mask `mk` and the features `h`. -/
structure Feed (x0 : FVec Ideal S1024x512 .f32) (x1 : FVec Ideal S64x64 .f32) (xv y1 : FVec Ideal S8x512x512 .f32) (b1 : FVec Ideal S8x1x512 .f32)
    (y2 : FVec Ideal S8x512x512 .f32) (b2 g be : FVec Ideal S8x1x512 .f32) (w : Fin 8 → Spec.Head) (mk : Fin 64 → Fin 64 → EReal)
    (h : Fin 16 → Fin 64 → Fin 512 → EReal) : Prop where
  nodes : ∀ b a d, x0 (ix2 (row b a) d) = h b a d
  mask : ∀ a c, x1 (ix2 a c) = mk a c
  Wv : ∀ n i j, xv (ix3 n i j) = (w n).Wv i j
  Wf1 : ∀ n i j, y1 (ix3 n i j) = (w n).Wf1 i j
  bf1 : ∀ n j, b1 (ix3 n 0 j) = (w n).bf1 j
  Wf2 : ∀ n i j, y2 (ix3 n i j) = (w n).Wf2 i j
  bf2 : ∀ n j, b2 (ix3 n 0 j) = (w n).bf2 j
  g : ∀ n j, g (ix3 n 0 j) = (w n).g j
  be : ∀ n j, be (ix3 n 0 j) = (w n).be j

section Head

variable (x0 : FVec Ideal S1024x512 .f32) (x1 : FVec Ideal S64x64 .f32) (G : FVec Ideal S512x512 .f32) (xv y1 : FVec Ideal S1x512x512 .f32)
  (b1 : FVec Ideal S1x1x512 .f32) (y2 : FVec Ideal S1x512x512 .f32) (b2 g be : FVec Ideal S1x1x512 .f32) (w : Spec.Head)
  (mk : Fin 64 → Fin 64 → EReal) (h : Fin 16 → Fin 64 → Fin 512 → EReal)

theorem flat_at (r : Fin 1024) (d : Fin 512) : (shapeCast S1024x512 x0 shapeCasts_S1024x512_S1024x512) (ix2 r d) = x0 (ix2 r d) := by
  pointwise

theorem square_at (g : FVec Ideal S1x512x512 .f32) (k e : Fin 512) :
    (shapeCast S512x512 g shapeCasts_S1x512x512_S512x512) (ix2 k e) = g (ix3 0 k e) := by
  pointwise

theorem head_spec (k0 : ∀ b a d, x0 (ix2 (row b a) d) = h b a d) (k1 : ∀ a c, x1 (ix2 a c) = mk a c)
    (kG : ∀ k e, G (ix2 k e) = Spec.joint w.Wq w.Wk k e) (kv : ∀ i j, xv (ix3 0 i j) = w.Wv i j) (k5 : ∀ i j, y1 (ix3 0 i j) = w.Wf1 i j)
    (k6 : ∀ j, b1 (ix3 0 0 j) = w.bf1 j) (k7 : ∀ i j, y2 (ix3 0 i j) = w.Wf2 i j) (k8 : ∀ j, b2 (ix3 0 0 j) = w.bf2 j)
    (k9 : ∀ j, g (ix3 0 0 j) = w.g j) (k10 : ∀ j, be (ix3 0 0 j) = w.be j) (b : Fin 16) (a : Fin 64) (d : Fin 512) :
    headV (shapeCast S1024x512 x0 shapeCasts_S1024x512_S1024x512) x1 G xv y1 b1 y2 b2 g be (ix2 (row b a) d)
      = Spec.headK w invRoot (mk a) (h b) (h b a) d := by
  have hn : nodes (shapeCast S1024x512 x0 shapeCasts_S1024x512_S1024x512) b = h b :=
    funext fun a => funext fun d => (flat_at x0 (row b a) d).trans (k0 b a d)
  rw [headV_at, hn]
  simp only [k1, kG, kv, k5, k6, k7, k8, k9, k10]
  rfl

end Head

/-! ## The running sums -/

section Sums

variable (V : (c : Dev nD) → (b : Ref sig .tc) → Buf (Elt Ideal) ((c : Thread nD τ).loc b)) (c : Dev nD) (r : Fin 1024) (d : Fin 512)

theorem add1_at (v : FVec Ideal S1024x512 .f32) (g be : FVec Ideal S1x1x512 .f32) (p : FVec Ideal S1024x512 .f32) : k1_pay2 (F := Ideal) v g be p (ix2 r d) = p (ix2 r d) + k1_pay1 v g be (ix2 r d) := by
  unfold k1_pay2
  simp only [addf_apply, flat_at]
  rfl

theorem acc1_at : ∀ (n : ℕ) (hn : n < cfg1.N), acc1 V c n hn (ix2 r d)
    = ∑ m : Fin (n + 1), head1 V c ⟨m.val, Nat.lt_of_lt_of_le m.isLt hn⟩ (ix2 r d)
  | 0, hn => by rw [Fin.sum_univ_one]; rfl
  | n + 1, hn => by
    rw [Fin.sum_univ_castSucc]
    exact (add1_at r d _ _ _ _).trans (congrArg (· + _) (acc1_at n _))

theorem add2_at (v p : FVec Ideal S1024x512 .f32) : k2_pay1 (F := Ideal) v p (ix2 r d) = p (ix2 r d) + v (ix2 r d) := by
  unfold k2_pay1
  simp only [addf_apply, flat_at]
  rfl

theorem acc2_at : ∀ (n : ℕ) (hn : n < cfg2.N), acc2 V c n hn (ix2 r d)
    = ∑ m : Fin (n + 1), head2 V c ⟨m.val, Nat.lt_of_lt_of_le m.isLt hn⟩ (ix2 r d)
  | 0, hn => by rw [Fin.sum_univ_one]; rfl
  | n + 1, hn => by
    rw [Fin.sum_univ_castSucc]
    exact (add2_at r d _ _).trans (congrArg (· + _) (acc2_at n _))

theorem add3_at (v p : FVec Ideal S1024x512 .f32) : k3_pay1 (F := Ideal) v p (ix2 r d) = p (ix2 r d) + v (ix2 r d) := by
  unfold k3_pay1
  simp only [addf_apply, flat_at]
  rfl

theorem acc3_at : ∀ (n : ℕ) (hn : n < cfg3.N), acc3 V c n hn (ix2 r d)
    = ∑ m : Fin (n + 1), head3 V c ⟨m.val, Nat.lt_of_lt_of_le m.isLt hn⟩ (ix2 r d)
  | 0, hn => by rw [Fin.sum_univ_one]; rfl
  | n + 1, hn => by
    rw [Fin.sum_univ_castSucc]
    exact (add3_at r d _ _).trans (congrArg (· + _) (acc3_at n _))

end Sums

/-! ## The calls -/

section Calls

variable (V : (c : Dev nD) → (b : Ref sig .tc) → Buf (Elt Ideal) ((c : Thread nD τ).loc b)) (c : Dev nD)
variable (w : Fin 8 → Spec.Head) (mk : Fin 64 → Fin 64 → EReal) (h : Fin 16 → Fin 64 → Fin 512 → EReal)

/-- The front end leaves the features. -/
theorem call0_at {x0 : FVec Ideal S1024x16 .f32} {x1 : FVec Ideal S16x32 .f32} {x2 : FVec Ideal S1x512 .f32} {x3 : FVec Ideal S512x32 .f32} {x4 : FVec Ideal S1x512 .f32} {x5 : FVec Ideal S512x512 .f32} {x6 : FVec Ideal S1x512 .f32} {x7 : FVec Ideal S1024x8192 .f32} {x8 : FVec Ideal S1x1024 .f32} {x9 : FVec Ideal S512x1024 .f32} {x10 : FVec Ideal S1x512 .f32}
    (e0 : V c main_v15 = x0) (e1 : V c main_v13 = x1) (e2 : V c main_v18 = x2) (e3 : V c main_v19 = x3) (e4 : V c main_v20 = x4) (e5 : V c main_arg4 = x5) (e6 : V c main_v21 = x6) (e7 : V c main_arg6 = x7) (e8 : V c main_v22 = x8) (e9 : V c main_arg8 = x9) (e10 : V c main_v23 = x10)
    (q : Spec.Enc) (pos : Fin 16 → Fin 32 → EReal)
    (h1 : ∀ m k, x1 (ix2 m k) = pos m k) (h2 : ∀ k, x2 (ix2 0 k) = q.We1 k 0) (h3 : ∀ k i, x3 (ix2 k i) = q.We1 k i.succ)
    (h4 : ∀ k, x4 (ix2 0 k) = q.be1 k) (h5 : ∀ i j, x5 (ix2 i j) = q.We2 i j) (h6 : ∀ k, x6 (ix2 0 k) = q.be2 k)
    (h7 : ∀ i j, x7 (ix2 i j) = q.Wc1 i j) (h8 : ∀ k, x8 (ix2 0 k) = q.bc1 k) (h9 : ∀ i j, x9 (ix2 i j) = q.Wc2 i j)
    (h10 : ∀ k, x10 (ix2 0 k) = q.bc2 k) (r : Fin 1024) (d : Fin 512) :
    feats V c t0_0 (ix2 r d) = Spec.feat q pos (fun m => x0 (ix2 r m)) d := by
  obtain ⟨r0, r1, r2, r3, r4, r5, r6, r7, r8, r9, r10⟩ := reads0 V c t0_0 e0 e1 e2 e3 e4 e5 e6 e7 e8 e9 e10
  refine (front_at r d q pos _ _ _ _ _ _ _ _ _ _ _ (fun _ _ => (r1 _ _).trans (h1 _ _)) (fun _ => (r2 _ _).trans (h2 _)) (fun _ _ => (r3 _ _).trans (h3 _ _))
    (fun _ => (r4 _ _).trans (h4 _)) (fun _ _ => (r5 _ _).trans (h5 _ _)) (fun _ => (r6 _ _).trans (h6 _)) (fun _ _ => (r7 _ _).trans (h7 _ _))
    (fun _ => (r8 _ _).trans (h8 _)) (fun _ _ => (r9 _ _).trans (h9 _ _)) (fun _ => (r10 _ _).trans (h10 _))).trans ?_
  exact congrArg (fun x => Spec.feat q pos x d) (funext fun m => r0 r m)

theorem head1_at {x0 : FVec Ideal S1024x512 .f32} {x1 : FVec Ideal S64x64 .f32} {x2 : FVec Ideal S8x512x512 .f32} {x3 : FVec Ideal S8x512x512 .f32} {x4 : FVec Ideal S8x512x512 .f32} {x5 : FVec Ideal S8x512x512 .f32} {x6 : FVec Ideal S8x1x512 .f32} {x7 : FVec Ideal S8x512x512 .f32} {x8 : FVec Ideal S8x1x512 .f32} {x9 : FVec Ideal S8x1x512 .f32} {x10 : FVec Ideal S8x1x512 .f32}
    (e0 : V c main_v24 = x0) (e1 : V c main_arg10 = x1) (e2 : V c main_arg11 = x2) (e3 : V c main_arg12 = x3) (e4 : V c main_arg13 = x4) (e5 : V c main_arg14 = x5) (e6 : V c main_v25 = x6) (e7 : V c main_arg16 = x7) (e8 : V c main_v26 = x8) (e9 : V c main_v27 = x9) (e10 : V c main_v28 = x10)
    (hf : Feed x0 x1 x4 x5 x6 x7 x8 x9 x10 w mk h) (hq : ∀ n i j, x2 (ix3 n i j) = (w n).Wq i j) (hk : ∀ n i j, x3 (ix3 n i j) = (w n).Wk i j)
    (t : Fin cfg1.N) (n : Fin 8) (hn : t.val = n.val) (b : Fin 16) (a : Fin 64) (d : Fin 512) :
    head1 V c t (ix2 (row b a) d) = Spec.headK (w n) invRoot (mk a) (h b) (h b a) d := by
  obtain ⟨r0, r1, r2, r3, r4, r5, r6, r7, r8, r9, r10⟩ := reads1 V c t n hn e0 e1 e2 e3 e4 e5 e6 e7 e8 e9 e10
  refine (congrFun (step1_eq ..) _).trans (head_spec _ _ _ _ _ _ _ _ _ _ (w n) mk h (fun b a d => (r0 _ _).trans (hf.nodes b a d))
    (fun _ _ => (r1 _ _).trans (hf.mask _ _)) (fun i j => (joint_at _ _ i j).trans (congrArg₂ (fun q k => Spec.joint q k i j) (funext fun _ => funext fun _ => (r2 _ _).trans (hq n _ _))
      (funext fun _ => funext fun _ => (r3 _ _).trans (hk n _ _))))
    (fun _ _ => (r4 _ _).trans (hf.Wv n _ _)) (fun _ _ => (r5 _ _).trans (hf.Wf1 n _ _)) (fun _ => (r6 _ _).trans (hf.bf1 n _))
    (fun _ _ => (r7 _ _).trans (hf.Wf2 n _ _)) (fun _ => (r8 _ _).trans (hf.bf2 n _)) (fun _ => (r9 _ _).trans (hf.g n _))
    (fun _ => (r10 _ _).trans (hf.be n _)) b a d)

/-- The sum over the heads after the last point. -/
theorem call1_at {x0 : FVec Ideal S1024x512 .f32} {x1 : FVec Ideal S64x64 .f32} {x2 : FVec Ideal S8x512x512 .f32} {x3 : FVec Ideal S8x512x512 .f32} {x4 : FVec Ideal S8x512x512 .f32} {x5 : FVec Ideal S8x512x512 .f32} {x6 : FVec Ideal S8x1x512 .f32} {x7 : FVec Ideal S8x512x512 .f32} {x8 : FVec Ideal S8x1x512 .f32} {x9 : FVec Ideal S8x1x512 .f32} {x10 : FVec Ideal S8x1x512 .f32}
    (e0 : V c main_v24 = x0) (e1 : V c main_arg10 = x1) (e2 : V c main_arg11 = x2) (e3 : V c main_arg12 = x3) (e4 : V c main_arg13 = x4) (e5 : V c main_arg14 = x5) (e6 : V c main_v25 = x6) (e7 : V c main_arg16 = x7) (e8 : V c main_v26 = x8) (e9 : V c main_v27 = x9) (e10 : V c main_v28 = x10)
    (hf : Feed x0 x1 x4 x5 x6 x7 x8 x9 x10 w mk h) (hq : ∀ n i j, x2 (ix3 n i j) = (w n).Wq i j) (hk : ∀ n i j, x3 (ix3 n i j) = (w n).Wk i j)
    (b : Fin 16) (a : Fin 64) (d : Fin 512) : acc1 V c 7 (by decide) (ix2 (row b a) d) = Spec.stepK w invRoot mk h b a d :=
  (acc1_at V c (row b a) d 7 (by decide)).trans
    (Finset.sum_congr rfl fun n _ => head1_at V c w mk h e0 e1 e2 e3 e4 e5 e6 e7 e8 e9 e10 hf hq hk _ n rfl b a d)

theorem head2_at {x0 : FVec Ideal S1024x512 .f32} {x1 : FVec Ideal S64x64 .f32} {x2 : FVec Ideal S8x512x512 .f32} {x3 : FVec Ideal S8x512x512 .f32} {x4 : FVec Ideal S8x512x512 .f32} {x5 : FVec Ideal S8x1x512 .f32} {x6 : FVec Ideal S8x512x512 .f32} {x7 : FVec Ideal S8x1x512 .f32} {x8 : FVec Ideal S8x1x512 .f32} {x9 : FVec Ideal S8x1x512 .f32}
    (e0 : V c main_v29_0 = x0) (e1 : V c main_arg10 = x1) (e2 : V c main_v29_1 = x2) (e3 : V c main_arg13 = x3) (e4 : V c main_arg14 = x4) (e5 : V c main_v30 = x5) (e6 : V c main_arg16 = x6) (e7 : V c main_v31 = x7) (e8 : V c main_v32 = x8) (e9 : V c main_v33 = x9)
    (hf : Feed x0 x1 x3 x4 x5 x6 x7 x8 x9 w mk h) (hq : ∀ n i j, x2 (ix3 n i j) = Spec.joint (w n).Wq (w n).Wk i j)
    (t : Fin cfg2.N) (n : Fin 8) (hn : t.val = n.val) (b : Fin 16) (a : Fin 64) (d : Fin 512) :
    head2 V c t (ix2 (row b a) d) = Spec.headK (w n) invRoot (mk a) (h b) (h b a) d := by
  obtain ⟨r0, r1, r2, r3, r4, r5, r6, r7, r8, r9⟩ := reads2 V c t n hn e0 e1 e2 e3 e4 e5 e6 e7 e8 e9
  refine (congrFun (step2_eq ..) _).trans (head_spec _ _ _ _ _ _ _ _ _ _ (w n) mk h (fun b a d => (r0 _ _).trans (hf.nodes b a d))
    (fun _ _ => (r1 _ _).trans (hf.mask _ _)) (fun i j => (square_at _ i j).trans ((r2 i j).trans (hq n i j)))
    (fun _ _ => (r3 _ _).trans (hf.Wv n _ _)) (fun _ _ => (r4 _ _).trans (hf.Wf1 n _ _)) (fun _ => (r5 _ _).trans (hf.bf1 n _))
    (fun _ _ => (r6 _ _).trans (hf.Wf2 n _ _)) (fun _ => (r7 _ _).trans (hf.bf2 n _)) (fun _ => (r8 _ _).trans (hf.g n _))
    (fun _ => (r9 _ _).trans (hf.be n _)) b a d)

/-- The sum over the heads after the last point. -/
theorem call2_at {x0 : FVec Ideal S1024x512 .f32} {x1 : FVec Ideal S64x64 .f32} {x2 : FVec Ideal S8x512x512 .f32} {x3 : FVec Ideal S8x512x512 .f32} {x4 : FVec Ideal S8x512x512 .f32} {x5 : FVec Ideal S8x1x512 .f32} {x6 : FVec Ideal S8x512x512 .f32} {x7 : FVec Ideal S8x1x512 .f32} {x8 : FVec Ideal S8x1x512 .f32} {x9 : FVec Ideal S8x1x512 .f32}
    (e0 : V c main_v29_0 = x0) (e1 : V c main_arg10 = x1) (e2 : V c main_v29_1 = x2) (e3 : V c main_arg13 = x3) (e4 : V c main_arg14 = x4) (e5 : V c main_v30 = x5) (e6 : V c main_arg16 = x6) (e7 : V c main_v31 = x7) (e8 : V c main_v32 = x8) (e9 : V c main_v33 = x9)
    (hf : Feed x0 x1 x3 x4 x5 x6 x7 x8 x9 w mk h) (hq : ∀ n i j, x2 (ix3 n i j) = Spec.joint (w n).Wq (w n).Wk i j)
    (b : Fin 16) (a : Fin 64) (d : Fin 512) : acc2 V c 7 (by decide) (ix2 (row b a) d) = Spec.stepK w invRoot mk h b a d :=
  (acc2_at V c (row b a) d 7 (by decide)).trans
    (Finset.sum_congr rfl fun n _ => head2_at V c w mk h e0 e1 e2 e3 e4 e5 e6 e7 e8 e9 hf hq _ n rfl b a d)

theorem head3_at {x0 : FVec Ideal S1024x512 .f32} {x1 : FVec Ideal S64x64 .f32} {x2 : FVec Ideal S8x512x512 .f32} {x3 : FVec Ideal S8x512x512 .f32} {x4 : FVec Ideal S8x512x512 .f32} {x5 : FVec Ideal S8x1x512 .f32} {x6 : FVec Ideal S8x512x512 .f32} {x7 : FVec Ideal S8x1x512 .f32} {x8 : FVec Ideal S8x1x512 .f32} {x9 : FVec Ideal S8x1x512 .f32} {x10 : FVec Ideal S1024x512 .f32} {x11 : FVec Ideal S1x1024 .f32}
    (e0 : V c main_v34 = x0) (e1 : V c main_arg10 = x1) (e2 : V c main_v29_1 = x2) (e3 : V c main_arg13 = x3) (e4 : V c main_arg14 = x4) (e5 : V c main_v36 = x5) (e6 : V c main_arg16 = x6) (e7 : V c main_v37 = x7) (e8 : V c main_v38 = x8) (e9 : V c main_v39 = x9) (e10 : V c main_arg20 = x10) (e11 : V c main_v35 = x11)
    (hf : Feed x0 x1 x3 x4 x5 x6 x7 x8 x9 w mk h) (hq : ∀ n i j, x2 (ix3 n i j) = Spec.joint (w n).Wq (w n).Wk i j)
    (t : Fin cfg3.N) (n : Fin 8) (hn : t.val = n.val) (b : Fin 16) (a : Fin 64) (d : Fin 512) :
    head3 V c t (ix2 (row b a) d) = Spec.headK (w n) invRoot (mk a) (h b) (h b a) d := by
  obtain ⟨r0, r1, r2, r3, r4, r5, r6, r7, r8, r9, r10, r11⟩ := reads3 V c t n hn e0 e1 e2 e3 e4 e5 e6 e7 e8 e9 e10 e11
  refine (congrFun (step3_eq ..) _).trans (head_spec _ _ _ _ _ _ _ _ _ _ (w n) mk h (fun b a d => (r0 _ _).trans (hf.nodes b a d))
    (fun _ _ => (r1 _ _).trans (hf.mask _ _)) (fun i j => (square_at _ i j).trans ((r2 i j).trans (hq n i j)))
    (fun _ _ => (r3 _ _).trans (hf.Wv n _ _)) (fun _ _ => (r4 _ _).trans (hf.Wf1 n _ _)) (fun _ => (r5 _ _).trans (hf.bf1 n _))
    (fun _ _ => (r6 _ _).trans (hf.Wf2 n _ _)) (fun _ => (r7 _ _).trans (hf.bf2 n _)) (fun _ => (r8 _ _).trans (hf.g n _))
    (fun _ => (r9 _ _).trans (hf.be n _)) b a d)

/-- The sum over the heads after the last point. -/
theorem call3_at {x0 : FVec Ideal S1024x512 .f32} {x1 : FVec Ideal S64x64 .f32} {x2 : FVec Ideal S8x512x512 .f32} {x3 : FVec Ideal S8x512x512 .f32} {x4 : FVec Ideal S8x512x512 .f32} {x5 : FVec Ideal S8x1x512 .f32} {x6 : FVec Ideal S8x512x512 .f32} {x7 : FVec Ideal S8x1x512 .f32} {x8 : FVec Ideal S8x1x512 .f32} {x9 : FVec Ideal S8x1x512 .f32} {x10 : FVec Ideal S1024x512 .f32} {x11 : FVec Ideal S1x1024 .f32}
    (e0 : V c main_v34 = x0) (e1 : V c main_arg10 = x1) (e2 : V c main_v29_1 = x2) (e3 : V c main_arg13 = x3) (e4 : V c main_arg14 = x4) (e5 : V c main_v36 = x5) (e6 : V c main_arg16 = x6) (e7 : V c main_v37 = x7) (e8 : V c main_v38 = x8) (e9 : V c main_v39 = x9) (e10 : V c main_arg20 = x10) (e11 : V c main_v35 = x11)
    (hf : Feed x0 x1 x3 x4 x5 x6 x7 x8 x9 w mk h) (hq : ∀ n i j, x2 (ix3 n i j) = Spec.joint (w n).Wq (w n).Wk i j)
    (b : Fin 16) (a : Fin 64) (d : Fin 512) : acc3 V c 7 (by decide) (ix2 (row b a) d) = Spec.stepK w invRoot mk h b a d :=
  (acc3_at V c (row b a) d 7 (by decide)).trans
    (Finset.sum_congr rfl fun n _ => head3_at V c w mk h e0 e1 e2 e3 e4 e5 e6 e7 e8 e9 e10 e11 hf hq _ n rfl b a d)

/-- The joint matrices the first step stores. -/
theorem aux1_at {x2 x3 : FVec Ideal S8x512x512 .f32} (e2 : V c main_arg11 = x2) (e3 : V c main_arg12 = x3) (t : Fin cfg1.N) (n : Fin 8) (hn : t.val = n.val)
    (hq : ∀ n i j, x2 (ix3 n i j) = (w n).Wq i j) (hk : ∀ n i j, x3 (ix3 n i j) = (w n).Wk i j) (i j : Fin 512) :
    k1_pay4 (F := Ideal) (blk1 V c 2 t) (blk1 V c 3 t) (ix3 0 i j) = Spec.joint (w n).Wq (w n).Wk i j := by
  obtain ⟨r0, r1, r2, r3, r4, r5, r6, r7, r8, r9, r10⟩ := reads1 V c t n hn rfl rfl e2 e3 rfl rfl rfl rfl rfl rfl rfl
  exact (stored_at _ _ i j).trans (congrArg₂ (fun q k => Spec.joint q k i j) (funext fun _ => funext fun _ => (r2 _ _).trans (hq n _ _))
      (funext fun _ => funext fun _ => (r3 _ _).trans (hk n _ _)))

/-- The output projection. -/
theorem proj_at (A : FVec Ideal S1024x512 .f32) (W : FVec Ideal S1024x512 .f32) (z : FVec Ideal S1x1024 .f32) (r j : Fin 1024) :
    k3_pay2 (F := Ideal) A W z (ix2 r j) = Spec.lin (fun i k => W (ix2 i k)) (fun i => z (ix2 0 i)) (fun k => A (ix2 r k)) j := by
  pointwise [k3_pay2, Spec.lin]

end Calls

end Cert.KernelIdeal.Own

end
-- ==== Proof.Ref.lean ====
/-
  The reference as a handful of named vector operations — its run's named terms are exactly these, by unfolding —
  and each read at an index.
-/
module

public import proofs.«01_k».proof.Proof.Gen.ReferenceIdeal.Run
public import proofs.«01_k».proof.Proof.Spec
public import Idealize.ShloMosaic.Lib.Pointwise

@[expose] public section

set_option maxRecDepth 16384

noncomputable section

namespace Cert.ReferenceIdeal.Own

open Cert.ReferenceIdeal Cert.ReferenceIdeal.Gen Cert.ReferenceIdeal.Value
open Idealize.ShloMosaic Idealize.ShloMosaic.TcCoe Idealize.ShloMosaic.StableHlo

variable {F : FTy → Type} [FloatOps F]

/-! ## The vector operations of one step -/

/-- Every head's projection of every node. -/
def projH (h : FVec F S16x64x512 .f32) (W : FVec F S8x512x512 .f32) : FVec F S16x64x8x512 .f32 :=
  Host.dotGeneral dot_S16x64x512_S8x512x512_S16x64x8x512_2_1_01_02_n_n none h
    (transpose S8x512x512 [0, 2, 1] W transposes_S8x512x512_S8x512x512_0_2_1)

/-- The masked scores. -/
def scoresH (h : FVec F S16x64x512 .f32) (Wq Wk : FVec F S8x512x512 .f32) (M : FVec F S64x64 .f32) : FVec F S8x16x64x64 .f32 :=
  addf (Host.divf (Host.dotGeneral dot_S16x64x8x512_S16x64x8x512_S8x16x64x64_3_3_1_1_20_20 none (projH h Wq) (projH h Wk))
      (broadcastInDim S8x16x64x64 ![] bcast_S_S8x16x64x64 (Host.sqrt (constant S_ .f32 0x44000000#32))))
    (broadcastInDim S8x16x64x64 ![0, 1, 2, 3] bcast_S1x1x64x64_S8x16x64x64_0_1_2_3
      (broadcastInDim S1x1x64x64 ![1, 2, 3] bcast_S1x64x64_S1x1x64x64_1_2_3 (broadcastInDim S1x64x64 ![1, 2] bcast_S64x64_S1x64x64_1_2 M)))

/-- Scores less their largest, exponentiated. -/
def expH (s : FVec F S8x16x64x64 .f32) : FVec F S8x16x64x64 .f32 :=
  Host.exp (subf s (broadcastInDim S8x16x64x64 ![0, 1, 2, 3] bcast_S8x16x64x1_S8x16x64x64_0_1_2_3
    (broadcastInDim S8x16x64x1 ![0, 1, 2] bcast_S8x16x64_S8x16x64x1_0_1_2
      (maximumf (broadcastInDim S8x16x64 ![] bcast_S_S8x16x64 (constant S_ .f32 0xFF800000#32))
        (Host.reduce FloatOps.maximumf s (constant S_ .f32 0xFF800000#32) reducesTo_S8x16x64x64_S8x16x64_d3 h_S_)))))

/-- The softmax. -/
def softH (s : FVec F S8x16x64x64 .f32) : FVec F S8x16x64x64 .f32 :=
  Host.divf (expH s) (broadcastInDim S8x16x64x64 ![0, 1, 2, 3] bcast_S8x16x64x1_S8x16x64x64_0_1_2_3
    (broadcastInDim S8x16x64x1 ![0, 1, 2] bcast_S8x16x64_S8x16x64x1_0_1_2
      (Host.reduceAdd (expH s) (constant S_ .f32 0x00000000#32) reducesTo_S8x16x64x64_S8x16x64_d3 h_S_)))

/-- Weights against values. -/
def mixH (p : FVec F S8x16x64x64 .f32) (v : FVec F S16x64x8x512 .f32) : FVec F S8x16x64x512 .f32 :=
  Host.dotGeneral dot_S8x16x64x64_S16x64x8x512_S8x16x64x512_3_1_2_3_01_20 none p v

/-- One row per head, over batches and nodes. -/
def overH (b : FVec F S8x512 .f32) : FVec F S8x16x64x512 .f32 :=
  broadcastInDim S8x16x64x512 ![0, 1, 2, 3] bcast_S8x1x1x512_S8x16x64x512_0_1_2_3 (broadcastInDim S8x1x1x512 ![0, 3] bcast_S8x512_S8x1x1x512_0_3 b)

/-- `z · 1/(1 + e^(-z))`, then a linear layer per head. -/
def layerH (z : FVec F S8x16x64x512 .f32) (W : FVec F S8x512x512 .f32) (b : FVec F S8x512 .f32) : FVec F S8x16x64x512 .f32 :=
  addf (Host.dotGeneral dot_S8x16x64x512_S8x512x512_S8x16x64x512_3_1_12_2_0_0 none
      (mulf z (Host.divf (broadcastInDim S8x16x64x512 ![] bcast_S_S8x16x64x512 (constant S_ .f32 0x3F800000#32))
        (addf (broadcastInDim S8x16x64x512 ![] bcast_S_S8x16x64x512 (constant S_ .f32 0x3F800000#32)) (Host.exp (Host.negf z)))))
      (transpose S8x512x512 [0, 2, 1] W transposes_S8x512x512_S8x512x512_0_2_1))
    (overH b)

/-- The mean over the last axis. -/
def meanH (o : FVec F S8x16x64x512 .f32) : FVec F S8x16x64x1 .f32 :=
  Host.divf (broadcastInDim S8x16x64x1 ![0, 1, 2] bcast_S8x16x64_S8x16x64x1_0_1_2
      (Host.reduceAdd o (constant S_ .f32 0x00000000#32) reducesTo_S8x16x64x512_S8x16x64_d3 h_S_))
    (broadcastInDim S8x16x64x1 ![] bcast_S_S8x16x64x1 (constant S_ .f32 0x44000000#32))

/-- Less the mean. -/
def devH (o : FVec F S8x16x64x512 .f32) : FVec F S8x16x64x512 .f32 :=
  subf o (broadcastInDim S8x16x64x512 ![0, 1, 2, 3] bcast_S8x16x64x1_S8x16x64x512_0_1_2_3 (meanH o))

/-- The layer norm. -/
def normH (o : FVec F S8x16x64x512 .f32) (g be : FVec F S8x512 .f32) : FVec F S8x16x64x512 .f32 :=
  addf (mulf (Host.divf (devH o) (broadcastInDim S8x16x64x512 ![0, 1, 2, 3] bcast_S8x16x64x1_S8x16x64x512_0_1_2_3
      (Host.sqrt (addf (meanH (mulf (devH o) (devH o))) (broadcastInDim S8x16x64x1 ![] bcast_S_S8x16x64x1 (constant S_ .f32 0x3727C5AC#32))))))
    (overH g)) (overH be)

/-- The mean over the heads. -/
def headsH (o : FVec F S8x16x64x512 .f32) : FVec F S16x64x512 .f32 :=
  Host.divf (Host.reduceAdd o (constant S_ .f32 0x00000000#32) reducesTo_S8x16x64x512_S16x64x512_d0 h_S_)
    (broadcastInDim S16x64x512 ![] bcast_S_S16x64x512 (constant S_ .f32 0x41000000#32))

/-- One step, from the features and the heads' weights. -/
def stepH (M : FVec F S64x64 .f32) (Wq Wk Wv W1 : FVec F S8x512x512 .f32) (b1 : FVec F S8x512 .f32) (W2 : FVec F S8x512x512 .f32)
    (b2 g be : FVec F S8x512 .f32) (h : FVec F S16x64x512 .f32) : FVec F S16x64x512 .f32 :=
  headsH (normH (layerH (layerH (mixH (softH (scoresH h Wq Wk M)) (projH h Wv)) W1 b1) W2 b2) g be)

/-- The step at the program's arguments. -/
def stepOf (V0 : Valuation τ sig (Elt F)) : FVec F S16x64x512 .f32 → FVec F S16x64x512 .f32 :=
  stepH (V0 (Proc.devRef .tc main_arg10)) (V0 (Proc.devRef .tc main_arg11)) (V0 (Proc.devRef .tc main_arg12)) (V0 (Proc.devRef .tc main_arg13))
    (V0 (Proc.devRef .tc main_arg14)) (V0 (Proc.devRef .tc main_arg15)) (V0 (Proc.devRef .tc main_arg16)) (V0 (Proc.devRef .tc main_arg17))
    (V0 (Proc.devRef .tc main_arg18)) (V0 (Proc.devRef .tc main_arg19))

/-- The output projection. -/
def outH (h : FVec F S16x64x512 .f32) (W : FVec F S1024x512 .f32) (b : FVec F S1024 .f32) : FVec F S16x64x1024 .f32 :=
  addf (Host.dotGeneral dot_S16x64x512_S512x1024_S16x64x1024_2_0_01_1_n_n none h (transpose S512x1024 [1, 0] W transposes_S1024x512_S512x1024_1_0))
    (broadcastInDim S16x64x1024 ![0, 1, 2] bcast_S1x1x1024_S16x64x1024_0_1_2 (broadcastInDim S1x1x1024 ![2] bcast_S1024_S1x1x1024_2 b))

theorem first_step (V0 : Valuation τ sig (Elt F)) : res_main_v130 V0 = stepOf V0 (res_main_v53 V0) := rfl
theorem second_step (V0 : Valuation τ sig (Elt F)) : res_main_v206 V0 = stepOf V0 (res_main_v130 V0) := rfl

/-! ## The vector operations of the encoder -/

/-- The quotients rounded down. -/
def floorOf (i : IVec S16 32) (n : IVec S_ 32) : IVec S16 32 :=
  select (andi (cmpi .ne (signi i) (broadcastInDim S16 ![] bcast_S_S16 (signi n)))
      (cmpi .ne (Host.remsi i (broadcastInDim S16 ![] bcast_S_S16 n)) (broadcastInDim S16 ![] bcast_S_S16 (constantI S_ 32 0#32))))
    (subi (Host.divsi i (broadcastInDim S16 ![] bcast_S_S16 n)) (broadcastInDim S16 ![] bcast_S_S16 (constantI S_ 32 1#32)))
    (Host.divsi i (broadcastInDim S16 ![] bcast_S_S16 n))

/-- A divisor, or 1 for a divisor 0. -/
def divisorOf (n : IVec S_ 32) : IVec S_ 32 := select (cmpi .eq n (constantI S_ 32 0#32)) (constantI S_ 32 1#32) n

/-- The remainders with the divisor's sign. -/
def modOf (i : IVec S16 32) (n : IVec S_ 32) : IVec S16 32 :=
  select (andi (cmpi .ne (cmpi .slt (Host.remsi i (broadcastInDim S16 ![] bcast_S_S16 (divisorOf n))) (broadcastInDim S16 ![] bcast_S_S16 (constantI S_ 32 0#32)))
        (broadcastInDim S16 ![] bcast_S_S16 (cmpi .slt (divisorOf n) (constantI S_ 32 0#32))))
      (cmpi .ne (Host.remsi i (broadcastInDim S16 ![] bcast_S_S16 (divisorOf n))) (broadcastInDim S16 ![] bcast_S_S16 (constantI S_ 32 0#32))))
    (addi (Host.remsi i (broadcastInDim S16 ![] bcast_S_S16 (divisorOf n))) (broadcastInDim S16 ![] bcast_S_S16 (divisorOf n)))
    (Host.remsi i (broadcastInDim S16 ![] bcast_S_S16 (divisorOf n)))

/-- The angles of the position codes, of each character's row and column and the frequencies. -/
def anglesFrom (q r : IVec S16 32) (f : FVec F S16x2 .f32) : FVec F S16x16 .f32 :=
  mulf (broadcastInDim S16x16 ![] bcast_S_S16x16 (constant S_ .f32 0x40C90FDB#32))
    (Host.dotGeneral dot_S16x2_S2x16_S16x16_1_0_0_1_n_n none
      (sitofp .f32 (concatenate S16x2 1 [⟨S16x1, broadcastInDim S16x1 ![0] bcast_S16_S16x1_0 q⟩, ⟨S16x1, broadcastInDim S16x1 ![0] bcast_S16_S16x1_0 r⟩]
        concatenates_S16x1_S16x1_S16x2_d1))
      (transpose S2x16 [1, 0] f transposes_S16x2_S2x16_1_0))

/-- The angles of the position codes. -/
def anglesOf (V0 : Valuation τ sig (Elt F)) : FVec F S16x16 .f32 := res_main_v10 V0

theorem angles (V0 : Valuation τ sig (Elt F)) : anglesOf V0
    = anglesFrom (floorOf (iotaInDim S16 32 0) (constantI S_ 32 32#32)) (modOf (iotaInDim S16 32 0) (constantI S_ 32 32#32)) (V0 (Proc.devRef .tc main_arg1)) := rfl

/-- The position codes. -/
def placesH (t : FVec F S16x16 .f32) : FVec F S16x32 .f32 :=
  concatenate S16x32 1 [⟨S16x16, Host.sin t⟩, ⟨S16x16, Host.cos t⟩] concatenates_S16x16_S16x16_S16x32_d1

/-- The first layer. -/
def entryH (x : FVec F S16x64x1024 .f32) (p : FVec F S16x32 .f32) (W : FVec F S512x33 .f32) (b : FVec F S512 .f32) : FVec F S16x64x16x512 .f32 :=
  addf (Host.dotGeneral dot_S16x64x16x33_S33x512_S16x64x16x512_3_0_012_1_n_n none
      (concatenate S16x64x16x33 3 [⟨S16x64x16x1, broadcastInDim S16x64x16x1 ![0, 1, 2] bcast_S16x64x16_S16x64x16x1_0_1_2
          (extractStridedSlice S16x64x16 ![0, 0, 0] x slices_S16x64x1024_S16x64x16_0_0_0)⟩,
        ⟨S16x64x16x32, broadcastInDim S16x64x16x32 ![0, 1, 2, 3] bcast_S1x1x16x32_S16x64x16x32_0_1_2_3
          (broadcastInDim S1x1x16x32 ![2, 3] bcast_S16x32_S1x1x16x32_2_3 p)⟩] concatenates_S16x64x16x1_S16x64x16x32_S16x64x16x33_d3)
      (transpose S33x512 [1, 0] W transposes_S512x33_S33x512_1_0))
    (broadcastInDim S16x64x16x512 ![0, 1, 2, 3] bcast_S1x1x1x512_S16x64x16x512_0_1_2_3 (broadcastInDim S1x1x1x512 ![3] bcast_S512_S1x1x1x512_3 b))

/-- The codes. -/
def codeH (z : FVec F S16x64x16x512 .f32) (W : FVec F S512x512 .f32) (b : FVec F S512 .f32) : FVec F S16x64x16x512 .f32 :=
  addf (Host.dotGeneral dot_S16x64x16x512_S512x512_S16x64x16x512_3_0_012_1_n_n none
      (mulf z (Host.divf (broadcastInDim S16x64x16x512 ![] bcast_S_S16x64x16x512 (constant S_ .f32 0x3F800000#32))
        (addf (broadcastInDim S16x64x16x512 ![] bcast_S_S16x64x16x512 (constant S_ .f32 0x3F800000#32)) (Host.exp (Host.negf z)))))
      (transpose S512x512 [1, 0] W transposes_S512x512_S512x512_1_0))
    (broadcastInDim S16x64x16x512 ![0, 1, 2, 3] bcast_S1x1x1x512_S16x64x16x512_0_1_2_3 (broadcastInDim S1x1x1x512 ![3] bcast_S512_S1x1x1x512_3 b))

/-- The hidden layer over the flattened codes. -/
def hiddenH (z : FVec F S16x64x16x512 .f32) (W : FVec F S1024x8192 .f32) (b : FVec F S1024 .f32) : FVec F S16x64x1024 .f32 :=
  addf (Host.dotGeneral dot_S16x64x8192_S8192x1024_S16x64x1024_2_0_01_1_n_n none
      (shapeCast S16x64x8192 z shapeCasts_S16x64x16x512_S16x64x8192) (transpose S8192x1024 [1, 0] W transposes_S1024x8192_S8192x1024_1_0))
    (broadcastInDim S16x64x1024 ![0, 1, 2] bcast_S1x1x1024_S16x64x1024_0_1_2 (broadcastInDim S1x1x1024 ![2] bcast_S1024_S1x1x1024_2 b))

/-- The features. -/
def closeH (z : FVec F S16x64x1024 .f32) (W : FVec F S512x1024 .f32) (b : FVec F S512 .f32) : FVec F S16x64x512 .f32 :=
  addf (Host.dotGeneral dot_S16x64x1024_S1024x512_S16x64x512_2_0_01_1_n_n none
      (mulf z (Host.divf (broadcastInDim S16x64x1024 ![] bcast_S_S16x64x1024 (constant S_ .f32 0x3F800000#32))
        (addf (broadcastInDim S16x64x1024 ![] bcast_S_S16x64x1024 (constant S_ .f32 0x3F800000#32)) (Host.exp (Host.negf z)))))
      (transpose S1024x512 [1, 0] W transposes_S512x1024_S1024x512_1_0))
    (broadcastInDim S16x64x512 ![0, 1, 2] bcast_S1x1x512_S16x64x512_0_1_2 (broadcastInDim S1x1x512 ![2] bcast_S512_S1x1x512_2 b))

theorem features (V0 : Valuation τ sig (Elt F)) : res_main_v53 V0
    = closeH (hiddenH (codeH (entryH (V0 (Proc.devRef .tc main_arg0)) (placesH (anglesOf V0)) (V0 (Proc.devRef .tc main_arg2)) (V0 (Proc.devRef .tc main_arg3)))
        (V0 (Proc.devRef .tc main_arg4)) (V0 (Proc.devRef .tc main_arg5))) (V0 (Proc.devRef .tc main_arg6)) (V0 (Proc.devRef .tc main_arg7)))
      (V0 (Proc.devRef .tc main_arg8)) (V0 (Proc.devRef .tc main_arg9)) := rfl

/-! ## Read at an index -/

section Read

variable (h : FVec Ideal S16x64x512 .f32) (n : Fin 8) (b : Fin 16) (a c : Fin 64) (d : Fin 512)

theorem neg_inf : Ideal.ofBits .f32 0xFF800000#32 = (⊥ : EReal) := rfl
theorem one_f32 : Ideal.ofBits .f32 0x3F800000#32 = (1 : EReal) := Ideal.ofBits_one_f32

theorem projH_at (W : FVec Ideal S8x512x512 .f32) :
    projH h W (ix4 b a n d) = ∑ k : Fin 512, h (ix3 b a k) * W (ix3 n d k) := by
  pointwise [projH]

theorem scoresH_at (Wq Wk : FVec Ideal S8x512x512 .f32) (M : FVec Ideal S64x64 .f32) :
    scoresH h Wq Wk M (ix4 n b a c) = Spec.scoreR (fun i j => Wq (ix3 n i j)) (fun i j => Wk (ix3 n i j)) (fun c => M (ix2 a c))
      (fun c k => h (ix3 b c k)) (fun k => h (ix3 b a k)) c := by
  pointwise [scoresH, Spec.scoreR, Spec.n512]
  simp only [projH_at]

theorem softH_at (s : FVec Ideal S8x16x64x64 .f32) : softH s (ix4 n b a c) = Spec.soft (fun c => s (ix4 n b a c)) c := by
  pointwise [softH, expH, Spec.soft, Spec.top]
  simp only [neg_inf, max_bot_left]

theorem mixH_at (p : FVec Ideal S8x16x64x64 .f32) (v : FVec Ideal S16x64x8x512 .f32) :
    mixH p v (ix4 n b a d) = ∑ c : Fin 64, p (ix4 n b a c) * v (ix4 b c n d) := by
  pointwise [mixH]

theorem layerH_at (z : FVec Ideal S8x16x64x512 .f32) (W : FVec Ideal S8x512x512 .f32) (w : FVec Ideal S8x512 .f32) :
    layerH z W w (ix4 n b a d) = Spec.lin (fun i j => W (ix3 n i j)) (fun i => w (ix2 n i)) (fun k => Spec.sw (z (ix4 n b a k))) d := by
  pointwise [layerH, overH, Spec.lin, Spec.sw, Ideal.logistic]

theorem normH_at (o : FVec Ideal S8x16x64x512 .f32) (g be : FVec Ideal S8x512 .f32) :
    normH o g be (ix4 n b a d) = Spec.normR (fun i => g (ix2 n i)) (fun i => be (ix2 n i)) (fun k => o (ix4 n b a k)) d := by
  pointwise [normH, overH, devH, meanH, Spec.normR, Spec.dev, Spec.spread, Spec.mean, Spec.n512, Spec.eps]

theorem headsH_at (o : FVec Ideal S8x16x64x512 .f32) : headsH o (ix3 b a d) = Ideal.div (∑ n : Fin 8, o (ix4 n b a d)) Spec.n8 := by
  pointwise [headsH, Spec.n8]

theorem outH_at (W : FVec Ideal S1024x512 .f32) (w : FVec Ideal S1024 .f32) (j : Fin 1024) :
    outH h W w (ix3 b a j) = Spec.lin (fun i k => W (ix2 i k)) (fun i => w (ix1 i)) (fun k => h (ix3 b a k)) j := by
  pointwise [outH, Spec.lin]

/-- Head `n`'s weights, of the arrays that hold all heads'. -/
def headOf (Wq Wk Wv W1 : FVec Ideal S8x512x512 .f32) (b1 : FVec Ideal S8x512 .f32) (W2 : FVec Ideal S8x512x512 .f32)
    (b2 g be : FVec Ideal S8x512 .f32) (n : Fin 8) : Spec.Head where
  Wq i j := Wq (ix3 n i j)
  Wk i j := Wk (ix3 n i j)
  Wv i j := Wv (ix3 n i j)
  Wf1 i j := W1 (ix3 n i j)
  bf1 i := b1 (ix2 n i)
  Wf2 i j := W2 (ix3 n i j)
  bf2 i := b2 (ix2 n i)
  g i := g (ix2 n i)
  be i := be (ix2 n i)

theorem stepH_at (M : FVec Ideal S64x64 .f32) (Wq Wk Wv W1 : FVec Ideal S8x512x512 .f32) (b1 : FVec Ideal S8x512 .f32)
    (W2 : FVec Ideal S8x512x512 .f32) (b2 g be : FVec Ideal S8x512 .f32) :
    stepH M Wq Wk Wv W1 b1 W2 b2 g be h (ix3 b a d)
    = Spec.stepR (headOf Wq Wk Wv W1 b1 W2 b2 g be) (fun a c => M (ix2 a c)) (fun b a d => h (ix3 b a d)) b a d := by
  unfold stepH
  rw [headsH_at]
  simp only [normH_at, layerH_at, mixH_at, softH_at, scoresH_at, projH_at]
  rfl

variable (m : Fin 16)

theorem entryH_at (x : FVec Ideal S16x64x1024 .f32) (p : FVec Ideal S16x32 .f32) (W : FVec Ideal S512x33 .f32) (w : FVec Ideal S512 .f32) :
    entryH x p W w (ix4 b a m d) = Spec.entry (fun i j => W (ix2 i j)) (fun i => w (ix1 i)) (x (ix3 b a ⟨m.val, by omega⟩)) (fun k => p (ix2 m k)) d := by
  pointwise [entryH, Spec.entry]
  rw [add_assoc]
  refine congrArg₂ (· + ·) (Fin.sum_univ_one _) (congrArg (· + _) (Finset.sum_congr rfl fun k _ => ?_))
  exact congrArg (fun i => p (ix2 m k) * W (ix2 d i)) (Fin.ext (Nat.add_comm 1 k.val))

theorem codeH_at (z : FVec Ideal S16x64x16x512 .f32) (W : FVec Ideal S512x512 .f32) (w : FVec Ideal S512 .f32) :
    codeH z W w (ix4 b a m d) = Spec.lin (fun i j => W (ix2 i j)) (fun i => w (ix1 i)) (fun k => Spec.sw (z (ix4 b a m k))) d := by
  pointwise [codeH, Spec.lin, Spec.sw, Ideal.logistic]

theorem hiddenH_at (z : FVec Ideal S16x64x16x512 .f32) (W : FVec Ideal S1024x8192 .f32) (w : FVec Ideal S1024 .f32) (j : Fin 1024) :
    hiddenH z W w (ix3 b a j) = (∑ m : Fin 16, ∑ e : Fin 512, z (ix4 b a m e) * W (ix2 j (Spec.flatCol m e))) + w (ix1 j) := by
  pointwise [hiddenH]
  rw [Fin.sum_univ_tiles 16 512 rfl]
  refine congrArg (· + _) (Finset.sum_congr rfl fun m _ => Finset.sum_congr rfl fun e _ => ?_)
  refine congrArg₂ (· * ·) (congrArg z (congrArg₂ (ix4 b a) (Fin.ext ?_) (Fin.ext ?_))) (congrArg W (congrArg (ix2 j) (Fin.ext ?_)))
  · show (m.val * 512 + e.val) / 512 = m.val
    omega
  · show (m.val * 512 + e.val) % 512 = e.val
    omega
  · show m.val * 512 + e.val = 512 * m.val + e.val
    omega

theorem closeH_at (z : FVec Ideal S16x64x1024 .f32) (W : FVec Ideal S512x1024 .f32) (w : FVec Ideal S512 .f32) :
    closeH z W w (ix3 b a d) = Spec.lin (fun i j => W (ix2 i j)) (fun i => w (ix1 i)) (fun k => Spec.sw (z (ix3 b a k))) d := by
  pointwise [closeH, Spec.lin, Spec.sw, Ideal.logistic]

end Read

end Cert.ReferenceIdeal.Own

end
-- ==== Proof.KI.HostReads.lean ====
/-
  What the host operations between the calls hold: slices, reshapes, and the position codes.
-/
module

public import proofs.«01_k».proof.Proof.KI.Launch
public import proofs.«01_k».proof.Proof.KI.Front
public import proofs.«01_k».proof.Proof.Ref
public import Idealize.ShloMosaic.Lib.Pointwise
public import Idealize.ShloMosaic.Lib.StableHlo.ReadAt

@[expose] public section

set_option maxRecDepth 16384

noncomputable section

namespace Cert.KernelIdeal.Own

open Cert.KernelIdeal Cert.KernelIdeal.Gen
open Idealize.ShloMosaic Idealize.ShloMosaic.TcCoe Idealize.ShloMosaic.Pointwise

variable (m : (ℓ : Loc nD τ sig) → Buf (Elt Ideal) ℓ) (ρ : Dev nD → PrngReg) (c : Dev nD)

section Reads

variable (V : Valuation τ sig (Elt Ideal))

/-- What the first call reads of the arguments. -/
theorem first_reads {X0 : FVec Ideal S16x64x1024 .f32} (e0 : V (Proc.devRef .tc main_arg0) = X0)
    {X2 : FVec Ideal S512x33 .f32} (e2 : V (Proc.devRef .tc main_arg2) = X2) {X3 : FVec Ideal S512 .f32} (e3 : V (Proc.devRef .tc main_arg3) = X3)
    {X5 : FVec Ideal S512 .f32} (e5 : V (Proc.devRef .tc main_arg5) = X5) {X7 : FVec Ideal S1024 .f32} (e7 : V (Proc.devRef .tc main_arg7) = X7)
    {X9 : FVec Ideal S512 .f32} (e9 : V (Proc.devRef .tc main_arg9) = X9)
    {x : FVec Ideal S1024x16 .f32} (hx : StableHlo.after hostOps0_4 V (Proc.devRef .tc main_v15) = x)
    {u : FVec Ideal S1x512 .f32} (hu : StableHlo.after hostOps0_4 V (Proc.devRef .tc main_v18) = u)
    {w : FVec Ideal S512x32 .f32} (hw : StableHlo.after hostOps0_4 V (Proc.devRef .tc main_v19) = w)
    {b1 : FVec Ideal S1x512 .f32} (h1 : StableHlo.after hostOps0_4 V (Proc.devRef .tc main_v20) = b1)
    {b2 : FVec Ideal S1x512 .f32} (h2 : StableHlo.after hostOps0_4 V (Proc.devRef .tc main_v21) = b2)
    {b3 : FVec Ideal S1x1024 .f32} (h3 : StableHlo.after hostOps0_4 V (Proc.devRef .tc main_v22) = b3)
    {b4 : FVec Ideal S1x512 .f32} (h4 : StableHlo.after hostOps0_4 V (Proc.devRef .tc main_v23) = b4) :
    (∀ (b : Fin 16) (a : Fin 64) (q : Fin 16), x (ix2 (row b a) q) = X0 (ix3 b a ⟨q.val, by omega⟩))
      ∧ (∀ j : Fin 512, u (ix2 0 j) = X2 (ix2 j 0)) ∧ (∀ (j : Fin 512) (k : Fin 32), w (ix2 j k) = X2 (ix2 j k.succ))
      ∧ (∀ j : Fin 512, b1 (ix2 0 j) = X3 (ix1 j)) ∧ (∀ j : Fin 512, b2 (ix2 0 j) = X5 (ix1 j))
      ∧ (∀ j : Fin 1024, b3 (ix2 0 j) = X7 (ix1 j)) ∧ (∀ j : Fin 512, b4 (ix2 0 j) = X9 (ix1 j)) := by
  subst e0 e2 e3 e5 e7 e9 hx hu hw h1 h2 h3 h4
  refine ⟨fun b a q => ?_, fun j => ?_, fun j k => ?_, fun j => ?_, fun j => ?_, fun j => ?_, fun j => ?_⟩
  · after_reads_at
    congr 2 <;> exact Fin.ext (by simp only [row]; omega)
  · after_reads_at
  · after_reads_at
    congr 2
    exact Fin.ext (Nat.add_comm 1 k.val)
  all_goals after_reads_at

/-- The biases of the second layers and the normalizations, each head's a row. -/
theorem rows1 {X15 X17 X18 X19 : FVec Ideal S8x512 .f32} (e15 : V (Proc.devRef .tc main_arg15) = X15) (e17 : V (Proc.devRef .tc main_arg17) = X17)
    (e18 : V (Proc.devRef .tc main_arg18) = X18) (e19 : V (Proc.devRef .tc main_arg19) = X19) {Y15 Y17 Y18 Y19 : FVec Ideal S8x1x512 .f32}
    (h15 : StableHlo.after hostOps1 V (Proc.devRef .tc main_v25) = Y15) (h17 : StableHlo.after hostOps1 V (Proc.devRef .tc main_v26) = Y17)
    (h18 : StableHlo.after hostOps1 V (Proc.devRef .tc main_v27) = Y18) (h19 : StableHlo.after hostOps1 V (Proc.devRef .tc main_v28) = Y19)
    (n : Fin 8) (k : Fin 512) : Y15 (ix3 n 0 k) = X15 (ix2 n k) ∧ Y17 (ix3 n 0 k) = X17 (ix2 n k) ∧ Y18 (ix3 n 0 k) = X18 (ix2 n k) ∧ Y19 (ix3 n 0 k) = X19 (ix2 n k) := by
  subst e15 e17 e18 e19 h15 h17 h18 h19
  refine ⟨?_, ?_, ?_, ?_⟩ <;> after_reads_at

theorem rows2 {X15 X17 X18 X19 : FVec Ideal S8x512 .f32} (e15 : V (Proc.devRef .tc main_arg15) = X15) (e17 : V (Proc.devRef .tc main_arg17) = X17)
    (e18 : V (Proc.devRef .tc main_arg18) = X18) (e19 : V (Proc.devRef .tc main_arg19) = X19) {Y15 Y17 Y18 Y19 : FVec Ideal S8x1x512 .f32}
    (h15 : StableHlo.after hostOps2 V (Proc.devRef .tc main_v30) = Y15) (h17 : StableHlo.after hostOps2 V (Proc.devRef .tc main_v31) = Y17)
    (h18 : StableHlo.after hostOps2 V (Proc.devRef .tc main_v32) = Y18) (h19 : StableHlo.after hostOps2 V (Proc.devRef .tc main_v33) = Y19)
    (n : Fin 8) (k : Fin 512) : Y15 (ix3 n 0 k) = X15 (ix2 n k) ∧ Y17 (ix3 n 0 k) = X17 (ix2 n k) ∧ Y18 (ix3 n 0 k) = X18 (ix2 n k) ∧ Y19 (ix3 n 0 k) = X19 (ix2 n k) := by
  subst e15 e17 e18 e19 h15 h17 h18 h19
  refine ⟨?_, ?_, ?_, ?_⟩ <;> after_reads_at

theorem rows3 {X15 X17 X18 X19 : FVec Ideal S8x512 .f32} (e15 : V (Proc.devRef .tc main_arg15) = X15) (e17 : V (Proc.devRef .tc main_arg17) = X17)
    (e18 : V (Proc.devRef .tc main_arg18) = X18) (e19 : V (Proc.devRef .tc main_arg19) = X19) {Y15 Y17 Y18 Y19 : FVec Ideal S8x1x512 .f32}
    (h15 : StableHlo.after hostOps3 V (Proc.devRef .tc main_v36) = Y15) (h17 : StableHlo.after hostOps3 V (Proc.devRef .tc main_v37) = Y17)
    (h18 : StableHlo.after hostOps3 V (Proc.devRef .tc main_v38) = Y18) (h19 : StableHlo.after hostOps3 V (Proc.devRef .tc main_v39) = Y19)
    (n : Fin 8) (k : Fin 512) : Y15 (ix3 n 0 k) = X15 (ix2 n k) ∧ Y17 (ix3 n 0 k) = X17 (ix2 n k) ∧ Y18 (ix3 n 0 k) = X18 (ix2 n k) ∧ Y19 (ix3 n 0 k) = X19 (ix2 n k) := by
  subst e15 e17 e18 e19 h15 h17 h18 h19
  refine ⟨?_, ?_, ?_, ?_⟩ <;> after_reads_at

/-- The output projection's bias. -/
theorem last_bias {X : FVec Ideal S1024 .f32} (e : V (Proc.devRef .tc main_arg21) = X) {Y : FVec Ideal S1x1024 .f32}
    (h : StableHlo.after hostOps3 V (Proc.devRef .tc main_v35) = Y) (j : Fin 1024) : Y (ix2 0 j) = X (ix1 j) := by
  subst e h
  after_reads_at

/-- The output, as rows and as a batch of rows. -/
theorem last_rows {X : FVec Ideal S1024x1024 .f32} (e : V (Proc.devRef .tc main_v40_1) = X) {Y : FVec Ideal S16x64x1024 .f32}
    (h : StableHlo.after hostOps4 V (Proc.devRef .tc main_v41) = Y) (b : Fin 16) (a : Fin 64) (j : Fin 1024) : Y (ix3 b a j) = X (ix2 (row b a) j) := by
  subst e h
  after_reads_at
  congr 2
  exact Fin.ext (by simp only [row]; omega)

theorem floor_eq : StableHlo.after hostOps0_1 V (Proc.devRef .tc main_v1)
    = Cert.ReferenceIdeal.Own.floorOf (V (Proc.devRef .tc main_v0)) (V (Proc.devRef .tc main_c)) := by
  after_reads_simp
  rfl

theorem mod_eq : StableHlo.after hostOps0_3 V (Proc.devRef .tc main_v2)
    = Cert.ReferenceIdeal.Own.modOf (V (Proc.devRef .tc main_v0)) (V (Proc.devRef .tc main_c_0)) := by
  after_reads_simp
  generalize V (Proc.devRef .tc main_v0) = i
  generalize V (Proc.devRef .tc main_c_0) = n
  simp -implicitDefEqProofs only [StableHlo.TRef.toBuf, StableHlo.TRef.ofBuf, cast_cast, cast_eq]
  rfl

theorem column_eq : StableHlo.upto hostOps0_4 V 2 (Proc.devRef .tc main_v3)
    = broadcastInDim S16x1 ![0] bcast_S16_S16x1_0 (V (Proc.devRef .tc main_v1) : IVec S16 32) := by
  after_reads_simp

theorem row_eq : StableHlo.upto hostOps0_4 V 2 (Proc.devRef .tc main_v4)
    = broadcastInDim S16x1 ![0] bcast_S16_S16x1_0 (V (Proc.devRef .tc main_v2) : IVec S16 32) := by
  after_reads_simp

theorem angles_eq : StableHlo.after hostOps0_4 V (Proc.devRef .tc main_v10)
    = Cert.ReferenceIdeal.Own.anglesFrom (F := Ideal) (V (Proc.devRef .tc main_v1)) (V (Proc.devRef .tc main_v2)) (V (Proc.devRef .tc main_arg1)) := by
  after_reads_simp
  rw [column_eq, row_eq]
  rfl

theorem sines_eq {X Y : FVec Ideal S16x16 .f32} (e : StableHlo.after hostOps0_4 V (Proc.devRef .tc main_v10) = X)
    (h : StableHlo.upto hostOps0_4 V 11 (Proc.devRef .tc main_v11) = Y) : Y = Host.sin X := by
  subst e h
  after_reads_simp

theorem cosines_eq {X Y : FVec Ideal S16x16 .f32} (e : StableHlo.after hostOps0_4 V (Proc.devRef .tc main_v10) = X)
    (h : StableHlo.upto hostOps0_4 V 11 (Proc.devRef .tc main_v12) = Y) : Y = Host.cos X := by
  subst e h
  after_reads_simp

theorem places_eq : StableHlo.after hostOps0_4 V (Proc.devRef .tc main_v13)
    = Cert.ReferenceIdeal.Own.placesH (F := Ideal) (Cert.ReferenceIdeal.Own.anglesFrom (F := Ideal) (V (Proc.devRef .tc main_v1)) (V (Proc.devRef .tc main_v2)) (V (Proc.devRef .tc main_arg1))) := by
  generalize hs : StableHlo.upto hostOps0_4 V 11 (Proc.devRef .tc main_v11) = s
  generalize hc : StableHlo.upto hostOps0_4 V 11 (Proc.devRef .tc main_v12) = t
  after_reads_simp
  rw [hs, hc, sines_eq V (angles_eq V) hs, cosines_eq V (angles_eq V) hc]
  rfl

end Reads

end Cert.KernelIdeal.Own

end
-- ==== Proof.Exact.lean ====
/-
  Where the features, the query and key weights and the norm's weights are finite, the kernel's step is the reference's,
  and its result is finite again, whatever the other weights and the mask.
-/
module

public import Idealize.ShloMosaic.PureOps.Ideal
public import proofs.«01_k».proof.Proof.Spec

@[expose] public section

noncomputable section

namespace Cert.Spec

open Idealize.ShloMosaic

/-- A finite number. -/
def Fine (x : EReal) : Prop := ∃ r : ℝ, x = r

theorem fine_coe (r : ℝ) : Fine r := ⟨r, rfl⟩
theorem Fine.add {x y : EReal} : Fine x → Fine y → Fine (x + y) := by
  rintro ⟨a, rfl⟩ ⟨b, rfl⟩; exact ⟨a + b, (EReal.coe_add a b).symm⟩
theorem Fine.mul {x y : EReal} : Fine x → Fine y → Fine (x * y) := by
  rintro ⟨a, rfl⟩ ⟨b, rfl⟩; exact ⟨a * b, (EReal.coe_mul a b).symm⟩
theorem Fine.sub {x y : EReal} : Fine x → Fine y → Fine (x - y) := by
  rintro ⟨a, rfl⟩ ⟨b, rfl⟩; exact ⟨a - b, (EReal.coe_sub a b).symm⟩
theorem Fine.neg {x : EReal} : Fine x → Fine (-x) := by
  rintro ⟨a, rfl⟩; exact ⟨-a, (EReal.coe_neg a).symm⟩

theorem coe_sum {ι : Type} (s : Finset ι) (f : ι → ℝ) : ((∑ i ∈ s, f i : ℝ) : EReal) = ∑ i ∈ s, (f i : EReal) := by
  induction s using Finset.cons_induction with
  | empty => rfl
  | cons a s ha ih => rw [Finset.sum_cons, Finset.sum_cons, EReal.coe_add, ih]

theorem Fine.sum {ι : Type} [Fintype ι] {f : ι → EReal} (h : ∀ i, Fine (f i)) : Fine (∑ i, f i) := by
  choose g hg using h
  exact ⟨∑ i, g i, by rw [coe_sum]; exact Finset.sum_congr rfl fun i _ => hg i⟩

theorem n512_eq : n512 = ((512 : ℝ) : EReal) := by
  unfold n512; simp [Ideal.ofBits, Ideal.ieee, -EReal.coe_mul]; norm_num
theorem n8_eq : n8 = ((8 : ℝ) : EReal) := by
  unfold n8; simp [Ideal.ofBits, Ideal.ieee, -EReal.coe_mul]; norm_num
theorem eighth_eq : eighth = ((1 / 8 : ℝ) : EReal) := by
  unfold eighth; simp [Ideal.ofBits, Ideal.ieee, -EReal.coe_mul]; norm_num
theorem eps_pos : ∃ r : ℝ, 0 < r ∧ eps = r := by
  unfold eps; simp [Ideal.ofBits, Ideal.ieee, -EReal.coe_mul]
theorem sqrt_n512 : Ideal.sqrt n512 = ((Real.sqrt 512 : ℝ) : EReal) := by
  rw [n512_eq, Ideal.sqrt_coe, if_neg (by norm_num)]

theorem Fine.sw {z : EReal} : Fine z → Fine (sw z) := by
  rintro ⟨r, rfl⟩
  refine (fine_coe r).mul ?_
  have h : (1 : EReal) + Ideal.exp (-(r : EReal)) = ((1 + Real.exp (-r) : ℝ) : EReal) := by
    rw [← EReal.coe_neg, Ideal.exp_coe, EReal.coe_add, EReal.coe_one]
  rw [Ideal.logistic, h, Ideal.div_coe (by positivity), one_mul]
  exact fine_coe _

theorem Fine.lin {k n : Nat} {W : Fin n → Fin k → EReal} {b : Fin n → EReal} {x : Fin k → EReal}
    (hW : ∀ j e, Fine (W j e)) (hb : ∀ j, Fine (b j)) (hx : ∀ e, Fine (x e)) (j : Fin n) : Fine (lin W b x j) :=
  (Fine.sum fun e => (hx e).mul (hW j e)).add (hb j)

/-- A head's query and key weights and its norm's weights are finite. -/
structure Head.Fine (w : Head) : Prop where
  Wq : ∀ i j, Spec.Fine (w.Wq i j)
  Wk : ∀ i j, Spec.Fine (w.Wk i j)
  g : ∀ i, Spec.Fine (w.g i)
  be : ∀ i, Spec.Fine (w.be i)

theorem square_nonneg (x : EReal) : 0 ≤ x * x := by
  induction x with
  | bot => rw [EReal.bot_mul_bot]; exact le_top
  | top => rw [EReal.top_mul_top]; exact le_top
  | coe r => rw [← EReal.coe_mul]; exact EReal.coe_nonneg.2 (mul_self_nonneg r)

/-- A number whose square is below infinity is finite. -/
theorem fine_of_square {x : EReal} (h : x * x ≠ ⊤) : Fine x := by
  induction x with
  | bot => exact absurd EReal.bot_mul_bot h
  | top => exact absurd EReal.top_mul_top h
  | coe r => exact fine_coe r

/-- Either the variance is infinite, or every deviation is finite and the variance plus the constant is a positive number. -/
theorem spread_cases (o : Fin 512 → EReal) : spread o = ⊤ ∨ (∀ d, Fine (dev o d)) ∧ ∃ r : ℝ, 0 < r ∧ spread o = r := by
  obtain ⟨e, he, hee⟩ := eps_pos
  have h0 : ∀ k ∈ Finset.univ, 0 ≤ dev o k * dev o k := fun k _ => square_nonneg _
  by_cases ht : (∑ k, dev o k * dev o k) = ⊤
  · left
    rw [spread, ht, n512_eq, Ideal.div_coe (by norm_num), hee, EReal.top_mul_coe_of_pos (by norm_num), EReal.top_add_coe]
  · right
    have hd : ∀ d, Fine (dev o d) := fun d => fine_of_square fun h =>
      ht (top_le_iff.1 (h ▸ Finset.single_le_sum h0 (Finset.mem_univ d)))
    refine ⟨hd, ?_⟩
    choose f hf using hd
    have hs : (∑ k, dev o k * dev o k) = ((∑ k, f k * f k : ℝ) : EReal) := by
      rw [coe_sum]; exact Finset.sum_congr rfl fun k _ => by rw [hf k, EReal.coe_mul]
    have hp : 0 ≤ ∑ k, f k * f k := Finset.sum_nonneg fun k _ => mul_self_nonneg (f k)
    refine ⟨(∑ k, f k * f k) * (1 / 512) + e, by positivity, ?_⟩
    rw [spread, hs, n512_eq, Ideal.div_coe (by norm_num), hee, ← EReal.coe_mul, ← EReal.coe_add]

/-- Divided by infinity, a deviation is zero. -/
theorem div_top (x : EReal) : Ideal.div x ⊤ = 0 := by
  rw [Ideal.div, if_neg EReal.top_ne_zero, EReal.inv_top, mul_zero]

/-- The norm's result is finite whatever it is taken of. -/
theorem norm_fine {g be : Fin 512 → EReal} (o : Fin 512 → EReal) (hg : ∀ d, Fine (g d)) (hb : ∀ d, Fine (be d))
    (d : Fin 512) : Fine (normR g be o d) := by
  rcases spread_cases o with e | ⟨hd, r, hr, e⟩
  · rw [normR, e, show Ideal.sqrt ⊤ = ⊤ from rfl, div_top, zero_mul, zero_add]
    exact hb d
  · rw [normR, e, Ideal.sqrt_coe, if_neg hr.not_gt, Ideal.div_coe (Real.sqrt_pos.mpr hr).ne']
    exact (((hd d).mul (fine_coe _)).mul (hg d)).add (hb d)

theorem norm_eq (g be o : Fin 512 → EReal) (d : Fin 512) : normK g be o d = normR g be o d * eighth := by
  rcases spread_cases o with e | ⟨_, r, hr, e⟩
  · rw [normK, normR, e, show Ideal.sqrt ⊤ = ⊤ from rfl, show Ideal.rsqrt ⊤ = 0 from rfl, div_top, mul_zero]
  · rw [normK, normR, e, Ideal.sqrt_coe, Ideal.rsqrt_coe, if_neg hr.not_gt, if_neg hr.not_gt, if_neg hr.ne',
      Ideal.div_coe (Real.sqrt_pos.mpr hr).ne', one_div]

/-- Contracting the two weight matrices first changes no score, where the features and the two are finite. -/
theorem score_eq {w : Head} (hw : w.Fine) {hb : Fin 64 → Fin 512 → EReal} (hh : ∀ c k, Fine (hb c k))
    {q : Fin 512 → EReal} (hq : ∀ k, Fine (q k)) (mk : Fin 64 → EReal) (c : Fin 64) :
    scoreK (joint w.Wq w.Wk) (((Real.sqrt 512)⁻¹ : ℝ) : EReal) mk hb q c = scoreR w.Wq w.Wk mk hb q c := by
  choose A hA using hw.Wq
  choose B hB using hw.Wk
  choose H hH using hh
  choose Q hQ using hq
  have h1 : (∑ e, (∑ k, q k * joint w.Wq w.Wk k e) * hb c e)
      = ((∑ e, (∑ k, Q k * ∑ f, A f k * B f e) * H c e : ℝ) : EReal) := by
    simp only [joint, hA, hB, hH, hQ, coe_sum, EReal.coe_mul]
  have h2 : (∑ f, (∑ k, q k * w.Wq f k) * (∑ k, hb c k * w.Wk f k))
      = ((∑ f, (∑ k, Q k * A f k) * (∑ k, H c k * B f k) : ℝ) : EReal) := by
    simp only [hA, hB, hH, hQ, coe_sum, EReal.coe_mul]
  have h3 : (∑ e, (∑ k, Q k * ∑ f, A f k * B f e) * H c e) = ∑ f, (∑ k, Q k * A f k) * (∑ k, H c k * B f k) := by
    have l : ∀ e, (∑ k, Q k * ∑ f, A f k * B f e) * H c e = ∑ f, ∑ k, Q k * A f k * (H c e * B f e) := by
      intro e
      rw [Finset.sum_comm, Finset.sum_mul]
      refine Finset.sum_congr rfl fun k _ => ?_
      rw [Finset.mul_sum, Finset.sum_mul]
      exact Finset.sum_congr rfl fun f _ => by ring
    simp only [l, Finset.sum_mul_sum]
    rw [Finset.sum_comm]
    exact Finset.sum_congr rfl fun f _ => Finset.sum_comm
  rw [scoreK, scoreR, h1, h2, h3, sqrt_n512, Ideal.div_coe (Real.sqrt_pos.mpr (by norm_num)).ne', one_div]

theorem headR_fine {w : Head} (hw : w.Fine) (hb : Fin 64 → Fin 512 → EReal) (q : Fin 512 → EReal) (mk : Fin 64 → EReal)
    (d : Fin 512) : Fine (headR w mk hb q d) :=
  norm_fine _ hw.g hw.be d

/-- The kernel's head is an eighth of the reference's. -/
theorem head_eq {w : Head} (hw : w.Fine) {hb : Fin 64 → Fin 512 → EReal} (hh : ∀ c k, Fine (hb c k))
    {q : Fin 512 → EReal} (hq : ∀ k, Fine (q k)) (mk : Fin 64 → EReal) (d : Fin 512) :
    headK w (((Real.sqrt 512)⁻¹ : ℝ) : EReal) mk hb q d = headR w mk hb q d * eighth := by
  have e := funext (score_eq hw hh hq mk)
  rw [headK, e, headR]
  exact norm_eq _ _ _ d

theorem stepR_fine {w : Fin 8 → Head} (hw : ∀ n, (w n).Fine) (mk : Fin 64 → Fin 64 → EReal)
    (h : Fin 16 → Fin 64 → Fin 512 → EReal) (b : Fin 16) (a : Fin 64) (d : Fin 512) : Fine (stepR w mk h b a d) := by
  rw [stepR, n8_eq, Ideal.div_coe (by norm_num)]
  exact (Fine.sum fun n => headR_fine (hw n) (h b) (h b a) (mk a) d).mul (fine_coe _)

/-- The kernel's step is the reference's. -/
theorem step_eq {w : Fin 8 → Head} (hw : ∀ n, (w n).Fine) (mk : Fin 64 → Fin 64 → EReal)
    {h : Fin 16 → Fin 64 → Fin 512 → EReal} (hh : ∀ b a d, Fine (h b a d)) :
    stepK w (((Real.sqrt 512)⁻¹ : ℝ) : EReal) mk h = stepR w mk h := by
  funext b a d
  choose f hf using fun n => headR_fine (hw n) (h b) (h b a) (mk a) d
  rw [stepK, stepR, n8_eq, Ideal.div_coe (by norm_num)]
  have l : (∑ n, headK (w n) (((Real.sqrt 512)⁻¹ : ℝ) : EReal) (mk a) (h b) (h b a) d) = ((∑ n, f n * (1 / 8) : ℝ) : EReal) := by
    rw [coe_sum]
    exact Finset.sum_congr rfl fun n _ => by rw [head_eq (hw n) (hh b) (hh b a) (mk a) d, hf n, eighth_eq, EReal.coe_mul]
  have r : (∑ n, headR (w n) (mk a) (h b) (h b a) d) = ((∑ n, f n : ℝ) : EReal) := by
    rw [coe_sum]; exact Finset.sum_congr rfl fun n _ => hf n
  rw [l, r, ← EReal.coe_mul, Finset.sum_mul]

/-- Every weight of the encoder is finite. -/
structure Enc.Fine (w : Enc) : Prop where
  We1 : ∀ i j, Spec.Fine (w.We1 i j)
  be1 : ∀ i, Spec.Fine (w.be1 i)
  We2 : ∀ i j, Spec.Fine (w.We2 i j)
  be2 : ∀ i, Spec.Fine (w.be2 i)
  Wc1 : ∀ i j, Spec.Fine (w.Wc1 i j)
  bc1 : ∀ i, Spec.Fine (w.bc1 i)
  Wc2 : ∀ i j, Spec.Fine (w.Wc2 i j)
  bc2 : ∀ i, Spec.Fine (w.bc2 i)

theorem feat_fine {w : Enc} (hw : w.Fine) {pos : Fin 16 → Fin 32 → EReal} (hp : ∀ m k, Fine (pos m k))
    {x : Fin 16 → EReal} (hx : ∀ m, Fine (x m)) (d : Fin 512) : Fine (feat w pos x d) :=
  Fine.lin hw.Wc2 hw.bc2 (fun j => Fine.sw ((Fine.sum fun m => Fine.sum fun e =>
    (Fine.lin hw.We2 hw.be2 (fun k => Fine.sw (((hx m).mul (hw.We1 k 0)).add
      ((Fine.sum fun i => (hp m i).mul (hw.We1 k i.succ)).add (hw.be1 k)))) e).mul (hw.Wc1 j _)).add (hw.bc1 j))) d

end Cert.Spec

end
-- ==== Proof.Ins.lean ====
/-
  The arguments of both programs together, and the two values computed of them. Where the features stay finite the two are equal.
-/
module

public import proofs.«01_k».proof.Proof.Exact
public import proofs.«01_k».proof.Proof.Ref

@[expose] public section

noncomputable section

namespace Cert

open Idealize.ShloMosaic Idealize.ShloMosaic.Pointwise Cert.ReferenceIdeal Cert.ReferenceIdeal.Gen Cert.ReferenceIdeal.Own

/-- The arguments, in order. -/
@[ext] structure Ins where
  x : FVec Ideal S16x64x1024 .f32
  freq : FVec Ideal S16x2 .f32
  We1 : FVec Ideal S512x33 .f32
  be1 : FVec Ideal S512 .f32
  We2 : FVec Ideal S512x512 .f32
  be2 : FVec Ideal S512 .f32
  Wc1 : FVec Ideal S1024x8192 .f32
  bc1 : FVec Ideal S1024 .f32
  Wc2 : FVec Ideal S512x1024 .f32
  bc2 : FVec Ideal S512 .f32
  mask : FVec Ideal S64x64 .f32
  Wq : FVec Ideal S8x512x512 .f32
  Wk : FVec Ideal S8x512x512 .f32
  Wv : FVec Ideal S8x512x512 .f32
  Wf1 : FVec Ideal S8x512x512 .f32
  bf1 : FVec Ideal S8x512 .f32
  Wf2 : FVec Ideal S8x512x512 .f32
  bf2 : FVec Ideal S8x512 .f32
  g : FVec Ideal S8x512 .f32
  be : FVec Ideal S8x512 .f32
  Wo : FVec Ideal S1024x512 .f32
  bo : FVec Ideal S1024 .f32

namespace Ins

variable (I : Ins)

/-- The position codes. -/
def places : FVec Ideal S16x32 .f32 :=
  placesH (anglesFrom (floorOf (iotaInDim S16 32 0) (constantI S_ 32 32#32)) (modOf (iotaInDim S16 32 0) (constantI S_ 32 32#32)) I.freq)

def pos (m : Fin 16) (k : Fin 32) : EReal := I.places (ix2 m k)

/-- The encoder's weights. -/
def enc : Spec.Enc where
  We1 i j := I.We1 (ix2 i j)
  be1 i := I.be1 (ix1 i)
  We2 i j := I.We2 (ix2 i j)
  be2 i := I.be2 (ix1 i)
  Wc1 i j := I.Wc1 (ix2 i j)
  bc1 i := I.bc1 (ix1 i)
  Wc2 i j := I.Wc2 (ix2 i j)
  bc2 i := I.bc2 (ix1 i)

/-- The heads' weights. -/
def heads : Fin 8 → Spec.Head := headOf I.Wq I.Wk I.Wv I.Wf1 I.bf1 I.Wf2 I.bf2 I.g I.be

def masked (a c : Fin 64) : EReal := I.mask (ix2 a c)

/-- The features before the first step. -/
def start (b : Fin 16) (a : Fin 64) : Fin 512 → EReal := Spec.feat I.enc I.pos fun q => I.x (ix3 b a ⟨q.val, by omega⟩)

/-- The output projection. -/
def out (h : Fin 16 → Fin 64 → Fin 512 → EReal) (b : Fin 16) (a : Fin 64) : Fin 1024 → EReal :=
  Spec.lin (fun i k => I.Wo (ix2 i k)) (fun i => I.bo (ix1 i)) (h b a)

/-- The kernel's step. -/
def stepK : (Fin 16 → Fin 64 → Fin 512 → EReal) → Fin 16 → Fin 64 → Fin 512 → EReal :=
  Spec.stepK I.heads (((Real.sqrt 512)⁻¹ : ℝ) : EReal) I.masked

/-- The reference's step. -/
def stepR : (Fin 16 → Fin 64 → Fin 512 → EReal) → Fin 16 → Fin 64 → Fin 512 → EReal := Spec.stepR I.heads I.masked

/-- What the kernel computes. -/
def valueK : Fin 16 → Fin 64 → Fin 1024 → EReal := I.out (I.stepK (I.stepK (I.stepK I.start)))

/-- What the reference computes. -/
def valueR : Fin 16 → Fin 64 → Fin 1024 → EReal := I.out (I.stepR (I.stepR (I.stepR I.start)))

/-- The arguments that the features and the scores without their mask are computed of are finite. -/
structure Fine : Prop where
  x : ∀ (b : Fin 16) (a : Fin 64) (q : Fin 16), Spec.Fine (I.x (ix3 b a ⟨q.val, by omega⟩))
  freq : ∀ i, Spec.Fine (I.freq i)
  We1 : ∀ i, Spec.Fine (I.We1 i)
  be1 : ∀ i, Spec.Fine (I.be1 i)
  We2 : ∀ i, Spec.Fine (I.We2 i)
  be2 : ∀ i, Spec.Fine (I.be2 i)
  Wc1 : ∀ i, Spec.Fine (I.Wc1 i)
  bc1 : ∀ i, Spec.Fine (I.bc1 i)
  Wc2 : ∀ i, Spec.Fine (I.Wc2 i)
  bc2 : ∀ i, Spec.Fine (I.bc2 i)
  Wq : ∀ i, Spec.Fine (I.Wq i)
  Wk : ∀ i, Spec.Fine (I.Wk i)
  g : ∀ i, Spec.Fine (I.g i)
  be : ∀ i, Spec.Fine (I.be i)

variable {I}

/-- The factor of the angles is a real number. -/
theorem turn_fine : Spec.Fine (Ideal.ofBits .f32 0x40C90FDB#32) := by
  simp [Spec.Fine, Ideal.ofBits, Ideal.ieee, -EReal.coe_mul]

theorem angles_fine (q r : IVec S16 32) (f : FVec Ideal S16x2 .f32) (hf : ∀ i, Spec.Fine (f i)) (m j : Fin 16) :
    Spec.Fine (anglesFrom q r f (ix2 m j)) := by
  pointwise [anglesFrom]
  exact turn_fine.mul ((Spec.Fine.sum fun _ => (Spec.fine_coe _).mul (hf _)).add (Spec.Fine.sum fun _ => (Spec.fine_coe _).mul (hf _)))

theorem places_fine (t : FVec Ideal S16x16 .f32) (ht : ∀ m j, Spec.Fine (t (ix2 m j))) (m : Fin 16) (k : Fin 32) :
    Spec.Fine (placesH t (ix2 m k)) := by
  pointwise [placesH]
  split
  · obtain ⟨r, hr⟩ := ht m ⟨k.val, by assumption⟩
    exact ⟨_, (congrArg Ideal.sin hr).trans (Ideal.sin_coe r)⟩
  · obtain ⟨r, hr⟩ := ht m ⟨k.val - 16, by omega⟩
    exact ⟨_, (congrArg Ideal.cos hr).trans (Ideal.cos_coe r)⟩

theorem pos_fine (h : I.Fine) (m : Fin 16) (k : Fin 32) : Spec.Fine (I.pos m k) :=
  places_fine _ (angles_fine _ _ _ h.freq) m k

theorem enc_fine (h : I.Fine) : I.enc.Fine where
  We1 _ _ := h.We1 _
  be1 _ := h.be1 _
  We2 _ _ := h.We2 _
  be2 _ := h.be2 _
  Wc1 _ _ := h.Wc1 _
  bc1 _ := h.bc1 _
  Wc2 _ _ := h.Wc2 _
  bc2 _ := h.bc2 _

theorem heads_fine (h : I.Fine) (n : Fin 8) : (I.heads n).Fine where
  Wq _ _ := h.Wq _
  Wk _ _ := h.Wk _
  g _ := h.g _
  be _ := h.be _

theorem start_fine (h : I.Fine) (b : Fin 16) (a : Fin 64) (d : Fin 512) : Spec.Fine (I.start b a d) :=
  Spec.feat_fine (enc_fine h) (pos_fine h) (fun q => h.x b a q) d

theorem step_fine (h : I.Fine) (f : Fin 16 → Fin 64 → Fin 512 → EReal) (b : Fin 16) (a : Fin 64) (d : Fin 512) :
    Spec.Fine (I.stepR f b a d) := Spec.stepR_fine (heads_fine h) I.masked f b a d

theorem step_eq (h : I.Fine) {f : Fin 16 → Fin 64 → Fin 512 → EReal} (hf : ∀ b a d, Spec.Fine (f b a d)) : I.stepK f = I.stepR f :=
  Spec.step_eq (heads_fine h) I.masked hf

/-- On such arguments the kernel computes what the reference computes. -/
theorem value_eq (h : I.Fine) : I.valueK = I.valueR := by
  unfold valueK valueR
  rw [step_eq h (start_fine h), step_eq h (step_fine h _), step_eq h (step_fine h _)]

end Ins

end Cert

end
-- ==== Proof.KI.Value.lean ====
/-
  The kernel's value, of its arguments: the calls' results one after the other.
-/
module

public import proofs.«01_k».proof.Proof.KI.Calls
public import proofs.«01_k».proof.Proof.KI.HostReads
public import proofs.«01_k».proof.Proof.Ins

@[expose] public section

set_option maxRecDepth 16384

noncomputable section

namespace Cert.KernelIdeal.Own

open Cert.KernelIdeal Cert.KernelIdeal.Gen
open Idealize.ShloMosaic Idealize.ShloMosaic.TcCoe Idealize.ShloMosaic.Pointwise Idealize.SL.Sem

variable (m : (ℓ : Loc nD τ sig) → Buf (Elt Ideal) ℓ) (ρ : Dev nD → PrngReg) (c : Dev nD)

/-- The arguments held at launch. -/
def insOf : Cert.Ins where
  x := m ((c : Thread nD τ).loc main_arg0)
  freq := m ((c : Thread nD τ).loc main_arg1)
  We1 := m ((c : Thread nD τ).loc main_arg2)
  be1 := m ((c : Thread nD τ).loc main_arg3)
  We2 := m ((c : Thread nD τ).loc main_arg4)
  be2 := m ((c : Thread nD τ).loc main_arg5)
  Wc1 := m ((c : Thread nD τ).loc main_arg6)
  bc1 := m ((c : Thread nD τ).loc main_arg7)
  Wc2 := m ((c : Thread nD τ).loc main_arg8)
  bc2 := m ((c : Thread nD τ).loc main_arg9)
  mask := m ((c : Thread nD τ).loc main_arg10)
  Wq := m ((c : Thread nD τ).loc main_arg11)
  Wk := m ((c : Thread nD τ).loc main_arg12)
  Wv := m ((c : Thread nD τ).loc main_arg13)
  Wf1 := m ((c : Thread nD τ).loc main_arg14)
  bf1 := m ((c : Thread nD τ).loc main_arg15)
  Wf2 := m ((c : Thread nD τ).loc main_arg16)
  bf2 := m ((c : Thread nD τ).loc main_arg17)
  g := m ((c : Thread nD τ).loc main_arg18)
  be := m ((c : Thread nD τ).loc main_arg19)
  Wo := m ((c : Thread nD τ).loc main_arg20)
  bo := m ((c : Thread nD τ).loc main_arg21)

/-! ## The position codes -/

theorem iota_held : W1 m ρ c (Proc.devRef .tc main_v0) = (iotaInDim S16 32 0 : IVec S16 32) := by
  unfold W1; after_reads_simp

theorem divisor_held : W1 m ρ c (Proc.devRef .tc main_c) = (constantI S_ 32 32#32 : IVec S_ 32) := by
  unfold W1; after_reads_simp

theorem divisor_held' : W3 m ρ c (Proc.devRef .tc main_c_0) = (constantI S_ 32 32#32 : IVec S_ 32) := by
  unfold W3; after_reads_simp

theorem iota_held' : W3 m ρ c (Proc.devRef .tc main_v0) = (iotaInDim S16 32 0 : IVec S16 32) :=
  (StableHlo.after_of_writes_sub hostOps0_2 _ hostOps0_2_writes (by decide)).trans
    ((StableHlo.after_of_writes_sub hostOps0_1 _ hostOps0_1_writes (by decide)).trans (iota_held m ρ c))

theorem columns_held : W4 m ρ c (Proc.devRef .tc main_v1)
    = Cert.ReferenceIdeal.Own.floorOf (iotaInDim S16 32 0) (constantI S_ 32 32#32) :=
  (StableHlo.after_of_writes_sub hostOps0_3 _ hostOps0_3_writes (by decide)).trans
    ((StableHlo.after_of_writes_sub hostOps0_2 _ hostOps0_2_writes (by decide)).trans
      ((floor_eq (W1 m ρ c)).trans (congrArg₂ Cert.ReferenceIdeal.Own.floorOf (iota_held m ρ c) (divisor_held m ρ c))))

theorem rows_held : W4 m ρ c (Proc.devRef .tc main_v2)
    = Cert.ReferenceIdeal.Own.modOf (iotaInDim S16 32 0) (constantI S_ 32 32#32) :=
  (mod_eq (W3 m ρ c)).trans (congrArg₂ Cert.ReferenceIdeal.Own.modOf (iota_held' m ρ c) (divisor_held' m ρ c))

theorem places_held : W5 m ρ c (Proc.devRef .tc main_v13) = (insOf m c).places := by
  refine (places_eq (W4 m ρ c)).trans (congrArg (Cert.ReferenceIdeal.Own.placesH (F := Ideal)) ?_)
  exact (congrArg₂ (fun q r => Cert.ReferenceIdeal.Own.anglesFrom (F := Ideal) q r (W4 m ρ c (Proc.devRef .tc main_arg1))) (columns_held m ρ c) (rows_held m ρ c)).trans
    (congrArg (Cert.ReferenceIdeal.Own.anglesFrom (F := Ideal) _ _) (kept4 m ρ c main_arg1 (by decide)))

/-! ## The calls -/

theorem start_held {X : FVec Ideal S1024x512 .f32} (h : W6 m ρ c (Proc.devRef .tc main_v24) = X) (b : Fin 16) (a : Fin 64) (d : Fin 512) :
    X (ix2 (row b a) d) = (insOf m c).start b a d := by
  have e : X = feats (rd (W5 m ρ)) c t0_0 := h.symm.trans ((arr0 m ρ c 11).trans (out0 (rd (W5 m ρ)) c))
  obtain ⟨f0, f1, f2, f3, f4, f5, f6⟩ := first_reads (W4 m ρ c) (kept4 m ρ c main_arg0 (by decide)) (kept4 m ρ c main_arg2 (by decide))
    (kept4 m ρ c main_arg3 (by decide)) (kept4 m ρ c main_arg5 (by decide)) (kept4 m ρ c main_arg7 (by decide)) (kept4 m ρ c main_arg9 (by decide))
    rfl rfl rfl rfl rfl rfl rfl
  rw [e]
  refine (call0_at (rd (W5 m ρ)) c rfl (places_held m ρ c) rfl rfl rfl (kept5 m ρ c main_arg4 (by decide)) rfl (kept5 m ρ c main_arg6 (by decide)) rfl
    (kept5 m ρ c main_arg8 (by decide)) rfl (insOf m c).enc (insOf m c).pos (fun _ _ => rfl) f1 f2 f3 (fun _ _ => rfl) f4 (fun _ _ => rfl) f5
    (fun _ _ => rfl) f6 (row b a) d).trans ?_
  exact congrArg (fun x => Spec.feat (insOf m c).enc (insOf m c).pos x d) (funext fun q => f0 b a q)

/-- The features after one, two and three steps. -/
def feats1 := (insOf m c).stepK (insOf m c).start
def feats2 := (insOf m c).stepK (feats1 m c)
def feats3 := (insOf m c).stepK (feats2 m c)

/-- The joint matrices. -/
def joints : FVec Ideal S8x512x512 .f32 := fun i => Spec.joint ((insOf m c).heads (i 0)).Wq ((insOf m c).heads (i 0)).Wk (i 1) (i 2)

theorem feed1 {X : FVec Ideal S1024x512 .f32} (h : W7 m ρ c (Proc.devRef .tc main_v24) = X)
    {Y15 Y17 Y18 Y19 : FVec Ideal S8x1x512 .f32}
    (h15 : W7 m ρ c (Proc.devRef .tc main_v25) = Y15) (h17 : W7 m ρ c (Proc.devRef .tc main_v26) = Y17)
    (h18 : W7 m ρ c (Proc.devRef .tc main_v27) = Y18) (h19 : W7 m ρ c (Proc.devRef .tc main_v28) = Y19) :
    Feed X (insOf m c).mask (insOf m c).Wv (insOf m c).Wf1 Y15 (insOf m c).Wf2 Y17 Y18 Y19 (insOf m c).heads (insOf m c).masked (insOf m c).start := by
  have r := rows1 (W6 m ρ c) (kept6 m ρ c main_arg15 (by decide)) (kept6 m ρ c main_arg17 (by decide)) (kept6 m ρ c main_arg18 (by decide))
    (kept6 m ρ c main_arg19 (by decide)) h15 h17 h18 h19
  exact ⟨start_held m ρ c ((StableHlo.after_of_writes_sub hostOps1 _ hostOps1_writes (by decide)).symm.trans h), fun _ _ => rfl, fun _ _ _ => rfl,
    fun _ _ _ => rfl, fun n j => (r n j).1, fun _ _ _ => rfl, fun n j => (r n j).2.1, fun n j => (r n j).2.2.1, fun n j => (r n j).2.2.2⟩

theorem first_held {X : FVec Ideal S1024x512 .f32} (h : W8 m ρ c (Proc.devRef .tc main_v29_0) = X) (b : Fin 16) (a : Fin 64) (d : Fin 512) :
    X (ix2 (row b a) d) = feats1 m c b a d := by
  have e : X = acc1 (rd (W7 m ρ)) c 7 (by decide) := h.symm.trans ((arr1 m ρ c 11).trans (out1 (rd (W7 m ρ)) c))
  rw [e]
  exact call1_at (rd (W7 m ρ)) c (insOf m c).heads (insOf m c).masked (insOf m c).start rfl (kept7 m ρ c main_arg10 (by decide))
    (kept7 m ρ c main_arg11 (by decide)) (kept7 m ρ c main_arg12 (by decide)) (kept7 m ρ c main_arg13 (by decide)) (kept7 m ρ c main_arg14 (by decide))
    rfl (kept7 m ρ c main_arg16 (by decide)) rfl rfl rfl (feed1 m ρ c rfl rfl rfl rfl rfl) (fun _ _ _ => rfl) (fun _ _ _ => rfl) b a d

theorem joints_held : W8 m ρ c (Proc.devRef .tc main_v29_1) = joints m c :=
  (arr1 m ρ c 12).trans (aux1 (rd (W7 m ρ)) c (joints m c) fun t n hn i j =>
    aux1_at (rd (W7 m ρ)) c (insOf m c).heads (kept7 m ρ c main_arg11 (by decide)) (kept7 m ρ c main_arg12 (by decide)) t n hn
      (fun _ _ _ => rfl) (fun _ _ _ => rfl) i j)

theorem joints_held9 : W9 m ρ c (Proc.devRef .tc main_v29_1) = joints m c :=
  (StableHlo.after_of_writes_sub hostOps2 _ hostOps2_writes (by decide)).trans (joints_held m ρ c)

theorem joints_held11 : W11 m ρ c (Proc.devRef .tc main_v29_1) = joints m c :=
  (StableHlo.after_of_writes_sub hostOps3 _ hostOps3_writes (by decide)).trans
    ((stay2 m ρ c main_v29_1 (by decide +kernel)).trans (joints_held9 m ρ c))

theorem feed2 {X : FVec Ideal S1024x512 .f32} (h : W9 m ρ c (Proc.devRef .tc main_v29_0) = X)
    {Y15 Y17 Y18 Y19 : FVec Ideal S8x1x512 .f32}
    (h15 : W9 m ρ c (Proc.devRef .tc main_v30) = Y15) (h17 : W9 m ρ c (Proc.devRef .tc main_v31) = Y17)
    (h18 : W9 m ρ c (Proc.devRef .tc main_v32) = Y18) (h19 : W9 m ρ c (Proc.devRef .tc main_v33) = Y19) :
    Feed X (insOf m c).mask (insOf m c).Wv (insOf m c).Wf1 Y15 (insOf m c).Wf2 Y17 Y18 Y19 (insOf m c).heads (insOf m c).masked (feats1 m c) := by
  have r := rows2 (W8 m ρ c) (kept8 m ρ c main_arg15 (by decide)) (kept8 m ρ c main_arg17 (by decide)) (kept8 m ρ c main_arg18 (by decide))
    (kept8 m ρ c main_arg19 (by decide)) h15 h17 h18 h19
  exact ⟨first_held m ρ c ((StableHlo.after_of_writes_sub hostOps2 _ hostOps2_writes (by decide)).symm.trans h), fun _ _ => rfl, fun _ _ _ => rfl,
    fun _ _ _ => rfl, fun n j => (r n j).1, fun _ _ _ => rfl, fun n j => (r n j).2.1, fun n j => (r n j).2.2.1, fun n j => (r n j).2.2.2⟩

theorem second_held {X : FVec Ideal S1024x512 .f32} (h : W10 m ρ c (Proc.devRef .tc main_v34) = X) (b : Fin 16) (a : Fin 64) (d : Fin 512) :
    X (ix2 (row b a) d) = feats2 m c b a d := by
  have e : X = acc2 (rd (W9 m ρ)) c 7 (by decide) := h.symm.trans ((arr2 m ρ c 10).trans (out2 (rd (W9 m ρ)) c))
  rw [e]
  exact call2_at (rd (W9 m ρ)) c (insOf m c).heads (insOf m c).masked (feats1 m c) rfl (kept9 m ρ c main_arg10 (by decide))
    (joints_held9 m ρ c) (kept9 m ρ c main_arg13 (by decide)) (kept9 m ρ c main_arg14 (by decide))
    rfl (kept9 m ρ c main_arg16 (by decide)) rfl rfl rfl (feed2 m ρ c rfl rfl rfl rfl rfl) (fun _ _ _ => rfl) b a d

theorem feed3 {X : FVec Ideal S1024x512 .f32} (h : W11 m ρ c (Proc.devRef .tc main_v34) = X)
    {Y15 Y17 Y18 Y19 : FVec Ideal S8x1x512 .f32}
    (h15 : W11 m ρ c (Proc.devRef .tc main_v36) = Y15) (h17 : W11 m ρ c (Proc.devRef .tc main_v37) = Y17)
    (h18 : W11 m ρ c (Proc.devRef .tc main_v38) = Y18) (h19 : W11 m ρ c (Proc.devRef .tc main_v39) = Y19) :
    Feed X (insOf m c).mask (insOf m c).Wv (insOf m c).Wf1 Y15 (insOf m c).Wf2 Y17 Y18 Y19 (insOf m c).heads (insOf m c).masked (feats2 m c) := by
  have r := rows3 (W10 m ρ c) (kept10 m ρ c main_arg15 (by decide)) (kept10 m ρ c main_arg17 (by decide)) (kept10 m ρ c main_arg18 (by decide))
    (kept10 m ρ c main_arg19 (by decide)) h15 h17 h18 h19
  exact ⟨second_held m ρ c ((StableHlo.after_of_writes_sub hostOps3 _ hostOps3_writes (by decide)).symm.trans h), fun _ _ => rfl, fun _ _ _ => rfl,
    fun _ _ _ => rfl, fun n j => (r n j).1, fun _ _ _ => rfl, fun n j => (r n j).2.1, fun n j => (r n j).2.2.1, fun n j => (r n j).2.2.2⟩

theorem third_held (b : Fin 16) (a : Fin 64) (d : Fin 512) : acc3 (rd (W11 m ρ)) c 7 (by decide) (ix2 (row b a) d) = feats3 m c b a d :=
  call3_at (rd (W11 m ρ)) c (insOf m c).heads (insOf m c).masked (feats2 m c) rfl (kept11 m ρ c main_arg10 (by decide))
    (joints_held11 m ρ c) (kept11 m ρ c main_arg13 (by decide)) (kept11 m ρ c main_arg14 (by decide))
    rfl (kept11 m ρ c main_arg16 (by decide)) rfl rfl rfl (kept11 m ρ c main_arg20 (by decide)) rfl (feed3 m ρ c rfl rfl rfl rfl rfl) (fun _ _ _ => rfl) b a d

theorem out_held {X : FVec Ideal S1024x1024 .f32} (h : W12 m ρ c (Proc.devRef .tc main_v40_1) = X) (b : Fin 16) (a : Fin 64) (j : Fin 1024) :
    X (ix2 (row b a) j) = (insOf m c).valueK b a j := by
  have e := h.symm.trans ((arr3 m ρ c 13).trans (aux3 (rd (W11 m ρ)) c))
  obtain ⟨r0, r1, r2, r3, r4, r5, r6, r7, r8, r9, r10, r11⟩ := reads3 (rd (W11 m ρ)) c t3_7 7 rfl rfl rfl rfl rfl rfl rfl rfl rfl rfl rfl
    (kept11 m ρ c main_arg20 (by decide)) rfl
  refine (congrFun e (ix2 (row b a) j)).trans ((proj_at _ _ _ (row b a) j).trans ?_)
  have e1 := funext fun d => third_held m ρ c b a d
  have e2 := funext fun i => funext fun k => r10 i k
  have e3 := funext fun i => (r11 0 i).trans (last_bias (W10 m ρ c) (kept10 m ρ c main_arg21 (by decide)) rfl i)
  rw [e1, e2, e3]
  rfl

theorem value_held {Y : FVec Ideal S16x64x1024 .f32} (h : W13 m ρ c (Proc.devRef .tc main_v41) = Y) (b : Fin 16) (a : Fin 64) (j : Fin 1024) :
    Y (ix3 b a j) = (insOf m c).valueK b a j :=
  (last_rows (W12 m ρ c) rfl h b a j).trans (out_held m ρ c rfl b a j)

end Cert.KernelIdeal.Own

end
-- ==== Proof.RefValue.lean ====
/-
  The reference's value, of its arguments.
-/
module

public import proofs.«01_k».proof.Proof.Ins
public import proofs.«01_k».proof.Proof.Gen.ReferenceIdeal.Run

@[expose] public section

noncomputable section

namespace Cert.ReferenceIdeal.Own

open Cert.ReferenceIdeal Cert.ReferenceIdeal.Gen Cert.ReferenceIdeal.Value
open Idealize.ShloMosaic Idealize.ShloMosaic.TcCoe Idealize.ShloMosaic.Pointwise

/-- The arguments held. -/
def insOf (V0 : Valuation τ sig (Elt Ideal)) : Cert.Ins where
  x := V0 (Proc.devRef .tc main_arg0)
  freq := V0 (Proc.devRef .tc main_arg1)
  We1 := V0 (Proc.devRef .tc main_arg2)
  be1 := V0 (Proc.devRef .tc main_arg3)
  We2 := V0 (Proc.devRef .tc main_arg4)
  be2 := V0 (Proc.devRef .tc main_arg5)
  Wc1 := V0 (Proc.devRef .tc main_arg6)
  bc1 := V0 (Proc.devRef .tc main_arg7)
  Wc2 := V0 (Proc.devRef .tc main_arg8)
  bc2 := V0 (Proc.devRef .tc main_arg9)
  mask := V0 (Proc.devRef .tc main_arg10)
  Wq := V0 (Proc.devRef .tc main_arg11)
  Wk := V0 (Proc.devRef .tc main_arg12)
  Wv := V0 (Proc.devRef .tc main_arg13)
  Wf1 := V0 (Proc.devRef .tc main_arg14)
  bf1 := V0 (Proc.devRef .tc main_arg15)
  Wf2 := V0 (Proc.devRef .tc main_arg16)
  bf2 := V0 (Proc.devRef .tc main_arg17)
  g := V0 (Proc.devRef .tc main_arg18)
  be := V0 (Proc.devRef .tc main_arg19)
  Wo := V0 (Proc.devRef .tc main_arg20)
  bo := V0 (Proc.devRef .tc main_arg21)

/-- The result's array. -/
def resultOf {F : FTy → Type} [FloatOps F] (V0 : Valuation τ sig (Elt F)) : FVec F S16x64x1024 .f32 :=
  outH (stepOf V0 (res_main_v206 V0)) (V0 (Proc.devRef .tc main_arg20)) (V0 (Proc.devRef .tc main_arg21))

variable (V0 : Valuation τ sig (Elt Ideal))

theorem features_at (b : Fin 16) (a : Fin 64) (d : Fin 512) : res_main_v53 (F := Ideal) V0 (ix3 b a d) = (insOf V0).start b a d := by
  rw [features, closeH_at]
  simp only [hiddenH_at, codeH_at, entryH_at, angles]
  rfl

/-- One step of the features. -/
theorem step_at (h : FVec Ideal S16x64x512 .f32) {f : Fin 16 → Fin 64 → Fin 512 → EReal} (hf : ∀ b a d, h (ix3 b a d) = f b a d)
    (b : Fin 16) (a : Fin 64) (d : Fin 512) : stepOf (F := Ideal) V0 h (ix3 b a d) = (insOf V0).stepR f b a d :=
  (stepH_at h b a d ..).trans (congrArg (fun f => Spec.stepR (insOf V0).heads (insOf V0).masked f b a d)
    (funext fun b => funext fun a => funext fun d => hf b a d))

theorem result_at (b : Fin 16) (a : Fin 64) (j : Fin 1024) : resultOf (F := Ideal) V0 (ix3 b a j) = (insOf V0).valueR b a j := by
  have h1 := step_at V0 _ (features_at V0)
  rw [← first_step] at h1
  have h2 := step_at V0 _ h1
  rw [← second_step] at h2
  refine (outH_at _ b a _ _ j).trans (congrArg (fun f => Spec.lin _ _ f j) (funext fun d => step_at V0 _ h2 b a d))

end Cert.ReferenceIdeal.Own

end
-- ==== Proof.Finite.lean ====
/-
  The precondition read back: the arguments it names are finite.
-/
module

public import proofs.«01_k».proof.Proof.Ins
public import proofs.«01_k».proof.Proof.Gen.Pre_finite
public import Idealize.ShloMosaic.Lib.ReduceAll
public import Idealize.ShloMosaic.Lib.Pointwise

@[expose] public section

noncomputable section

namespace Cert.Pre_finite.Own

open Cert.Pre_finite Cert.Pre_finite.Gen
open Idealize.ShloMosaic Idealize.ShloMosaic.Pointwise

theorem infinity : Ideal.ofBits .f32 0x7F800000#32 = (⊤ : EReal) := by
  simp [Ideal.ofBits, Ideal.ieee, -EReal.coe_mul]

/-- A number whose absolute value is below infinity is finite. -/
theorem fine_of_abs {x : EReal} (h : max x (-x) < ⊤) : Spec.Fine x := by
  induction x with
  | bot => simp at h
  | top => simp at h
  | coe r => exact Spec.fine_coe r

instance : Subsingleton S_.Idx := ⟨fun a b => funext fun i => i.elim0⟩

/-- An array all of whose absolute values are found below infinity is finite. -/
theorem fine_of_all {s : Shape} (x : FVec Ideal s .f32) {axes : List (Fin s.rank)} (hb : S_.BroadcastsInDim s ![]) (v : IVec S_ 1)
    (hr : s.ReducesTo axes S_) (hu : 0 < S_.numel) (j : S_.Idx)
    (e : Host.reduce IntOp.andi (cmpf .olt (Host.absf x) (broadcastInDim s ![] hb (constant S_ .f32 0x7F800000#32))) v hr hu j = 1#1) (i : s.Idx) :
    Spec.Fine (x i) := by
  have h := Host.reduce_andi_all _ _ _ _ _ e i
  have h' : Ideal.cmp .olt (max (x i) (-(x i))) (Ideal.ofBits .f32 0x7F800000#32) = 1 := h
  rw [infinity, Ideal.cmp_olt_eq_one] at h'
  exact fine_of_abs h'

theorem fine (I : Cert.Ins) (e : Cert.Pre_finite.fn (F := Ideal) I.x I.freq I.We1 I.be1 I.We2 I.be2 I.Wc1 I.bc1 I.Wc2 I.bc2 I.mask I.Wq I.Wk I.Wv
    I.Wf1 I.bf1 I.Wf2 I.bf2 I.g I.be I.Wo I.bo = fun _ => 1#1) : I.Fine := by
  have e := congrFun e (Shape.Idx.first h_S_)
  unfold fn fn_part1 fn_part2 fn_part3 fn_part4 at e
  dsimp only at e
  obtain ⟨e, h13⟩ := IntOp.andi_eq_one.1 e
  obtain ⟨e, h12⟩ := IntOp.andi_eq_one.1 e
  obtain ⟨e, h11⟩ := IntOp.andi_eq_one.1 e
  obtain ⟨e, h10⟩ := IntOp.andi_eq_one.1 e
  obtain ⟨e, h9⟩ := IntOp.andi_eq_one.1 e
  obtain ⟨e, h8⟩ := IntOp.andi_eq_one.1 e
  obtain ⟨e, h7⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact
    { x := fun b a q => by
        have h := fine_of_all _ _ _ _ _ _ h0 (ix3 b a q)
        pointwise at h
        exact h
      freq := fine_of_all _ _ _ _ _ _ h1
      We1 := fine_of_all _ _ _ _ _ _ h2
      be1 := fine_of_all _ _ _ _ _ _ h3
      We2 := fine_of_all _ _ _ _ _ _ h4
      be2 := fine_of_all _ _ _ _ _ _ h5
      Wc1 := fine_of_all _ _ _ _ _ _ h6
      bc1 := fine_of_all _ _ _ _ _ _ h7
      Wc2 := fine_of_all _ _ _ _ _ _ h8
      bc2 := fine_of_all _ _ _ _ _ _ h9
      Wq := fine_of_all _ _ _ _ _ _ h10
      Wk := fine_of_all _ _ _ _ _ _ h11
      g := fine_of_all _ _ _ _ _ _ h12
      be := fine_of_all _ _ _ _ _ _ h13 }

end Cert.Pre_finite.Own

end
-- ==== Proof.lean ====
/-
  The claims: every program's frame, that the kernel at exact numbers has the kernel's operations, and that at exact numbers,
  where the hidden states are finite, the kernel computes the reference's result.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite
public import proofs.«01_k».proof.Proof.K.Launch
public import proofs.«01_k».proof.Proof.KI.Launch
public import proofs.«01_k».proof.Proof.KI.Value
public import proofs.«01_k».proof.Proof.RefValue
public import proofs.«01_k».proof.Proof.Finite

@[expose] public section

noncomputable section

namespace Cert.Proof

open Idealize.ShloMosaic Idealize.SL.Sem

/-- The one constant the kernel names is the value the certificate gives it. -/
theorem preserves : Cert.preserves_Kernel_KernelIdeal :=
  IdealRules.named_const.statement Cert.KernelIdeal.κ "inv_scale" .f32 0x3D3504F3#32 (((Real.sqrt 512)⁻¹ : ℝ) : EReal) rfl

/-- The reference ends with its arguments as they were and its counters at zero. -/
theorem reference_frame : Cert.quiescent_ReferenceIdeal := by
  intro m ρ _
  refine (θ_run Cert.ReferenceIdeal.defs _ _).mono (fun r h => ⟨fun c => (h c).2, ?_⟩) (Cert.ReferenceIdeal.Value.run (F := Ideal) m ρ)
  exact sem_eq_zero_of_no_sems (by decide) r.2

/-- Where the precondition holds, the kernel at exact numbers ends with the reference's result. -/
theorem algebraic : Cert.algebraic_KernelIdeal_ReferenceIdeal_pre_finite := by
  intro m g m' g' hp he
  have hv : ∀ (c : Dev Cert.KernelIdeal.nD) {Y : FVec Ideal Cert.ReferenceIdeal.S16x64x1024 .f32},
      Cert.KernelIdeal.Own.W13 m g c (Proc.devRef .tc Cert.KernelIdeal.main_v41) = Y →
      Y = Cert.ReferenceIdeal.Own.resultOf (F := Ideal) (StableHlo.launchContents m' c) := by
    intro c Y hY
    have hi : Cert.ReferenceIdeal.Own.insOf (StableHlo.launchContents m' c) = Cert.KernelIdeal.Own.insOf m c := by
      obtain ⟨e0, e1, e2, e3, e4, e5, e6, e7, e8, e9, e10, e11, e12, e13, e14, e15, e16, e17, e18, e19, e20, e21⟩ := he c
      exact Cert.Ins.ext e0 e1 e2 e3 e4 e5 e6 e7 e8 e9 e10 e11 e12 e13 e14 e15 e16 e17 e18 e19 e20 e21
    have hf : (Cert.KernelIdeal.Own.insOf m c).Fine := Cert.Pre_finite.Own.fine (Cert.KernelIdeal.Own.insOf m c) (hp c)
    have hx : ∀ (b : Fin 16) (a : Fin 64) (j : Fin 1024),
        Y (ix3 b a j) = Cert.ReferenceIdeal.Own.resultOf (F := Ideal) (StableHlo.launchContents m' c) (ix3 b a j) := fun b a j =>
      (Cert.KernelIdeal.Own.value_held m g c hY b a j).trans ((congrFun (congrFun (congrFun (Cert.Ins.value_eq hf) b) a) j).trans
        ((congrArg (fun I => Cert.Ins.valueR I b a j) hi.symm).trans (Cert.ReferenceIdeal.Own.result_at _ b a j).symm))
    funext i
    rw [eq_ix3 i]
    exact hx _ _ _
  refine ⟨fun c => Cert.ReferenceIdeal.Own.resultOf (F := Ideal) (StableHlo.launchContents m' c), ?_, ?_⟩
  · refine (θ_run Cert.KernelIdeal.defs _ _).mono (fun r h c => ⟨(h.1 c).2.trans (hv c rfl), ?_⟩) (Cert.KernelIdeal.Own.run_ends (F := Ideal) m g)
    have ha := (h.1 c).1
    refine ⟨?_, ?_, ?_, ?_, ?_, ?_, ?_, ?_, ?_, ?_, ?_, ?_, ?_, ?_, ?_, ?_, ?_, ?_, ?_, ?_, ?_, ?_⟩ <;> exact ha _ (by decide)
  · exact (θ_run Cert.ReferenceIdeal.defs _ _).mono (fun r h c => ⟨(h c).1, (h c).2⟩)
      (Cert.ReferenceIdeal.Value.run (F := Ideal) m' g')

theorem claim : Cert.Claim :=
  ⟨Cert.Kernel.Gen.facts, Cert.KernelIdeal.Gen.facts, Cert.ReferenceIdeal.Gen.facts, Cert.Pre_finite.Gen.facts,
    fun m ρ _ => Cert.Kernel.Own.frame m ρ, fun m ρ _ => Cert.KernelIdeal.Own.frame m ρ, fun m ρ _ => Cert.KernelIdeal.Own.frame m ρ,
    reference_frame, fun m ρ _ => reference_frame m ρ trivial, preserves, algebraic⟩

end Cert.Proof

end
